-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_streams [hPre_finite_streams : Cert.Pre_finite_streams.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_streams.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_streams [hPre_finite_streams : Cert.Pre_finite_streams.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_streams.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_streams [hKernel5Ideal : Cert.Kernel5Ideal.Facts] [hPre_finite_streams : Cert.Pre_finite_streams.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_streams m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_streams [hReference5Ideal : Cert.Reference5Ideal.Facts] [hPre_finite_streams : Cert.Pre_finite_streams.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_streams m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "mask" .f32 0xF149F2CA#32 ⊥

def algebraic_Kernel5Ideal_Reference5Ideal_pre_finite_streams [hKernel5Ideal : Cert.Kernel5Ideal.Facts] [hReference5Ideal : Cert.Reference5Ideal.Facts] [hPre_finite_streams : Cert.Pre_finite_streams.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_streams m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_streams : Cert.Pre_finite_streams.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_streams (hKernel5Ideal := hKernel5Ideal) (hPre_finite_streams := hPre_finite_streams)
    ∧ quiescent_Reference5Ideal (hReference5Ideal := hReference5Ideal)
    ∧ quiescent_Reference5Ideal_pre_finite_streams (hReference5Ideal := hReference5Ideal) (hPre_finite_streams := hPre_finite_streams)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_streams (hKernel5Ideal := hKernel5Ideal) (hReference5Ideal := hReference5Ideal) (hPre_finite_streams := hPre_finite_streams)
-- ==== Pre_finite.lean ====
abbrev S8x4096x1024 : Shape := ⟨3, ![8, 4096, 1024]⟩
abbrev S16x513 : Shape := ⟨2, ![16, 513]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S8x4096x1024 .f32) (main_arg1 : FVec F S8x4096x1024 .f32) (main_arg2 : FVec F S8x4096x1024 .f32) (main_arg3 : FVec F S8x4096x1024 .f32) (main_arg4 : FVec F S16x513 .f32) (main_arg5 : FVec F S1024x1024 .f32) : IVec S_ 1 :=
  let main_v0 : FVec F S8x4096x1024 .f32 := Host.absf main_arg1
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg2
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S16x513 .f32 := Host.absf main_arg4
  let main_cst_2 : FVec F S_ .f32 := constant S_ .f32 0x7F800000#32
  let main_v10 : FVec F S16x513 .f32 := broadcastInDim S16x513 ![] bcast_S_S16x513 main_cst_2
  let main_v11 : IVec S16x513 1 := cmpf .olt main_v9 main_v10
  let main_c_3 : IVec S_ 1 := constantI S_ 1 1#1
  let main_v12 : IVec S_ 1 := (fun x v => Host.reduce IntOp.andi x v reducesTo_S16x513_S_d0_1 h_S_) main_v11 main_c_3
  let main_v13 : IVec S_ 1 := andi main_v8 main_v12
  main_v13
-- ==== Pre_finite_streams.lean ====
abbrev S8x4096x1024 : Shape := ⟨3, ![8, 4096, 1024]⟩
abbrev S1024 : Shape := ⟨1, ![1024]⟩
abbrev S1024x1024 : Shape := ⟨2, ![1024, 1024]⟩
abbrev S8x16x4096 : Shape := ⟨3, ![8, 16, 4096]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn_part1 {F : FTy → Type} [FloatOps F] (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  main_v18

def fn {F : FTy → Type} [FloatOps F] (main_arg0 : FVec F S8x4096x1024 .f32) (main_arg1 : FVec F S1024 .f32) (main_arg2 : FVec F S1024x1024 .f32) (main_arg3 : FVec F S8x4096x1024 .f32) (main_arg4 : FVec F S8x4096x1024 .f32) (main_arg5 : FVec F S8x16x4096 .f32) (main_arg6 : FVec F S1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x16x4096 .f32 := Host.absf main_arg5
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_v13 main_v16
-- ==== Kernel.lean ====
abbrev S8x4096x1024 : Shape := ⟨3, ![8, 4096, 1024]⟩
abbrev S16x513 : Shape := ⟨2, ![16, 513]⟩
abbrev S1024x1024 : Shape := ⟨2, ![1024, 1024]⟩
abbrev S_ : Shape := ⟨0, ![]⟩
abbrev S8x4608x1024 : Shape := ⟨3, ![8, 4608, 1024]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x64x640 : Shape := ⟨3, ![16, 64, 640]⟩
abbrev S16x128x640 : Shape := ⟨3, ![16, 128, 640]⟩
abbrev S1x128x1024 : Shape := ⟨3, ![1, 128, 1024]⟩
abbrev S1x4608x1024 : Shape := ⟨3, ![1, 4608, 1024]⟩
abbrev S128x1024 : Shape := ⟨2, ![128, 1024]⟩
abbrev S128x128 : Shape := ⟨2, ![128, 128]⟩
abbrev S256x640 : Shape := ⟨2, ![256, 640]⟩
abbrev S1x128x128 : Shape := ⟨3, ![1, 128, 128]⟩
abbrev S256x128 : Shape := ⟨2, ![256, 128]⟩
abbrev S1x640x128 : Shape := ⟨3, ![1, 640, 128]⟩
abbrev S640x128 : Shape := ⟨2, ![640, 128]⟩
abbrev S2x128x640 : Shape := ⟨3, ![2, 128, 640]⟩
abbrev S256 : Shape := ⟨1, ![256]⟩
abbrev S256x1 : Shape := ⟨2, ![256, 1]⟩

abbrev nBuf : Space → Nat
  | .hbm => 53
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S16x513, .f32⟩
  | .hbm, ⟨5, _⟩ => ⟨S1024x1024, .f32⟩
  | .hbm, ⟨6, _⟩ => ⟨S_, .f32⟩
  | .hbm, ⟨7, _⟩ => ⟨S8x4096x1024, .f32⟩
  | .hbm, ⟨8, _⟩ => ⟨S8x4096x1024, .f32⟩
  | .hbm, ⟨9, _⟩ => ⟨S8x4096x1024, .bf16⟩
  | .hbm, ⟨10, _⟩ => ⟨S_, .bf16⟩
  | .hbm, ⟨11, _⟩ => ⟨S8x4608x1024, .bf16⟩
  | .hbm, ⟨12, _⟩ => ⟨S8x4096x1024, .bf16⟩
  | .hbm, ⟨13, _⟩ => ⟨S_, .bf16⟩
  | .hbm, ⟨14, _⟩ => ⟨S8x4608x1024, .bf16⟩
  | .hbm, ⟨15, _⟩ => ⟨S8x4096x1024, .bf16⟩
  | .hbm, ⟨16, _⟩ => ⟨S_, .bf16⟩
  | .hbm, ⟨17, _⟩ => ⟨S8x4608x1024, .bf16⟩
  | .hbm, ⟨18, _⟩ => ⟨S64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S576, .i32⟩
  | .hbm, ⟨24, _⟩ => ⟨S1x576, .i32⟩
  | .hbm, ⟨25, _⟩ => ⟨S64x576, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i1⟩
  | .hbm, ⟨40, _⟩ => ⟨S_, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S64x576x1, .i32⟩
  | .hbm, ⟨45, _⟩ => ⟨S16x64x576, .f32⟩
  | .hbm, ⟨46, _⟩ => ⟨S_, .f32⟩
  | .hbm, ⟨47, _⟩ => ⟨S16x64x640, .f32⟩
  | .hbm, ⟨48, _⟩ => ⟨S_, .f32⟩
  | .hbm, ⟨49, _⟩ => ⟨S16x64x640, .f32⟩
  | .hbm, ⟨50, _⟩ => ⟨S16x128x640, .f32⟩
  | .hbm, ⟨51, _⟩ => ⟨S1024x1024, .bf16⟩
  | .hbm, ⟨52, _⟩ => ⟨S8x4096x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x4608x1024, .bf16⟩
  | .local _ .vmem, ⟨3, _⟩ => ⟨S1x4608x1024, .bf16⟩
  | .local _ .vmem, ⟨4, _⟩ => ⟨S16x128x640, .f32⟩
  | .local _ .vmem, ⟨5, _⟩ => ⟨S1x128x1024, .f32⟩
  | .local _ .vmem, ⟨6, _⟩ => ⟨S1x128x1024, .f32⟩
  | .local _ .vmem, ⟨7, _⟩ => ⟨S1024x1024, .bf16⟩
  | .local _ .vmem, ⟨8, _⟩ => ⟨S1x128x1024, .f32⟩
  | .local _ .vmem, ⟨9, _⟩ => ⟨S1x128x1024, .f32⟩
  | .local _ .vmem, ⟨10, _⟩ => ⟨S128x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_2 : Index := 0#32
  let arg1 : BitVec 32 := BitVec.ofNat 32 (i 1).val
  let c128_i32 : BitVec 32 := 128#32
  let v0 : BitVec 32 := Scalar.muli arg1 c128_i32
  let v1 : BitVec 32 := v0
  let v15 : Index := Scalar.indexCast v1
  let c0_3 : Index := 0#32
  ![0, v15.toNat, 0]
def k0_off2 (i : grid0.Coords) : Fin 3 → Nat :=
  let c0_19 : Index := 0#32
  let arg1 : BitVec 32 := BitVec.ofNat 32 (i 1).val
  let c128_i32 : BitVec 32 := 128#32
  let v0 : BitVec 32 := Scalar.muli arg1 c128_i32
  let v1 : BitVec 32 := v0
  let v52 : Index := Scalar.indexCast v1
  let c128_20 : Index := 128#32
  ![0, v52.toNat, 128]
def k0_off3 (i : grid0.Coords) : Fin 3 → Nat :=
  let c0_35 : Index := 0#32
  let arg1 : BitVec 32 := BitVec.ofNat 32 (i 1).val
  let c128_i32 : BitVec 32 := 128#32
  let v0 : BitVec 32 := Scalar.muli arg1 c128_i32
  let v1 : BitVec 32 := v0
  let v89 : Index := Scalar.indexCast v1
  let c256_36 : Index := 256#32
  ![0, v89.toNat, 256]
def k0_off4 (i : grid0.Coords) : Fin 3 → Nat :=
  let c0_51 : Index := 0#32
  let arg1 : BitVec 32 := BitVec.ofNat 32 (i 1).val
  let c128_i32 : BitVec 32 := 128#32
  let v0 : BitVec 32 := Scalar.muli arg1 c128_i32
  let v1 : BitVec 32 := v0
  let v126 : Index := Scalar.indexCast v1
  let c384_52 : Index := 384#32
  ![0, v126.toNat, 384]
def k0_off5 (i : grid0.Coords) : Fin 3 → Nat :=
  let c0_67 : Index := 0#32
  let arg1 : BitVec 32 := BitVec.ofNat 32 (i 1).val
  let c128_i32 : BitVec 32 := 128#32
  let v0 : BitVec 32 := Scalar.muli arg1 c128_i32
  let v1 : BitVec 32 := v0
  let v163 : Index := Scalar.indexCast v1
  let c512_68 : Index := 512#32
  ![0, v163.toNat, 512]
def k0_off6 (i : grid0.Coords) : Fin 3 → Nat :=
  let c0_83 : Index := 0#32
  let arg1 : BitVec 32 := BitVec.ofNat 32 (i 1).val
  let c128_i32 : BitVec 32 := 128#32
  let v0 : BitVec 32 := Scalar.muli arg1 c128_i32
  let v1 : BitVec 32 := v0
  let v200 : Index := Scalar.indexCast v1
  let c640_84 : Index := 640#32
  ![0, v200.toNat, 640]
def k0_off7 (i : grid0.Coords) : Fin 3 → Nat :=
  let c0_99 : Index := 0#32
  let arg1 : BitVec 32 := BitVec.ofNat 32 (i 1).val
  let c128_i32 : BitVec 32 := 128#32
  let v0 : BitVec 32 := Scalar.muli arg1 c128_i32
  let v1 : BitVec 32 := v0
  let v237 : Index := Scalar.indexCast v1
  let c768_100 : Index := 768#32
  ![0, v237.toNat, 768]
def k0_off8 (i : grid0.Coords) : Fin 3 → Nat :=
  let c0_115 : Index := 0#32
  let arg1 : BitVec 32 := BitVec.ofNat 32 (i 1).val
  let c128_i32 : BitVec 32 := 128#32
  let v0 : BitVec 32 := Scalar.muli arg1 c128_i32
  let v1 : BitVec 32 := v0
  let v274 : Index := Scalar.indexCast v1
  let c896_116 : Index := 896#32
  ![0, v274.toNat, 896]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S16x513 : Shape := ⟨2, ![16, 513]⟩
abbrev S1024x1024 : Shape := ⟨2, ![1024, 1024]⟩
abbrev S8x64x64x16x64 : Shape := ⟨5, ![8, 64, 64, 16, 64]⟩
abbrev S_ : Shape := ⟨0, ![]⟩
abbrev S8x72x64x16x64 : Shape := ⟨5, ![8, 72, 64, 16, 64]⟩
abbrev S8x64x576x16x64 : Shape := ⟨5, ![8, 64, 576, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S8x16x64x64x576 : Shape := ⟨5, ![8, 16, 64, 64, 576]⟩
abbrev S1x1x64x1x576 : Shape := ⟨5, ![1, 1, 64, 1, 576]⟩
abbrev S16x1x64x576 : Shape := ⟨4, ![16, 1, 64, 576]⟩
abbrev S1x16x1x64x576 : Shape := ⟨5, ![1, 16, 1, 64, 576]⟩
abbrev S8x16x64x64 : Shape := ⟨4, ![8, 16, 64, 64]⟩
abbrev S8x16x64x64x1 : Shape := ⟨5, ![8, 16, 64, 64, 1]⟩
abbrev S8x64x16x64x64 : Shape := ⟨5, ![8, 64, 16, 64, 64]⟩

abbrev nBuf : Space → Nat
  | .hbm => 129
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x4096x1024, .f32⟩
  | 3 => ⟨S8x4096x1024, .f32⟩
  | 4 => ⟨S16x513, .f32⟩
  | 5 => ⟨S1024x1024, .f32⟩
  | 6 => ⟨S8x64x64x16x64, .f32⟩
  | 7 => ⟨S8x64x64x16x64, .f32⟩
  | 8 => ⟨S8x64x64x16x64, .f32⟩
  | 9 => ⟨S_, .i32⟩
  | 10 => ⟨S_, .f32⟩
  | 11 => ⟨S8x72x64x16x64, .f32⟩
  | 12 => ⟨S8x64x64x16x64, .f32⟩
  | 13 => ⟨S8x64x64x16x64, .f32⟩
  | 14 => ⟨S8x64x64x16x64, .f32⟩
  | 15 => ⟨S8x64x64x16x64, .f32⟩
  | 16 => ⟨S8x64x64x16x64, .f32⟩
  | 17 => ⟨S8x64x64x16x64, .f32⟩
  | 18 => ⟨S8x64x64x16x64, .f32⟩
  | 19 => ⟨S8x64x64x16x64, .f32⟩
  | 20 => ⟨S8x64x64x16x64, .f32⟩
  | 21 => ⟨S8x64x576x16x64, .f32⟩
  | 22 => ⟨S_, .i32⟩
  | 23 => ⟨S_, .f32⟩
  | 24 => ⟨S8x72x64x16x64, .f32⟩
  | 25 => ⟨S8x64x64x16x64, .f32⟩
  | 26 => ⟨S8x64x64x16x64, .f32⟩
  | 27 => ⟨S8x64x64x16x64, .f32⟩
  | 28 => ⟨S8x64x64x16x64, .f32⟩
  | 29 => ⟨S8x64x64x16x64, .f32⟩
  | 30 => ⟨S8x64x64x16x64, .f32⟩
  | 31 => ⟨S8x64x64x16x64, .f32⟩
  | 32 => ⟨S8x64x64x16x64, .f32⟩
  | 33 => ⟨S8x64x64x16x64, .f32⟩
  | 34 => ⟨S8x64x576x16x64, .f32⟩
  | 35 => ⟨S64, .i32⟩
  | 36 => ⟨S64x1, .i32⟩
  | 37 => ⟨S576, .i32⟩
  | 38 => ⟨S1x576, .i32⟩
  | 39 => ⟨S_, .i32⟩
  | 40 => ⟨S64x1, .i32⟩
  | 41 => ⟨S64x1, .i32⟩
  | 42 => ⟨S64x576, .i32⟩
  | 43 => ⟨S64x576, .i32⟩
  | 44 => ⟨S64x576, .i32⟩
  | 45 => ⟨S_, .i32⟩
  | 46 => ⟨S_, .i32⟩
  | 47 => ⟨S_, .i32⟩
  | 48 => ⟨S64x576, .i32⟩
  | 49 => ⟨S64x576, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i1⟩
  | 59 => ⟨S_, .i32⟩
  | 60 => ⟨S64x576, .i32⟩
  | 61 => ⟨S64x576, .i32⟩
  | 62 => ⟨S64x576, .i32⟩
  | 63 => ⟨S64x576x1, .i32⟩
  | 64 => ⟨S16x64x576, .f32⟩
  | 65 => ⟨S64, .i32⟩
  | 66 => ⟨S64x1, .i32⟩
  | 67 => ⟨S_, .i32⟩
  | 68 => ⟨S64x1, .i32⟩
  | 69 => ⟨S64x1, .i32⟩
  | 70 => ⟨S576, .i32⟩
  | 71 => ⟨S1x576, .i32⟩
  | 72 => ⟨S_, .i32⟩
  | 73 => ⟨S_, .i32⟩
  | 74 => ⟨S1x576, .i32⟩
  | 75 => ⟨S1x576, .i32⟩
  | 76 => ⟨S1x576, .i32⟩
  | 77 => ⟨S_, .i32⟩
  | 78 => ⟨S1x576, .i32⟩
  | 79 => ⟨S1x576, .i1⟩
  | 80 => ⟨S1x576, .i32⟩
  | 81 => ⟨S1x576, .i32⟩
  | 82 => ⟨S_, .i32⟩
  | 83 => ⟨S1x576, .i32⟩
  | 84 => ⟨S1x576, .i1⟩
  | 85 => ⟨S1x576, .i1⟩
  | 86 => ⟨S_, .i32⟩
  | 87 => ⟨S1x576, .i32⟩
  | 88 => ⟨S1x576, .i32⟩
  | 89 => ⟨S1x576, .i32⟩
  | 90 => ⟨S64x576, .i32⟩
  | 91 => ⟨S64x576, .i32⟩
  | 92 => ⟨S64x576, .i32⟩
  | 93 => ⟨S_, .i32⟩
  | 94 => ⟨S64x576, .i32⟩
  | 95 => ⟨S64x576, .i1⟩
  | 96 => ⟨S8x16x64x64x576, .f32⟩
  | 97 => ⟨S_, .f32⟩
  | 98 => ⟨S8x16x64x64x576, .f32⟩
  | 99 => ⟨S8x16x64x64x576, .f32⟩
  | 100 => ⟨S1x1x64x1x576, .i1⟩
  | 101 => ⟨S16x1x64x576, .f32⟩
  | 102 => ⟨S1x16x1x64x576, .f32⟩
  | 103 => ⟨S8x16x64x64x576, .f32⟩
  | 104 => ⟨S8x16x64x64x576, .f32⟩
  | 105 => ⟨S_, .f32⟩
  | 106 => ⟨S_, .f32⟩
  | 107 => ⟨S8x16x64x64x576, .i1⟩
  | 108 => ⟨S8x16x64x64x576, .f32⟩
  | 109 => ⟨S8x16x64x64x576, .f32⟩
  | 110 => ⟨S_, .f32⟩
  | 111 => ⟨S8x16x64x64, .f32⟩
  | 112 => ⟨S_, .f32⟩
  | 113 => ⟨S8x16x64x64, .f32⟩
  | 114 => ⟨S8x16x64x64, .f32⟩
  | 115 => ⟨S8x16x64x64x1, .f32⟩
  | 116 => ⟨S8x16x64x64x576, .f32⟩
  | 117 => ⟨S8x16x64x64x576, .f32⟩
  | 118 => ⟨S8x16x64x64x576, .f32⟩
  | 119 => ⟨S_, .f32⟩
  | 120 => ⟨S8x16x64x64, .f32⟩
  | 121 => ⟨S8x16x64x64x1, .f32⟩
  | 122 => ⟨S8x16x64x64x576, .f32⟩
  | 123 => ⟨S8x16x64x64x576, .f32⟩
  | 124 => ⟨S8x64x16x64x64, .f32⟩
  | 125 => ⟨S8x64x64x16x64, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_c : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_0 : Ref sig .tc := ⟨.hbm, 86, rfl⟩
abbrev main_call3_v12 : Ref sig .tc := ⟨.hbm, 87, rfl⟩
abbrev main_call3_v13 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_9 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_10 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v64 : Ref sig .tc := ⟨.hbm, 109, rfl⟩
abbrev main_cst_11 : Ref sig .tc := ⟨.hbm, 110, rfl⟩
abbrev main_v65 : Ref sig .tc := ⟨.hbm, 111, rfl⟩
abbrev main_cst_12 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_13 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x3072 : Shape := ⟨2, ![1024, 3072]⟩
abbrev S1x1024 : Shape := ⟨2, ![1, 1024]⟩
abbrev S8x4608x1024 : Shape := ⟨3, ![8, 4608, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S8x4608x1024, .bf16⟩
  | .hbm, ⟨6, _⟩ => ⟨S8x4608x1024, .bf16⟩
  | .hbm, ⟨7, _⟩ => ⟨S8x4608x1024, .bf16⟩
  | .hbm, ⟨8, _⟩ => ⟨S8x4096x1024, .bf16⟩
  | .hbm, ⟨9, _⟩ => ⟨S8x4096x1024, .f32⟩
  | .hbm, ⟨10, _⟩ => ⟨S8x4096x1024, .bf16⟩
  | .hbm, ⟨11, _⟩ => ⟨S8x4096x1024, .f32⟩
  | .hbm, ⟨12, _⟩ => ⟨S8x4096x1024, .bf16⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x1024 : Shape := ⟨3, ![8, 4096, 1024]⟩
abbrev S1024 : Shape := ⟨1, ![1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3072, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x1024 : Shape := ⟨2, ![1024, 1024]⟩
abbrev S8x16x4096 : Shape := ⟨3, ![8, 16, 4096]⟩
abbrev S8x4096x16 : Shape := ⟨3, ![8, 4096, 16]⟩
abbrev S8x4096x48 : Shape := ⟨3, ![8, 4096, 48]⟩
abbrev S_ : Shape := ⟨0, ![]⟩
abbrev S8x4096x128 : Shape := ⟨3, ![8, 4096, 128]⟩
abbrev S1x1024 : Shape := ⟨2, ![1, 1024]⟩
abbrev S8x1024x4096 : Shape := ⟨3, ![8, 1024, 4096]⟩
abbrev S1x512x1024 : Shape := ⟨3, ![1, 512, 1024]⟩
abbrev S1x4096x1024 : Shape := ⟨3, ![1, 4096, 1024]⟩
abbrev S1x1024x4096 : Shape := ⟨3, ![1, 1024, 4096]⟩
abbrev S1x4096x128 : Shape := ⟨3, ![1, 4096, 128]⟩
abbrev S1x16x4096 : Shape := ⟨3, ![1, 16, 4096]⟩
abbrev S1024x512 : Shape := ⟨2, ![1024, 512]⟩
abbrev S256x1024 : Shape := ⟨2, ![256, 1024]⟩
abbrev S128x512 : Shape := ⟨2, ![128, 512]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S64x512 : Shape := ⟨2, ![64, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S512x256 : Shape := ⟨2, ![512, 256]⟩
abbrev S1x64x512 : Shape := ⟨3, ![1, 64, 512]⟩
abbrev S512x512 : Shape := ⟨2, ![512, 512]⟩

abbrev nBuf : Space → Nat
  | .hbm => 28
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1024, .f32⟩
  | .hbm, ⟨3, _⟩ => ⟨S8x4096x1024, .f32⟩
  | .hbm, ⟨4, _⟩ => ⟨S8x4096x1024, .f32⟩
  | .hbm, ⟨5, _⟩ => ⟨S8x16x4096, .f32⟩
  | .hbm, ⟨6, _⟩ => ⟨S1024x1024, .f32⟩
  | .hbm, ⟨7, _⟩ => ⟨S8x4096x16, .f32⟩
  | .hbm, ⟨8, _⟩ => ⟨S8x4096x16, .f32⟩
  | .hbm, ⟨9, _⟩ => ⟨S8x4096x16, .bf16⟩
  | .hbm, ⟨10, _⟩ => ⟨S8x4096x16, .f32⟩
  | .hbm, ⟨11, _⟩ => ⟨S8x4096x16, .f32⟩
  | .hbm, ⟨12, _⟩ => ⟨S8x4096x16, .bf16⟩
  | .hbm, ⟨13, _⟩ => ⟨S8x4096x16, .f32⟩
  | .hbm, ⟨14, _⟩ => ⟨S8x4096x16, .f32⟩
  | .hbm, ⟨15, _⟩ => ⟨S8x4096x16, .bf16⟩
  | .hbm, ⟨16, _⟩ => ⟨S8x4096x16, .f32⟩
  | .hbm, ⟨17, _⟩ => ⟨S8x4096x16, .f32⟩
  | .hbm, ⟨18, _⟩ => ⟨S8x4096x48, .bf16⟩
  | .hbm, ⟨19, _⟩ => ⟨S_, .bf16⟩
  | .hbm, ⟨20, _⟩ => ⟨S8x4096x128, .bf16⟩
  | .hbm, ⟨21, _⟩ => ⟨S1x1024, .f32⟩
  | .hbm, ⟨22, _⟩ => ⟨S1024x1024, .bf16⟩
  | .hbm, ⟨23, _⟩ => ⟨S8x4096x1024, .bf16⟩
  | .hbm, ⟨24, _⟩ => ⟨S8x1024x4096, .f32⟩
  | .hbm, ⟨25, _⟩ => ⟨S8x1024x4096, .bf16⟩
  | .hbm, ⟨26, _⟩ => ⟨S1024x1024, .bf16⟩
  | .hbm, ⟨27, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1x4096x1024, .bf16⟩
  | .local _ .vmem, ⟨5, _⟩ => ⟨S1x1024x4096, .bf16⟩
  | .local _ .vmem, ⟨6, _⟩ => ⟨S1x4096x128, .bf16⟩
  | .local _ .vmem, ⟨7, _⟩ => ⟨S1x16x4096, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1024x512, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S128x512, .f32⟩
  | .local _ .vmem, ⟨17, _⟩ => ⟨S1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_27 : Index := 0#32
  let c0_28 : Index := 0#32
  let arg1 : BitVec 32 := BitVec.ofNat 32 (i 1).val
  let c512_i32 : BitVec 32 := 512#32
  let v0 : BitVec 32 := Scalar.muli arg1 c512_i32
  let v1 : BitVec 32 := v0
  let v64 : Index := Scalar.indexCast v1
  ![0, 0, v64.toNat]
def k0_off2 (i : grid0.Coords) : Fin 3 → Nat :=
  let c0_31 : Index := 0#32
  let c1 : Index := 1#32
  let arg1 : BitVec 32 := BitVec.ofNat 32 (i 1).val
  let c512_i32 : BitVec 32 := 512#32
  let v0 : BitVec 32 := Scalar.muli arg1 c512_i32
  let v1 : BitVec 32 := v0
  let v70 : Index := Scalar.indexCast v1
  ![0, 1, v70.toNat]
@[reducible] def k0_t1_loop (i : grid0.Coords) : Scf.Loop 32 :=
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_46 : BitVec 32 := 1#32
  ⟨c0_i32_44, v92, c1_i32_46⟩
def k0_mult2 (i : grid0.Coords) (k0_t1 : Fin (k0_t1_loop i).trips) : BitVec 32 :=
  let c0_i32_44 : BitVec 32 := 0#32
  let c1_i32_46 : BitVec 32 := 1#32
  let arg18 : BitVec 32 := Scf.iv c0_i32_44 c1_i32_46 k0_t1
  let c512_i32_694 : BitVec 32 := 512#32
  let v1218 : BitVec 32 := Scalar.muli arg18 c512_i32_694
  v1218
def k0_off3 (i : grid0.Coords) (k0_t1 : Fin (k0_t1_loop i).trips) : Fin 3 → Nat :=
  let c0_695 : Index := 0#32
  let c0_i32_44 : BitVec 32 := 0#32
  let c1_i32_46 : BitVec 32 := 1#32
  let arg18 : BitVec 32 := Scf.iv c0_i32_44 c1_i32_46 k0_t1
  let c512_i32_694 : BitVec 32 := 512#32
  let v1218 : BitVec 32 := Scalar.muli arg18 c512_i32_694
  let v1219 : BitVec 32 := v1218
  let v1220 : Index := Scalar.indexCast v1219
  let c0_696 : Index := 0#32
  ![0, v1220.toNat, 0]
def k0_off4 (i : grid0.Coords) (k0_t1 : Fin (k0_t1_loop i).trips) : Fin 3 → Nat :=
  let c0_697 : Index := 0#32
  let c0_i32_44 : BitVec 32 := 0#32
  let c1_i32_46 : BitVec 32 := 1#32
  let arg18 : BitVec 32 := Scf.iv c0_i32_44 c1_i32_46 k0_t1
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off5 (i : grid0.Coords) (k0_t1 : Fin (k0_t1_loop i).trips) : Fin 3 → Nat :=
  let c0_714 : Index := 0#32
  let c0_715 : Index := 0#32
  let c0_i32_44 : BitVec 32 := 0#32
  let c1_i32_46 : BitVec 32 := 1#32
  let arg18 : BitVec 32 := Scf.iv c0_i32_44 c1_i32_46 k0_t1
  let c512_i32_694 : BitVec 32 := 512#32
  let v1218 : BitVec 32 := Scalar.muli arg18 c512_i32_694
  let v1219 : BitVec 32 := v1218
  let v1253 : Index := Scalar.indexCast v1219
  ![0, 0, v1253.toNat]
def k0_off6 (i : grid0.Coords) (k0_t1 : Fin (k0_t1_loop i).trips) : Fin 3 → Nat :=
  let c0_721 : Index := 0#32
  let c64_722 : Index := 64#32
  let c0_i32_44 : BitVec 32 := 0#32
  let c1_i32_46 : BitVec 32 := 1#32
  let arg18 : BitVec 32 := Scf.iv c0_i32_44 c1_i32_46 k0_t1
  let c512_i32_694 : BitVec 32 := 512#32
  let v1218 : BitVec 32 := Scalar.muli arg18 c512_i32_694
  let v1219 : BitVec 32 := v1218
  let v1266 : Index := Scalar.indexCast v1219
  ![0, 64, v1266.toNat]
@[reducible] def k0_t2_loop (i : grid0.Coords) : Scf.Loop 32 :=
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let v89 : BitVec 32 := Scalar.addi c0_i32_44 v88
  let c1_i32_47 : BitVec 32 := 1#32
  ⟨v92, v89, c1_i32_47⟩
def k0_mult3 (i : grid0.Coords) (k0_t2 : Fin (k0_t2_loop i).trips) : BitVec 32 :=
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_47 : BitVec 32 := 1#32
  let arg18 : BitVec 32 := Scf.iv v92 c1_i32_47 k0_t2
  let c512_i32_694 : BitVec 32 := 512#32
  let v1218 : BitVec 32 := Scalar.muli arg18 c512_i32_694
  v1218
def k0_off7 (i : grid0.Coords) (k0_t2 : Fin (k0_t2_loop i).trips) : Fin 3 → Nat :=
  let c0_695 : Index := 0#32
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_47 : BitVec 32 := 1#32
  let arg18 : BitVec 32 := Scf.iv v92 c1_i32_47 k0_t2
  let c512_i32_694 : BitVec 32 := 512#32
  let v1218 : BitVec 32 := Scalar.muli arg18 c512_i32_694
  let v1219 : BitVec 32 := v1218
  let v1220 : Index := Scalar.indexCast v1219
  let c0_696 : Index := 0#32
  ![0, v1220.toNat, 0]
def k0_off8 (i : grid0.Coords) (k0_t2 : Fin (k0_t2_loop i).trips) : Fin 3 → Nat :=
  let c0_697 : Index := 0#32
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_47 : BitVec 32 := 1#32
  let arg18 : BitVec 32 := Scf.iv v92 c1_i32_47 k0_t2
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off9 (i : grid0.Coords) (k0_t2 : Fin (k0_t2_loop i).trips) : Fin 3 → Nat :=
  let c0_714 : Index := 0#32
  let c0_715 : Index := 0#32
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_47 : BitVec 32 := 1#32
  let arg18 : BitVec 32 := Scf.iv v92 c1_i32_47 k0_t2
  let c512_i32_694 : BitVec 32 := 512#32
  let v1218 : BitVec 32 := Scalar.muli arg18 c512_i32_694
  let v1219 : BitVec 32 := v1218
  let v1253 : Index := Scalar.indexCast v1219
  ![0, 0, v1253.toNat]
def k0_off10 (i : grid0.Coords) (k0_t2 : Fin (k0_t2_loop i).trips) : Fin 3 → Nat :=
  let c0_721 : Index := 0#32
  let c64_722 : Index := 64#32
  let c0_i32_44 : BitVec 32 := 0#32
  let arg1 : BitVec 32 := BitVec.ofNat 32 (i 1).val
  let v88 : BitVec 32 := Scalar.subi arg1 c0_i32_44
  let c1_i32_45 : BitVec 32 := 1#32
  let v90 : BitVec 32 := Scalar.divsi v88 c1_i32_45
  let v91 : BitVec 32 := Scalar.muli v90 c1_i32_45
  let v92 : BitVec 32 := Scalar.addi c0_i32_44 v91
  let c1_i32_47 : BitVec 32 := 1#32
  let arg18 : BitVec 32 := Scf.iv v92 c1_i32_47 k0_t2
  let c512_i32_694 : BitVec 32 := 512#32
  let v1218 : BitVec 32 := Scalar.muli arg18 c512_i32_694
  let v1219 : BitVec 32 := v1218
  let v1266 : Index := Scalar.indexCast v1219
  ![0, 64, v1266.toNat]
def k0_mult4 (i : grid0.Coords) : BitVec 32 :=
  let arg1 : BitVec 32 := BitVec.ofNat 32 (i 1).val
  let c512_i32_48 : BitVec 32 := 512#32
  let v93 : BitVec 32 := Scalar.muli arg1 c512_i32_48
  v93
def k0_off11 (i : grid0.Coords) : Fin 3 → Nat :=
  let c0_49 : Index := 0#32
  let arg1 : BitVec 32 := BitVec.ofNat 32 (i 1).val
  let c512_i32_48 : BitVec 32 := 512#32
  let v93 : BitVec 32 := Scalar.muli arg1 c512_i32_48
  let v94 : BitVec 32 := v93
  let v95 : Index := Scalar.indexCast v94
  let c0_50 : Index := 0#32
  ![0, v95.toNat, 0]
def k0_off12 (i : grid0.Coords) : Fin 3 → Nat :=
  let c0_51 : Index := 0#32
  let arg1 : BitVec 32 := BitVec.ofNat 32 (i 1).val
  let c512_i32_48 : BitVec 32 := 512#32
  let v93 : BitVec 32 := Scalar.muli arg1 c512_i32_48
  let v94 : BitVec 32 := v93
  let v98 : Index := Scalar.indexCast v94
  let c0_52 : Index := 0#32
  ![0, v98.toNat, 0]
def k0_off13 (i : grid0.Coords) : Fin 3 → Nat :=
  let c0_71 : Index := 0#32
  let c0_72 : Index := 0#32
  let arg1 : BitVec 32 := BitVec.ofNat 32 (i 1).val
  let c512_i32_48 : BitVec 32 := 512#32
  let v93 : BitVec 32 := Scalar.muli arg1 c512_i32_48
  let v94 : BitVec 32 := v93
  let v138 : Index := Scalar.indexCast v94
  ![0, 0, v138.toNat]
def k0_off14 (i : grid0.Coords) : Fin 3 → Nat :=
  let c0_78 : Index := 0#32
  let c64_79 : Index := 64#32
  let arg1 : BitVec 32 := BitVec.ofNat 32 (i 1).val
  let c512_i32_48 : BitVec 32 := 512#32
  let v93 : BitVec 32 := Scalar.muli arg1 c512_i32_48
  let v94 : BitVec 32 := v93
  let v151 : Index := Scalar.indexCast v94
  ![0, 64, v151.toNat]
def k0_off15 (i : grid0.Coords) : Fin 3 → Nat :=
  let c0_113 : Index := 0#32
  let c2 : Index := 2#32
  let arg1 : BitVec 32 := BitVec.ofNat 32 (i 1).val
  let c512_i32 : BitVec 32 := 512#32
  let v0 : BitVec 32 := Scalar.muli arg1 c512_i32
  let v1 : BitVec 32 := v0
  let v211 : Index := Scalar.indexCast v1
  ![0, 2, v211.toNat]
def k0_off16 (i : grid0.Coords) : Fin 3 → Nat :=
  let c0_116 : Index := 0#32
  let c3 : Index := 3#32
  let arg1 : BitVec 32 := BitVec.ofNat 32 (i 1).val
  let c512_i32 : BitVec 32 := 512#32
  let v0 : BitVec 32 := Scalar.muli arg1 c512_i32
  let v1 : BitVec 32 := v0
  let v217 : Index := Scalar.indexCast v1
  ![0, 3, v217.toNat]
@[reducible] def k0_t3_loop (i : grid0.Coords) : Scf.Loop 32 :=
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_131 : BitVec 32 := 1#32
  ⟨c0_i32_129, v239, c1_i32_131⟩
def k0_mult5 (i : grid0.Coords) (k0_t3 : Fin (k0_t3_loop i).trips) : BitVec 32 :=
  let c0_i32_129 : BitVec 32 := 0#32
  let c1_i32_131 : BitVec 32 := 1#32
  let arg18 : BitVec 32 := Scf.iv c0_i32_129 c1_i32_131 k0_t3
  let c512_i32_694 : BitVec 32 := 512#32
  let v1218 : BitVec 32 := Scalar.muli arg18 c512_i32_694
  v1218
def k0_off17 (i : grid0.Coords) (k0_t3 : Fin (k0_t3_loop i).trips) : Fin 3 → Nat :=
  let c0_695 : Index := 0#32
  let c0_i32_129 : BitVec 32 := 0#32
  let c1_i32_131 : BitVec 32 := 1#32
  let arg18 : BitVec 32 := Scf.iv c0_i32_129 c1_i32_131 k0_t3
  let c512_i32_694 : BitVec 32 := 512#32
  let v1218 : BitVec 32 := Scalar.muli arg18 c512_i32_694
  let v1219 : BitVec 32 := v1218
  let v1220 : Index := Scalar.indexCast v1219
  let c128_696 : Index := 128#32
  ![0, v1220.toNat, 128]
def k0_off18 (i : grid0.Coords) (k0_t3 : Fin (k0_t3_loop i).trips) : Fin 3 → Nat :=
  let c0_697 : Index := 0#32
  let c0_i32_129 : BitVec 32 := 0#32
  let c1_i32_131 : BitVec 32 := 1#32
  let arg18 : BitVec 32 := Scf.iv c0_i32_129 c1_i32_131 k0_t3
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off19 (i : grid0.Coords) (k0_t3 : Fin (k0_t3_loop i).trips) : Fin 3 → Nat :=
  let c0_714 : Index := 0#32
  let c128_715 : Index := 128#32
  let c0_i32_129 : BitVec 32 := 0#32
  let c1_i32_131 : BitVec 32 := 1#32
  let arg18 : BitVec 32 := Scf.iv c0_i32_129 c1_i32_131 k0_t3
  let c512_i32_694 : BitVec 32 := 512#32
  let v1218 : BitVec 32 := Scalar.muli arg18 c512_i32_694
  let v1219 : BitVec 32 := v1218
  let v1253 : Index := Scalar.indexCast v1219
  ![0, 128, v1253.toNat]
def k0_off20 (i : grid0.Coords) (k0_t3 : Fin (k0_t3_loop i).trips) : Fin 3 → Nat :=
  let c0_721 : Index := 0#32
  let c192_722 : Index := 192#32
  let c0_i32_129 : BitVec 32 := 0#32
  let c1_i32_131 : BitVec 32 := 1#32
  let arg18 : BitVec 32 := Scf.iv c0_i32_129 c1_i32_131 k0_t3
  let c512_i32_694 : BitVec 32 := 512#32
  let v1218 : BitVec 32 := Scalar.muli arg18 c512_i32_694
  let v1219 : BitVec 32 := v1218
  let v1266 : Index := Scalar.indexCast v1219
  ![0, 192, v1266.toNat]
@[reducible] def k0_t4_loop (i : grid0.Coords) : Scf.Loop 32 :=
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let v236 : BitVec 32 := Scalar.addi c0_i32_129 v235
  let c1_i32_132 : BitVec 32 := 1#32
  ⟨v239, v236, c1_i32_132⟩
def k0_mult6 (i : grid0.Coords) (k0_t4 : Fin (k0_t4_loop i).trips) : BitVec 32 :=
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_132 : BitVec 32 := 1#32
  let arg18 : BitVec 32 := Scf.iv v239 c1_i32_132 k0_t4
  let c512_i32_694 : BitVec 32 := 512#32
  let v1218 : BitVec 32 := Scalar.muli arg18 c512_i32_694
  v1218
def k0_off21 (i : grid0.Coords) (k0_t4 : Fin (k0_t4_loop i).trips) : Fin 3 → Nat :=
  let c0_695 : Index := 0#32
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_132 : BitVec 32 := 1#32
  let arg18 : BitVec 32 := Scf.iv v239 c1_i32_132 k0_t4
  let c512_i32_694 : BitVec 32 := 512#32
  let v1218 : BitVec 32 := Scalar.muli arg18 c512_i32_694
  let v1219 : BitVec 32 := v1218
  let v1220 : Index := Scalar.indexCast v1219
  let c128_696 : Index := 128#32
  ![0, v1220.toNat, 128]
def k0_off22 (i : grid0.Coords) (k0_t4 : Fin (k0_t4_loop i).trips) : Fin 3 → Nat :=
  let c0_697 : Index := 0#32
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_132 : BitVec 32 := 1#32
  let arg18 : BitVec 32 := Scf.iv v239 c1_i32_132 k0_t4
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off23 (i : grid0.Coords) (k0_t4 : Fin (k0_t4_loop i).trips) : Fin 3 → Nat :=
  let c0_714 : Index := 0#32
  let c128_715 : Index := 128#32
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_132 : BitVec 32 := 1#32
  let arg18 : BitVec 32 := Scf.iv v239 c1_i32_132 k0_t4
  let c512_i32_694 : BitVec 32 := 512#32
  let v1218 : BitVec 32 := Scalar.muli arg18 c512_i32_694
  let v1219 : BitVec 32 := v1218
  let v1253 : Index := Scalar.indexCast v1219
  ![0, 128, v1253.toNat]
def k0_off24 (i : grid0.Coords) (k0_t4 : Fin (k0_t4_loop i).trips) : Fin 3 → Nat :=
  let c0_721 : Index := 0#32
  let c192_722 : Index := 192#32
  let c0_i32_129 : BitVec 32 := 0#32
  let arg1 : BitVec 32 := BitVec.ofNat 32 (i 1).val
  let v235 : BitVec 32 := Scalar.subi arg1 c0_i32_129
  let c1_i32_130 : BitVec 32 := 1#32
  let v237 : BitVec 32 := Scalar.divsi v235 c1_i32_130
  let v238 : BitVec 32 := Scalar.muli v237 c1_i32_130
  let v239 : BitVec 32 := Scalar.addi c0_i32_129 v238
  let c1_i32_132 : BitVec 32 := 1#32
  let arg18 : BitVec 32 := Scf.iv v239 c1_i32_132 k0_t4
  let c512_i32_694 : BitVec 32 := 512#32
  let v1218 : BitVec 32 := Scalar.muli arg18 c512_i32_694
  let v1219 : BitVec 32 := v1218
  let v1266 : Index := Scalar.indexCast v1219
  ![0, 192, v1266.toNat]
def k0_mult7 (i : grid0.Coords) : BitVec 32 :=
  let arg1 : BitVec 32 := BitVec.ofNat 32 (i 1).val
  let c512_i32_133 : BitVec 32 := 512#32
  let v240 : BitVec 32 := Scalar.muli arg1 c512_i32_133
  v240
def k0_off25 (i : grid0.Coords) : Fin 3 → Nat :=
  let c0_134 : Index := 0#32
  let arg1 : BitVec 32 := BitVec.ofNat 32 (i 1).val
  let c512_i32_133 : BitVec 32 := 512#32
  let v240 : BitVec 32 := Scalar.muli arg1 c512_i32_133
  let v241 : BitVec 32 := v240
  let v242 : Index := Scalar.indexCast v241
  let c128_135 : Index := 128#32
  ![0, v242.toNat, 128]
def k0_off26 (i : grid0.Coords) : Fin 3 → Nat :=
  let c0_156 : Index := 0#32
  let c128_157 : Index := 128#32
  let arg1 : BitVec 32 := BitVec.ofNat 32 (i 1).val
  let c512_i32_133 : BitVec 32 := 512#32
  let v240 : BitVec 32 := Scalar.muli arg1 c512_i32_133
  let v241 : BitVec 32 := v240
  let v285 : Index := Scalar.indexCast v241
  ![0, 128, v285.toNat]
def k0_off27 (i : grid0.Coords) : Fin 3 → Nat :=
  let c0_163 : Index := 0#32
  let c192_164 : Index := 192#32
  let arg1 : BitVec 32 := BitVec.ofNat 32 (i 1).val
  let c512_i32_133 : BitVec 32 := 512#32
  let v240 : BitVec 32 := Scalar.muli arg1 c512_i32_133
  let v241 : BitVec 32 := v240
  let v298 : Index := Scalar.indexCast v241
  ![0, 192, v298.toNat]
def k0_off28 (i : grid0.Coords) : Fin 3 → Nat :=
  let c0_197 : Index := 0#32
  let c4 : Index := 4#32
  let arg1 : BitVec 32 := BitVec.ofNat 32 (i 1).val
  let c512_i32 : BitVec 32 := 512#32
  let v0 : BitVec 32 := Scalar.muli arg1 c512_i32
  let v1 : BitVec 32 := v0
  let v358 : Index := Scalar.indexCast v1
  ![0, 4, v358.toNat]
def k0_off29 (i : grid0.Coords) : Fin 3 → Nat :=
  let c0_200 : Index := 0#32
  let c5 : Index := 5#32
  let arg1 : BitVec 32 := BitVec.ofNat 32 (i 1).val
  let c512_i32 : BitVec 32 := 512#32
  let v0 : BitVec 32 := Scalar.muli arg1 c512_i32
  let v1 : BitVec 32 := v0
  let v364 : Index := Scalar.indexCast v1
  ![0, 5, v364.toNat]
@[reducible] def k0_t5_loop (i : grid0.Coords) : Scf.Loop 32 :=
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_215 : BitVec 32 := 1#32
  ⟨c0_i32_213, v386, c1_i32_215⟩
def k0_mult8 (i : grid0.Coords) (k0_t5 : Fin (k0_t5_loop i).trips) : BitVec 32 :=
  let c0_i32_213 : BitVec 32 := 0#32
  let c1_i32_215 : BitVec 32 := 1#32
  let arg18 : BitVec 32 := Scf.iv c0_i32_213 c1_i32_215 k0_t5
  let c512_i32_694 : BitVec 32 := 512#32
  let v1218 : BitVec 32 := Scalar.muli arg18 c512_i32_694
  v1218
def k0_off30 (i : grid0.Coords) (k0_t5 : Fin (k0_t5_loop i).trips) : Fin 3 → Nat :=
  let c0_695 : Index := 0#32
  let c0_i32_213 : BitVec 32 := 0#32
  let c1_i32_215 : BitVec 32 := 1#32
  let arg18 : BitVec 32 := Scf.iv c0_i32_213 c1_i32_215 k0_t5
  let c512_i32_694 : BitVec 32 := 512#32
  let v1218 : BitVec 32 := Scalar.muli arg18 c512_i32_694
  let v1219 : BitVec 32 := v1218
  let v1220 : Index := Scalar.indexCast v1219
  let c256_696 : Index := 256#32
  ![0, v1220.toNat, 256]
def k0_off31 (i : grid0.Coords) (k0_t5 : Fin (k0_t5_loop i).trips) : Fin 3 → Nat :=
  let c0_697 : Index := 0#32
  let c0_i32_213 : BitVec 32 := 0#32
  let c1_i32_215 : BitVec 32 := 1#32
  let arg18 : BitVec 32 := Scf.iv c0_i32_213 c1_i32_215 k0_t5
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off32 (i : grid0.Coords) (k0_t5 : Fin (k0_t5_loop i).trips) : Fin 3 → Nat :=
  let c0_714 : Index := 0#32
  let c256_715 : Index := 256#32
  let c0_i32_213 : BitVec 32 := 0#32
  let c1_i32_215 : BitVec 32 := 1#32
  let arg18 : BitVec 32 := Scf.iv c0_i32_213 c1_i32_215 k0_t5
  let c512_i32_694 : BitVec 32 := 512#32
  let v1218 : BitVec 32 := Scalar.muli arg18 c512_i32_694
  let v1219 : BitVec 32 := v1218
  let v1253 : Index := Scalar.indexCast v1219
  ![0, 256, v1253.toNat]
def k0_off33 (i : grid0.Coords) (k0_t5 : Fin (k0_t5_loop i).trips) : Fin 3 → Nat :=
  let c0_721 : Index := 0#32
  let c320_722 : Index := 320#32
  let c0_i32_213 : BitVec 32 := 0#32
  let c1_i32_215 : BitVec 32 := 1#32
  let arg18 : BitVec 32 := Scf.iv c0_i32_213 c1_i32_215 k0_t5
  let c512_i32_694 : BitVec 32 := 512#32
  let v1218 : BitVec 32 := Scalar.muli arg18 c512_i32_694
  let v1219 : BitVec 32 := v1218
  let v1266 : Index := Scalar.indexCast v1219
  ![0, 320, v1266.toNat]
@[reducible] def k0_t6_loop (i : grid0.Coords) : Scf.Loop 32 :=
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let v383 : BitVec 32 := Scalar.addi c0_i32_213 v382
  let c1_i32_216 : BitVec 32 := 1#32
  ⟨v386, v383, c1_i32_216⟩
def k0_mult9 (i : grid0.Coords) (k0_t6 : Fin (k0_t6_loop i).trips) : BitVec 32 :=
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_216 : BitVec 32 := 1#32
  let arg18 : BitVec 32 := Scf.iv v386 c1_i32_216 k0_t6
  let c512_i32_694 : BitVec 32 := 512#32
  let v1218 : BitVec 32 := Scalar.muli arg18 c512_i32_694
  v1218
def k0_off34 (i : grid0.Coords) (k0_t6 : Fin (k0_t6_loop i).trips) : Fin 3 → Nat :=
  let c0_695 : Index := 0#32
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_216 : BitVec 32 := 1#32
  let arg18 : BitVec 32 := Scf.iv v386 c1_i32_216 k0_t6
  let c512_i32_694 : BitVec 32 := 512#32
  let v1218 : BitVec 32 := Scalar.muli arg18 c512_i32_694
  let v1219 : BitVec 32 := v1218
  let v1220 : Index := Scalar.indexCast v1219
  let c256_696 : Index := 256#32
  ![0, v1220.toNat, 256]
def k0_off35 (i : grid0.Coords) (k0_t6 : Fin (k0_t6_loop i).trips) : Fin 3 → Nat :=
  let c0_697 : Index := 0#32
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_216 : BitVec 32 := 1#32
  let arg18 : BitVec 32 := Scf.iv v386 c1_i32_216 k0_t6
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off36 (i : grid0.Coords) (k0_t6 : Fin (k0_t6_loop i).trips) : Fin 3 → Nat :=
  let c0_714 : Index := 0#32
  let c256_715 : Index := 256#32
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_216 : BitVec 32 := 1#32
  let arg18 : BitVec 32 := Scf.iv v386 c1_i32_216 k0_t6
  let c512_i32_694 : BitVec 32 := 512#32
  let v1218 : BitVec 32 := Scalar.muli arg18 c512_i32_694
  let v1219 : BitVec 32 := v1218
  let v1253 : Index := Scalar.indexCast v1219
  ![0, 256, v1253.toNat]
def k0_off37 (i : grid0.Coords) (k0_t6 : Fin (k0_t6_loop i).trips) : Fin 3 → Nat :=
  let c0_721 : Index := 0#32
  let c320_722 : Index := 320#32
  let c0_i32_213 : BitVec 32 := 0#32
  let arg1 : BitVec 32 := BitVec.ofNat 32 (i 1).val
  let v382 : BitVec 32 := Scalar.subi arg1 c0_i32_213
  let c1_i32_214 : BitVec 32 := 1#32
  let v384 : BitVec 32 := Scalar.divsi v382 c1_i32_214
  let v385 : BitVec 32 := Scalar.muli v384 c1_i32_214
  let v386 : BitVec 32 := Scalar.addi c0_i32_213 v385
  let c1_i32_216 : BitVec 32 := 1#32
  let arg18 : BitVec 32 := Scf.iv v386 c1_i32_216 k0_t6
  let c512_i32_694 : BitVec 32 := 512#32
  let v1218 : BitVec 32 := Scalar.muli arg18 c512_i32_694
  let v1219 : BitVec 32 := v1218
  let v1266 : Index := Scalar.indexCast v1219
  ![0, 320, v1266.toNat]
def k0_mult10 (i : grid0.Coords) : BitVec 32 :=
  let arg1 : BitVec 32 := BitVec.ofNat 32 (i 1).val
  let c512_i32_217 : BitVec 32 := 512#32
  let v387 : BitVec 32 := Scalar.muli arg1 c512_i32_217
  v387
def k0_off38 (i : grid0.Coords) : Fin 3 → Nat :=
  let c0_218 : Index := 0#32
  let arg1 : BitVec 32 := BitVec.ofNat 32 (i 1).val
  let c512_i32_217 : BitVec 32 := 512#32
  let v387 : BitVec 32 := Scalar.muli arg1 c512_i32_217
  let v388 : BitVec 32 := v387
  let v389 : Index := Scalar.indexCast v388
  let c256_219 : Index := 256#32
  ![0, v389.toNat, 256]
def k0_off39 (i : grid0.Coords) : Fin 3 → Nat :=
  let c0_240 : Index := 0#32
  let c256_241 : Index := 256#32
  let arg1 : BitVec 32 := BitVec.ofNat 32 (i 1).val
  let c512_i32_217 : BitVec 32 := 512#32
  let v387 : BitVec 32 := Scalar.muli arg1 c512_i32_217
  let v388 : BitVec 32 := v387
  let v432 : Index := Scalar.indexCast v388
  ![0, 256, v432.toNat]
def k0_off40 (i : grid0.Coords) : Fin 3 → Nat :=
  let c0_247 : Index := 0#32
  let c320_248 : Index := 320#32
  let arg1 : BitVec 32 := BitVec.ofNat 32 (i 1).val
  let c512_i32_217 : BitVec 32 := 512#32
  let v387 : BitVec 32 := Scalar.muli arg1 c512_i32_217
  let v388 : BitVec 32 := v387
  let v445 : Index := Scalar.indexCast v388
  ![0, 320, v445.toNat]
def k0_off41 (i : grid0.Coords) : Fin 3 → Nat :=
  let c0_281 : Index := 0#32
  let c6 : Index := 6#32
  let arg1 : BitVec 32 := BitVec.ofNat 32 (i 1).val
  let c512_i32 : BitVec 32 := 512#32
  let v0 : BitVec 32 := Scalar.muli arg1 c512_i32
  let v1 : BitVec 32 := v0
  let v505 : Index := Scalar.indexCast v1
  ![0, 6, v505.toNat]
def k0_off42 (i : grid0.Coords) : Fin 3 → Nat :=
  let c0_284 : Index := 0#32
  let c7 : Index := 7#32
  let arg1 : BitVec 32 := BitVec.ofNat 32 (i 1).val
  let c512_i32 : BitVec 32 := 512#32
  let v0 : BitVec 32 := Scalar.muli arg1 c512_i32
  let v1 : BitVec 32 := v0
  let v511 : Index := Scalar.indexCast v1
  ![0, 7, v511.toNat]
@[reducible] def k0_t7_loop (i : grid0.Coords) : Scf.Loop 32 :=
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_299 : BitVec 32 := 1#32
  ⟨c0_i32_297, v533, c1_i32_299⟩
def k0_mult11 (i : grid0.Coords) (k0_t7 : Fin (k0_t7_loop i).trips) : BitVec 32 :=
  let c0_i32_297 : BitVec 32 := 0#32
  let c1_i32_299 : BitVec 32 := 1#32
  let arg18 : BitVec 32 := Scf.iv c0_i32_297 c1_i32_299 k0_t7
  let c512_i32_694 : BitVec 32 := 512#32
  let v1218 : BitVec 32 := Scalar.muli arg18 c512_i32_694
  v1218
def k0_off43 (i : grid0.Coords) (k0_t7 : Fin (k0_t7_loop i).trips) : Fin 3 → Nat :=
  let c0_695 : Index := 0#32
  let c0_i32_297 : BitVec 32 := 0#32
  let c1_i32_299 : BitVec 32 := 1#32
  let arg18 : BitVec 32 := Scf.iv c0_i32_297 c1_i32_299 k0_t7
  let c512_i32_694 : BitVec 32 := 512#32
  let v1218 : BitVec 32 := Scalar.muli arg18 c512_i32_694
  let v1219 : BitVec 32 := v1218
  let v1220 : Index := Scalar.indexCast v1219
  let c384_696 : Index := 384#32
  ![0, v1220.toNat, 384]
def k0_off44 (i : grid0.Coords) (k0_t7 : Fin (k0_t7_loop i).trips) : Fin 3 → Nat :=
  let c0_697 : Index := 0#32
  let c0_i32_297 : BitVec 32 := 0#32
  let c1_i32_299 : BitVec 32 := 1#32
  let arg18 : BitVec 32 := Scf.iv c0_i32_297 c1_i32_299 k0_t7
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off45 (i : grid0.Coords) (k0_t7 : Fin (k0_t7_loop i).trips) : Fin 3 → Nat :=
  let c0_714 : Index := 0#32
  let c384_715 : Index := 384#32
  let c0_i32_297 : BitVec 32 := 0#32
  let c1_i32_299 : BitVec 32 := 1#32
  let arg18 : BitVec 32 := Scf.iv c0_i32_297 c1_i32_299 k0_t7
  let c512_i32_694 : BitVec 32 := 512#32
  let v1218 : BitVec 32 := Scalar.muli arg18 c512_i32_694
  let v1219 : BitVec 32 := v1218
  let v1253 : Index := Scalar.indexCast v1219
  ![0, 384, v1253.toNat]
def k0_off46 (i : grid0.Coords) (k0_t7 : Fin (k0_t7_loop i).trips) : Fin 3 → Nat :=
  let c0_721 : Index := 0#32
  let c448_722 : Index := 448#32
  let c0_i32_297 : BitVec 32 := 0#32
  let c1_i32_299 : BitVec 32 := 1#32
  let arg18 : BitVec 32 := Scf.iv c0_i32_297 c1_i32_299 k0_t7
  let c512_i32_694 : BitVec 32 := 512#32
  let v1218 : BitVec 32 := Scalar.muli arg18 c512_i32_694
  let v1219 : BitVec 32 := v1218
  let v1266 : Index := Scalar.indexCast v1219
  ![0, 448, v1266.toNat]
@[reducible] def k0_t8_loop (i : grid0.Coords) : Scf.Loop 32 :=
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let v530 : BitVec 32 := Scalar.addi c0_i32_297 v529
  let c1_i32_300 : BitVec 32 := 1#32
  ⟨v533, v530, c1_i32_300⟩
def k0_mult12 (i : grid0.Coords) (k0_t8 : Fin (k0_t8_loop i).trips) : BitVec 32 :=
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_300 : BitVec 32 := 1#32
  let arg18 : BitVec 32 := Scf.iv v533 c1_i32_300 k0_t8
  let c512_i32_694 : BitVec 32 := 512#32
  let v1218 : BitVec 32 := Scalar.muli arg18 c512_i32_694
  v1218
def k0_off47 (i : grid0.Coords) (k0_t8 : Fin (k0_t8_loop i).trips) : Fin 3 → Nat :=
  let c0_695 : Index := 0#32
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_300 : BitVec 32 := 1#32
  let arg18 : BitVec 32 := Scf.iv v533 c1_i32_300 k0_t8
  let c512_i32_694 : BitVec 32 := 512#32
  let v1218 : BitVec 32 := Scalar.muli arg18 c512_i32_694
  let v1219 : BitVec 32 := v1218
  let v1220 : Index := Scalar.indexCast v1219
  let c384_696 : Index := 384#32
  ![0, v1220.toNat, 384]
def k0_off48 (i : grid0.Coords) (k0_t8 : Fin (k0_t8_loop i).trips) : Fin 3 → Nat :=
  let c0_697 : Index := 0#32
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_300 : BitVec 32 := 1#32
  let arg18 : BitVec 32 := Scf.iv v533 c1_i32_300 k0_t8
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off49 (i : grid0.Coords) (k0_t8 : Fin (k0_t8_loop i).trips) : Fin 3 → Nat :=
  let c0_714 : Index := 0#32
  let c384_715 : Index := 384#32
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_300 : BitVec 32 := 1#32
  let arg18 : BitVec 32 := Scf.iv v533 c1_i32_300 k0_t8
  let c512_i32_694 : BitVec 32 := 512#32
  let v1218 : BitVec 32 := Scalar.muli arg18 c512_i32_694
  let v1219 : BitVec 32 := v1218
  let v1253 : Index := Scalar.indexCast v1219
  ![0, 384, v1253.toNat]
def k0_off50 (i : grid0.Coords) (k0_t8 : Fin (k0_t8_loop i).trips) : Fin 3 → Nat :=
  let c0_721 : Index := 0#32
  let c448_722 : Index := 448#32
  let c0_i32_297 : BitVec 32 := 0#32
  let arg1 : BitVec 32 := BitVec.ofNat 32 (i 1).val
  let v529 : BitVec 32 := Scalar.subi arg1 c0_i32_297
  let c1_i32_298 : BitVec 32 := 1#32
  let v531 : BitVec 32 := Scalar.divsi v529 c1_i32_298
  let v532 : BitVec 32 := Scalar.muli v531 c1_i32_298
  let v533 : BitVec 32 := Scalar.addi c0_i32_297 v532
  let c1_i32_300 : BitVec 32 := 1#32
  let arg18 : BitVec 32 := Scf.iv v533 c1_i32_300 k0_t8
  let c512_i32_694 : BitVec 32 := 512#32
  let v1218 : BitVec 32 := Scalar.muli arg18 c512_i32_694
  let v1219 : BitVec 32 := v1218
  let v1266 : Index := Scalar.indexCast v1219
  ![0, 448, v1266.toNat]
def k0_mult13 (i : grid0.Coords) : BitVec 32 :=
  let arg1 : BitVec 32 := BitVec.ofNat 32 (i 1).val
  let c512_i32_301 : BitVec 32 := 512#32
  let v534 : BitVec 32 := Scalar.muli arg1 c512_i32_301
  v534
def k0_off51 (i : grid0.Coords) : Fin 3 → Nat :=
  let c0_302 : Index := 0#32
  let arg1 : BitVec 32 := BitVec.ofNat 32 (i 1).val
  let c512_i32_301 : BitVec 32 := 512#32
  let v534 : BitVec 32 := Scalar.muli arg1 c512_i32_301
  let v535 : BitVec 32 := v534
  let v536 : Index := Scalar.indexCast v535
  let c384_303 : Index := 384#32
  ![0, v536.toNat, 384]
def k0_off52 (i : grid0.Coords) : Fin 3 → Nat :=
  let c0_324 : Index := 0#32
  let c384_325 : Index := 384#32
  let arg1 : BitVec 32 := BitVec.ofNat 32 (i 1).val
  let c512_i32_301 : BitVec 32 := 512#32
  let v534 : BitVec 32 := Scalar.muli arg1 c512_i32_301
  let v535 : BitVec 32 := v534
  let v579 : Index := Scalar.indexCast v535
  ![0, 384, v579.toNat]
def k0_off53 (i : grid0.Coords) : Fin 3 → Nat :=
  let c0_331 : Index := 0#32
  let c448_332 : Index := 448#32
  let arg1 : BitVec 32 := BitVec.ofNat 32 (i 1).val
  let c512_i32_301 : BitVec 32 := 512#32
  let v534 : BitVec 32 := Scalar.muli arg1 c512_i32_301
  let v535 : BitVec 32 := v534
  let v592 : Index := Scalar.indexCast v535
  ![0, 448, v592.toNat]
def k0_off54 (i : grid0.Coords) : Fin 3 → Nat :=
  let c0_366 : Index := 0#32
  let c8 : Index := 8#32
  let arg1 : BitVec 32 := BitVec.ofNat 32 (i 1).val
  let c512_i32 : BitVec 32 := 512#32
  let v0 : BitVec 32 := Scalar.muli arg1 c512_i32
  let v1 : BitVec 32 := v0
  let v652 : Index := Scalar.indexCast v1
  ![0, 8, v652.toNat]
def k0_off55 (i : grid0.Coords) : Fin 3 → Nat :=
  let c0_369 : Index := 0#32
  let c9 : Index := 9#32
  let arg1 : BitVec 32 := BitVec.ofNat 32 (i 1).val
  let c512_i32 : BitVec 32 := 512#32
  let v0 : BitVec 32 := Scalar.muli arg1 c512_i32
  let v1 : BitVec 32 := v0
  let v658 : Index := Scalar.indexCast v1
  ![0, 9, v658.toNat]
@[reducible] def k0_t9_loop (i : grid0.Coords) : Scf.Loop 32 :=
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_384 : BitVec 32 := 1#32
  ⟨c0_i32_382, v680, c1_i32_384⟩
def k0_mult14 (i : grid0.Coords) (k0_t9 : Fin (k0_t9_loop i).trips) : BitVec 32 :=
  let c0_i32_382 : BitVec 32 := 0#32
  let c1_i32_384 : BitVec 32 := 1#32
  let arg18 : BitVec 32 := Scf.iv c0_i32_382 c1_i32_384 k0_t9
  let c512_i32_694 : BitVec 32 := 512#32
  let v1218 : BitVec 32 := Scalar.muli arg18 c512_i32_694
  v1218
def k0_off56 (i : grid0.Coords) (k0_t9 : Fin (k0_t9_loop i).trips) : Fin 3 → Nat :=
  let c0_695 : Index := 0#32
  let c0_i32_382 : BitVec 32 := 0#32
  let c1_i32_384 : BitVec 32 := 1#32
  let arg18 : BitVec 32 := Scf.iv c0_i32_382 c1_i32_384 k0_t9
  let c512_i32_694 : BitVec 32 := 512#32
  let v1218 : BitVec 32 := Scalar.muli arg18 c512_i32_694
  let v1219 : BitVec 32 := v1218
  let v1220 : Index := Scalar.indexCast v1219
  let c512_696 : Index := 512#32
  ![0, v1220.toNat, 512]
def k0_off57 (i : grid0.Coords) (k0_t9 : Fin (k0_t9_loop i).trips) : Fin 3 → Nat :=
  let c0_697 : Index := 0#32
  let c0_i32_382 : BitVec 32 := 0#32
  let c1_i32_384 : BitVec 32 := 1#32
  let arg18 : BitVec 32 := Scf.iv c0_i32_382 c1_i32_384 k0_t9
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off58 (i : grid0.Coords) (k0_t9 : Fin (k0_t9_loop i).trips) : Fin 3 → Nat :=
  let c0_714 : Index := 0#32
  let c512_715 : Index := 512#32
  let c0_i32_382 : BitVec 32 := 0#32
  let c1_i32_384 : BitVec 32 := 1#32
  let arg18 : BitVec 32 := Scf.iv c0_i32_382 c1_i32_384 k0_t9
  let c512_i32_694 : BitVec 32 := 512#32
  let v1218 : BitVec 32 := Scalar.muli arg18 c512_i32_694
  let v1219 : BitVec 32 := v1218
  let v1253 : Index := Scalar.indexCast v1219
  ![0, 512, v1253.toNat]
def k0_off59 (i : grid0.Coords) (k0_t9 : Fin (k0_t9_loop i).trips) : Fin 3 → Nat :=
  let c0_721 : Index := 0#32
  let c576_722 : Index := 576#32
  let c0_i32_382 : BitVec 32 := 0#32
  let c1_i32_384 : BitVec 32 := 1#32
  let arg18 : BitVec 32 := Scf.iv c0_i32_382 c1_i32_384 k0_t9
  let c512_i32_694 : BitVec 32 := 512#32
  let v1218 : BitVec 32 := Scalar.muli arg18 c512_i32_694
  let v1219 : BitVec 32 := v1218
  let v1266 : Index := Scalar.indexCast v1219
  ![0, 576, v1266.toNat]
@[reducible] def k0_t10_loop (i : grid0.Coords) : Scf.Loop 32 :=
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let v677 : BitVec 32 := Scalar.addi c0_i32_382 v676
  let c1_i32_385 : BitVec 32 := 1#32
  ⟨v680, v677, c1_i32_385⟩
def k0_mult15 (i : grid0.Coords) (k0_t10 : Fin (k0_t10_loop i).trips) : BitVec 32 :=
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_385 : BitVec 32 := 1#32
  let arg18 : BitVec 32 := Scf.iv v680 c1_i32_385 k0_t10
  let c512_i32_694 : BitVec 32 := 512#32
  let v1218 : BitVec 32 := Scalar.muli arg18 c512_i32_694
  v1218
def k0_off60 (i : grid0.Coords) (k0_t10 : Fin (k0_t10_loop i).trips) : Fin 3 → Nat :=
  let c0_695 : Index := 0#32
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_385 : BitVec 32 := 1#32
  let arg18 : BitVec 32 := Scf.iv v680 c1_i32_385 k0_t10
  let c512_i32_694 : BitVec 32 := 512#32
  let v1218 : BitVec 32 := Scalar.muli arg18 c512_i32_694
  let v1219 : BitVec 32 := v1218
  let v1220 : Index := Scalar.indexCast v1219
  let c512_696 : Index := 512#32
  ![0, v1220.toNat, 512]
def k0_off61 (i : grid0.Coords) (k0_t10 : Fin (k0_t10_loop i).trips) : Fin 3 → Nat :=
  let c0_697 : Index := 0#32
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_385 : BitVec 32 := 1#32
  let arg18 : BitVec 32 := Scf.iv v680 c1_i32_385 k0_t10
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off62 (i : grid0.Coords) (k0_t10 : Fin (k0_t10_loop i).trips) : Fin 3 → Nat :=
  let c0_714 : Index := 0#32
  let c512_715 : Index := 512#32
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_385 : BitVec 32 := 1#32
  let arg18 : BitVec 32 := Scf.iv v680 c1_i32_385 k0_t10
  let c512_i32_694 : BitVec 32 := 512#32
  let v1218 : BitVec 32 := Scalar.muli arg18 c512_i32_694
  let v1219 : BitVec 32 := v1218
  let v1253 : Index := Scalar.indexCast v1219
  ![0, 512, v1253.toNat]
def k0_off63 (i : grid0.Coords) (k0_t10 : Fin (k0_t10_loop i).trips) : Fin 3 → Nat :=
  let c0_721 : Index := 0#32
  let c576_722 : Index := 576#32
  let c0_i32_382 : BitVec 32 := 0#32
  let arg1 : BitVec 32 := BitVec.ofNat 32 (i 1).val
  let v676 : BitVec 32 := Scalar.subi arg1 c0_i32_382
  let c1_i32_383 : BitVec 32 := 1#32
  let v678 : BitVec 32 := Scalar.divsi v676 c1_i32_383
  let v679 : BitVec 32 := Scalar.muli v678 c1_i32_383
  let v680 : BitVec 32 := Scalar.addi c0_i32_382 v679
  let c1_i32_385 : BitVec 32 := 1#32
  let arg18 : BitVec 32 := Scf.iv v680 c1_i32_385 k0_t10
  let c512_i32_694 : BitVec 32 := 512#32
  let v1218 : BitVec 32 := Scalar.muli arg18 c512_i32_694
  let v1219 : BitVec 32 := v1218
  let v1266 : Index := Scalar.indexCast v1219
  ![0, 576, v1266.toNat]
def k0_mult16 (i : grid0.Coords) : BitVec 32 :=
  let arg1 : BitVec 32 := BitVec.ofNat 32 (i 1).val
  let c512_i32_386 : BitVec 32 := 512#32
  let v681 : BitVec 32 := Scalar.muli arg1 c512_i32_386
  v681
def k0_off64 (i : grid0.Coords) : Fin 3 → Nat :=
  let c0_387 : Index := 0#32
  let arg1 : BitVec 32 := BitVec.ofNat 32 (i 1).val
  let c512_i32_386 : BitVec 32 := 512#32
  let v681 : BitVec 32 := Scalar.muli arg1 c512_i32_386
  let v682 : BitVec 32 := v681
  let v683 : Index := Scalar.indexCast v682
  let c512_388 : Index := 512#32
  ![0, v683.toNat, 512]
def k0_off65 (i : grid0.Coords) : Fin 3 → Nat :=
  let c0_409 : Index := 0#32
  let c512_410 : Index := 512#32
  let arg1 : BitVec 32 := BitVec.ofNat 32 (i 1).val
  let c512_i32_386 : BitVec 32 := 512#32
  let v681 : BitVec 32 := Scalar.muli arg1 c512_i32_386
  let v682 : BitVec 32 := v681
  let v726 : Index := Scalar.indexCast v682
  ![0, 512, v726.toNat]
def k0_off66 (i : grid0.Coords) : Fin 3 → Nat :=
  let c0_416 : Index := 0#32
  let c576_417 : Index := 576#32
  let arg1 : BitVec 32 := BitVec.ofNat 32 (i 1).val
  let c512_i32_386 : BitVec 32 := 512#32
  let v681 : BitVec 32 := Scalar.muli arg1 c512_i32_386
  let v682 : BitVec 32 := v681
  let v739 : Index := Scalar.indexCast v682
  ![0, 576, v739.toNat]
def k0_off67 (i : grid0.Coords) : Fin 3 → Nat :=
  let c0_450 : Index := 0#32
  let c10 : Index := 10#32
  let arg1 : BitVec 32 := BitVec.ofNat 32 (i 1).val
  let c512_i32 : BitVec 32 := 512#32
  let v0 : BitVec 32 := Scalar.muli arg1 c512_i32
  let v1 : BitVec 32 := v0
  let v799 : Index := Scalar.indexCast v1
  ![0, 10, v799.toNat]
def k0_off68 (i : grid0.Coords) : Fin 3 → Nat :=
  let c0_453 : Index := 0#32
  let c11 : Index := 11#32
  let arg1 : BitVec 32 := BitVec.ofNat 32 (i 1).val
  let c512_i32 : BitVec 32 := 512#32
  let v0 : BitVec 32 := Scalar.muli arg1 c512_i32
  let v1 : BitVec 32 := v0
  let v805 : Index := Scalar.indexCast v1
  ![0, 11, v805.toNat]
@[reducible] def k0_t11_loop (i : grid0.Coords) : Scf.Loop 32 :=
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_468 : BitVec 32 := 1#32
  ⟨c0_i32_466, v827, c1_i32_468⟩
def k0_mult17 (i : grid0.Coords) (k0_t11 : Fin (k0_t11_loop i).trips) : BitVec 32 :=
  let c0_i32_466 : BitVec 32 := 0#32
  let c1_i32_468 : BitVec 32 := 1#32
  let arg18 : BitVec 32 := Scf.iv c0_i32_466 c1_i32_468 k0_t11
  let c512_i32_694 : BitVec 32 := 512#32
  let v1218 : BitVec 32 := Scalar.muli arg18 c512_i32_694
  v1218
def k0_off69 (i : grid0.Coords) (k0_t11 : Fin (k0_t11_loop i).trips) : Fin 3 → Nat :=
  let c0_695 : Index := 0#32
  let c0_i32_466 : BitVec 32 := 0#32
  let c1_i32_468 : BitVec 32 := 1#32
  let arg18 : BitVec 32 := Scf.iv c0_i32_466 c1_i32_468 k0_t11
  let c512_i32_694 : BitVec 32 := 512#32
  let v1218 : BitVec 32 := Scalar.muli arg18 c512_i32_694
  let v1219 : BitVec 32 := v1218
  let v1220 : Index := Scalar.indexCast v1219
  let c640_696 : Index := 640#32
  ![0, v1220.toNat, 640]
def k0_off70 (i : grid0.Coords) (k0_t11 : Fin (k0_t11_loop i).trips) : Fin 3 → Nat :=
  let c0_697 : Index := 0#32
  let c0_i32_466 : BitVec 32 := 0#32
  let c1_i32_468 : BitVec 32 := 1#32
  let arg18 : BitVec 32 := Scf.iv c0_i32_466 c1_i32_468 k0_t11
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off71 (i : grid0.Coords) (k0_t11 : Fin (k0_t11_loop i).trips) : Fin 3 → Nat :=
  let c0_714 : Index := 0#32
  let c640_715 : Index := 640#32
  let c0_i32_466 : BitVec 32 := 0#32
  let c1_i32_468 : BitVec 32 := 1#32
  let arg18 : BitVec 32 := Scf.iv c0_i32_466 c1_i32_468 k0_t11
  let c512_i32_694 : BitVec 32 := 512#32
  let v1218 : BitVec 32 := Scalar.muli arg18 c512_i32_694
  let v1219 : BitVec 32 := v1218
  let v1253 : Index := Scalar.indexCast v1219
  ![0, 640, v1253.toNat]
def k0_off72 (i : grid0.Coords) (k0_t11 : Fin (k0_t11_loop i).trips) : Fin 3 → Nat :=
  let c0_721 : Index := 0#32
  let c704_722 : Index := 704#32
  let c0_i32_466 : BitVec 32 := 0#32
  let c1_i32_468 : BitVec 32 := 1#32
  let arg18 : BitVec 32 := Scf.iv c0_i32_466 c1_i32_468 k0_t11
  let c512_i32_694 : BitVec 32 := 512#32
  let v1218 : BitVec 32 := Scalar.muli arg18 c512_i32_694
  let v1219 : BitVec 32 := v1218
  let v1266 : Index := Scalar.indexCast v1219
  ![0, 704, v1266.toNat]
@[reducible] def k0_t12_loop (i : grid0.Coords) : Scf.Loop 32 :=
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let v824 : BitVec 32 := Scalar.addi c0_i32_466 v823
  let c1_i32_469 : BitVec 32 := 1#32
  ⟨v827, v824, c1_i32_469⟩
def k0_mult18 (i : grid0.Coords) (k0_t12 : Fin (k0_t12_loop i).trips) : BitVec 32 :=
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_469 : BitVec 32 := 1#32
  let arg18 : BitVec 32 := Scf.iv v827 c1_i32_469 k0_t12
  let c512_i32_694 : BitVec 32 := 512#32
  let v1218 : BitVec 32 := Scalar.muli arg18 c512_i32_694
  v1218
def k0_off73 (i : grid0.Coords) (k0_t12 : Fin (k0_t12_loop i).trips) : Fin 3 → Nat :=
  let c0_695 : Index := 0#32
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_469 : BitVec 32 := 1#32
  let arg18 : BitVec 32 := Scf.iv v827 c1_i32_469 k0_t12
  let c512_i32_694 : BitVec 32 := 512#32
  let v1218 : BitVec 32 := Scalar.muli arg18 c512_i32_694
  let v1219 : BitVec 32 := v1218
  let v1220 : Index := Scalar.indexCast v1219
  let c640_696 : Index := 640#32
  ![0, v1220.toNat, 640]
def k0_off74 (i : grid0.Coords) (k0_t12 : Fin (k0_t12_loop i).trips) : Fin 3 → Nat :=
  let c0_697 : Index := 0#32
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_469 : BitVec 32 := 1#32
  let arg18 : BitVec 32 := Scf.iv v827 c1_i32_469 k0_t12
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off75 (i : grid0.Coords) (k0_t12 : Fin (k0_t12_loop i).trips) : Fin 3 → Nat :=
  let c0_714 : Index := 0#32
  let c640_715 : Index := 640#32
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_469 : BitVec 32 := 1#32
  let arg18 : BitVec 32 := Scf.iv v827 c1_i32_469 k0_t12
  let c512_i32_694 : BitVec 32 := 512#32
  let v1218 : BitVec 32 := Scalar.muli arg18 c512_i32_694
  let v1219 : BitVec 32 := v1218
  let v1253 : Index := Scalar.indexCast v1219
  ![0, 640, v1253.toNat]
def k0_off76 (i : grid0.Coords) (k0_t12 : Fin (k0_t12_loop i).trips) : Fin 3 → Nat :=
  let c0_721 : Index := 0#32
  let c704_722 : Index := 704#32
  let c0_i32_466 : BitVec 32 := 0#32
  let arg1 : BitVec 32 := BitVec.ofNat 32 (i 1).val
  let v823 : BitVec 32 := Scalar.subi arg1 c0_i32_466
  let c1_i32_467 : BitVec 32 := 1#32
  let v825 : BitVec 32 := Scalar.divsi v823 c1_i32_467
  let v826 : BitVec 32 := Scalar.muli v825 c1_i32_467
  let v827 : BitVec 32 := Scalar.addi c0_i32_466 v826
  let c1_i32_469 : BitVec 32 := 1#32
  let arg18 : BitVec 32 := Scf.iv v827 c1_i32_469 k0_t12
  let c512_i32_694 : BitVec 32 := 512#32
  let v1218 : BitVec 32 := Scalar.muli arg18 c512_i32_694
  let v1219 : BitVec 32 := v1218
  let v1266 : Index := Scalar.indexCast v1219
  ![0, 704, v1266.toNat]
def k0_mult19 (i : grid0.Coords) : BitVec 32 :=
  let arg1 : BitVec 32 := BitVec.ofNat 32 (i 1).val
  let c512_i32_470 : BitVec 32 := 512#32
  let v828 : BitVec 32 := Scalar.muli arg1 c512_i32_470
  v828
def k0_off77 (i : grid0.Coords) : Fin 3 → Nat :=
  let c0_471 : Index := 0#32
  let arg1 : BitVec 32 := BitVec.ofNat 32 (i 1).val
  let c512_i32_470 : BitVec 32 := 512#32
  let v828 : BitVec 32 := Scalar.muli arg1 c512_i32_470
  let v829 : BitVec 32 := v828
  let v830 : Index := Scalar.indexCast v829
  let c640_472 : Index := 640#32
  ![0, v830.toNat, 640]
def k0_off78 (i : grid0.Coords) : Fin 3 → Nat :=
  let c0_493 : Index := 0#32
  let c640_494 : Index := 640#32
  let arg1 : BitVec 32 := BitVec.ofNat 32 (i 1).val
  let c512_i32_470 : BitVec 32 := 512#32
  let v828 : BitVec 32 := Scalar.muli arg1 c512_i32_470
  let v829 : BitVec 32 := v828
  let v873 : Index := Scalar.indexCast v829
  ![0, 640, v873.toNat]
def k0_off79 (i : grid0.Coords) : Fin 3 → Nat :=
  let c0_500 : Index := 0#32
  let c704_501 : Index := 704#32
  let arg1 : BitVec 32 := BitVec.ofNat 32 (i 1).val
  let c512_i32_470 : BitVec 32 := 512#32
  let v828 : BitVec 32 := Scalar.muli arg1 c512_i32_470
  let v829 : BitVec 32 := v828
  let v886 : Index := Scalar.indexCast v829
  ![0, 704, v886.toNat]
def k0_off80 (i : grid0.Coords) : Fin 3 → Nat :=
  let c0_534 : Index := 0#32
  let c12 : Index := 12#32
  let arg1 : BitVec 32 := BitVec.ofNat 32 (i 1).val
  let c512_i32 : BitVec 32 := 512#32
  let v0 : BitVec 32 := Scalar.muli arg1 c512_i32
  let v1 : BitVec 32 := v0
  let v946 : Index := Scalar.indexCast v1
  ![0, 12, v946.toNat]
def k0_off81 (i : grid0.Coords) : Fin 3 → Nat :=
  let c0_537 : Index := 0#32
  let c13 : Index := 13#32
  let arg1 : BitVec 32 := BitVec.ofNat 32 (i 1).val
  let c512_i32 : BitVec 32 := 512#32
  let v0 : BitVec 32 := Scalar.muli arg1 c512_i32
  let v1 : BitVec 32 := v0
  let v952 : Index := Scalar.indexCast v1
  ![0, 13, v952.toNat]
@[reducible] def k0_t13_loop (i : grid0.Coords) : Scf.Loop 32 :=
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_552 : BitVec 32 := 1#32
  ⟨c0_i32_550, v974, c1_i32_552⟩
def k0_mult20 (i : grid0.Coords) (k0_t13 : Fin (k0_t13_loop i).trips) : BitVec 32 :=
  let c0_i32_550 : BitVec 32 := 0#32
  let c1_i32_552 : BitVec 32 := 1#32
  let arg18 : BitVec 32 := Scf.iv c0_i32_550 c1_i32_552 k0_t13
  let c512_i32_694 : BitVec 32 := 512#32
  let v1218 : BitVec 32 := Scalar.muli arg18 c512_i32_694
  v1218
def k0_off82 (i : grid0.Coords) (k0_t13 : Fin (k0_t13_loop i).trips) : Fin 3 → Nat :=
  let c0_695 : Index := 0#32
  let c0_i32_550 : BitVec 32 := 0#32
  let c1_i32_552 : BitVec 32 := 1#32
  let arg18 : BitVec 32 := Scf.iv c0_i32_550 c1_i32_552 k0_t13
  let c512_i32_694 : BitVec 32 := 512#32
  let v1218 : BitVec 32 := Scalar.muli arg18 c512_i32_694
  let v1219 : BitVec 32 := v1218
  let v1220 : Index := Scalar.indexCast v1219
  let c768_696 : Index := 768#32
  ![0, v1220.toNat, 768]
def k0_off83 (i : grid0.Coords) (k0_t13 : Fin (k0_t13_loop i).trips) : Fin 3 → Nat :=
  let c0_697 : Index := 0#32
  let c0_i32_550 : BitVec 32 := 0#32
  let c1_i32_552 : BitVec 32 := 1#32
  let arg18 : BitVec 32 := Scf.iv c0_i32_550 c1_i32_552 k0_t13
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off84 (i : grid0.Coords) (k0_t13 : Fin (k0_t13_loop i).trips) : Fin 3 → Nat :=
  let c0_714 : Index := 0#32
  let c768_715 : Index := 768#32
  let c0_i32_550 : BitVec 32 := 0#32
  let c1_i32_552 : BitVec 32 := 1#32
  let arg18 : BitVec 32 := Scf.iv c0_i32_550 c1_i32_552 k0_t13
  let c512_i32_694 : BitVec 32 := 512#32
  let v1218 : BitVec 32 := Scalar.muli arg18 c512_i32_694
  let v1219 : BitVec 32 := v1218
  let v1253 : Index := Scalar.indexCast v1219
  ![0, 768, v1253.toNat]
def k0_off85 (i : grid0.Coords) (k0_t13 : Fin (k0_t13_loop i).trips) : Fin 3 → Nat :=
  let c0_721 : Index := 0#32
  let c832_722 : Index := 832#32
  let c0_i32_550 : BitVec 32 := 0#32
  let c1_i32_552 : BitVec 32 := 1#32
  let arg18 : BitVec 32 := Scf.iv c0_i32_550 c1_i32_552 k0_t13
  let c512_i32_694 : BitVec 32 := 512#32
  let v1218 : BitVec 32 := Scalar.muli arg18 c512_i32_694
  let v1219 : BitVec 32 := v1218
  let v1266 : Index := Scalar.indexCast v1219
  ![0, 832, v1266.toNat]
@[reducible] def k0_t14_loop (i : grid0.Coords) : Scf.Loop 32 :=
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let v971 : BitVec 32 := Scalar.addi c0_i32_550 v970
  let c1_i32_553 : BitVec 32 := 1#32
  ⟨v974, v971, c1_i32_553⟩
def k0_mult21 (i : grid0.Coords) (k0_t14 : Fin (k0_t14_loop i).trips) : BitVec 32 :=
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_553 : BitVec 32 := 1#32
  let arg18 : BitVec 32 := Scf.iv v974 c1_i32_553 k0_t14
  let c512_i32_694 : BitVec 32 := 512#32
  let v1218 : BitVec 32 := Scalar.muli arg18 c512_i32_694
  v1218
def k0_off86 (i : grid0.Coords) (k0_t14 : Fin (k0_t14_loop i).trips) : Fin 3 → Nat :=
  let c0_695 : Index := 0#32
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_553 : BitVec 32 := 1#32
  let arg18 : BitVec 32 := Scf.iv v974 c1_i32_553 k0_t14
  let c512_i32_694 : BitVec 32 := 512#32
  let v1218 : BitVec 32 := Scalar.muli arg18 c512_i32_694
  let v1219 : BitVec 32 := v1218
  let v1220 : Index := Scalar.indexCast v1219
  let c768_696 : Index := 768#32
  ![0, v1220.toNat, 768]
def k0_off87 (i : grid0.Coords) (k0_t14 : Fin (k0_t14_loop i).trips) : Fin 3 → Nat :=
  let c0_697 : Index := 0#32
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_553 : BitVec 32 := 1#32
  let arg18 : BitVec 32 := Scf.iv v974 c1_i32_553 k0_t14
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off88 (i : grid0.Coords) (k0_t14 : Fin (k0_t14_loop i).trips) : Fin 3 → Nat :=
  let c0_714 : Index := 0#32
  let c768_715 : Index := 768#32
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_553 : BitVec 32 := 1#32
  let arg18 : BitVec 32 := Scf.iv v974 c1_i32_553 k0_t14
  let c512_i32_694 : BitVec 32 := 512#32
  let v1218 : BitVec 32 := Scalar.muli arg18 c512_i32_694
  let v1219 : BitVec 32 := v1218
  let v1253 : Index := Scalar.indexCast v1219
  ![0, 768, v1253.toNat]
def k0_off89 (i : grid0.Coords) (k0_t14 : Fin (k0_t14_loop i).trips) : Fin 3 → Nat :=
  let c0_721 : Index := 0#32
  let c832_722 : Index := 832#32
  let c0_i32_550 : BitVec 32 := 0#32
  let arg1 : BitVec 32 := BitVec.ofNat 32 (i 1).val
  let v970 : BitVec 32 := Scalar.subi arg1 c0_i32_550
  let c1_i32_551 : BitVec 32 := 1#32
  let v972 : BitVec 32 := Scalar.divsi v970 c1_i32_551
  let v973 : BitVec 32 := Scalar.muli v972 c1_i32_551
  let v974 : BitVec 32 := Scalar.addi c0_i32_550 v973
  let c1_i32_553 : BitVec 32 := 1#32
  let arg18 : BitVec 32 := Scf.iv v974 c1_i32_553 k0_t14
  let c512_i32_694 : BitVec 32 := 512#32
  let v1218 : BitVec 32 := Scalar.muli arg18 c512_i32_694
  let v1219 : BitVec 32 := v1218
  let v1266 : Index := Scalar.indexCast v1219
  ![0, 832, v1266.toNat]
def k0_mult22 (i : grid0.Coords) : BitVec 32 :=
  let arg1 : BitVec 32 := BitVec.ofNat 32 (i 1).val
  let c512_i32_554 : BitVec 32 := 512#32
  let v975 : BitVec 32 := Scalar.muli arg1 c512_i32_554
  v975
def k0_off90 (i : grid0.Coords) : Fin 3 → Nat :=
  let c0_555 : Index := 0#32
  let arg1 : BitVec 32 := BitVec.ofNat 32 (i 1).val
  let c512_i32_554 : BitVec 32 := 512#32
  let v975 : BitVec 32 := Scalar.muli arg1 c512_i32_554
  let v976 : BitVec 32 := v975
  let v977 : Index := Scalar.indexCast v976
  let c768_556 : Index := 768#32
  ![0, v977.toNat, 768]
def k0_off91 (i : grid0.Coords) : Fin 3 → Nat :=
  let c0_577 : Index := 0#32
  let c768_578 : Index := 768#32
  let arg1 : BitVec 32 := BitVec.ofNat 32 (i 1).val
  let c512_i32_554 : BitVec 32 := 512#32
  let v975 : BitVec 32 := Scalar.muli arg1 c512_i32_554
  let v976 : BitVec 32 := v975
  let v1020 : Index := Scalar.indexCast v976
  ![0, 768, v1020.toNat]
def k0_off92 (i : grid0.Coords) : Fin 3 → Nat :=
  let c0_584 : Index := 0#32
  let c832_585 : Index := 832#32
  let arg1 : BitVec 32 := BitVec.ofNat 32 (i 1).val
  let c512_i32_554 : BitVec 32 := 512#32
  let v975 : BitVec 32 := Scalar.muli arg1 c512_i32_554
  let v976 : BitVec 32 := v975
  let v1033 : Index := Scalar.indexCast v976
  ![0, 832, v1033.toNat]
def k0_off93 (i : grid0.Coords) : Fin 3 → Nat :=
  let c0_619 : Index := 0#32
  let c14 : Index := 14#32
  let arg1 : BitVec 32 := BitVec.ofNat 32 (i 1).val
  let c512_i32 : BitVec 32 := 512#32
  let v0 : BitVec 32 := Scalar.muli arg1 c512_i32
  let v1 : BitVec 32 := v0
  let v1093 : Index := Scalar.indexCast v1
  ![0, 14, v1093.toNat]
def k0_off94 (i : grid0.Coords) : Fin 3 → Nat :=
  let c0_622 : Index := 0#32
  let c15 : Index := 15#32
  let arg1 : BitVec 32 := BitVec.ofNat 32 (i 1).val
  let c512_i32 : BitVec 32 := 512#32
  let v0 : BitVec 32 := Scalar.muli arg1 c512_i32
  let v1 : BitVec 32 := v0
  let v1099 : Index := Scalar.indexCast v1
  ![0, 15, v1099.toNat]
@[reducible] def k0_t15_loop (i : grid0.Coords) : Scf.Loop 32 :=
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_637 : BitVec 32 := 1#32
  ⟨c0_i32_635, v1121, c1_i32_637⟩
def k0_mult23 (i : grid0.Coords) (k0_t15 : Fin (k0_t15_loop i).trips) : BitVec 32 :=
  let c0_i32_635 : BitVec 32 := 0#32
  let c1_i32_637 : BitVec 32 := 1#32
  let arg18 : BitVec 32 := Scf.iv c0_i32_635 c1_i32_637 k0_t15
  let c512_i32_694 : BitVec 32 := 512#32
  let v1218 : BitVec 32 := Scalar.muli arg18 c512_i32_694
  v1218
def k0_off95 (i : grid0.Coords) (k0_t15 : Fin (k0_t15_loop i).trips) : Fin 3 → Nat :=
  let c0_695 : Index := 0#32
  let c0_i32_635 : BitVec 32 := 0#32
  let c1_i32_637 : BitVec 32 := 1#32
  let arg18 : BitVec 32 := Scf.iv c0_i32_635 c1_i32_637 k0_t15
  let c512_i32_694 : BitVec 32 := 512#32
  let v1218 : BitVec 32 := Scalar.muli arg18 c512_i32_694
  let v1219 : BitVec 32 := v1218
  let v1220 : Index := Scalar.indexCast v1219
  let c896_696 : Index := 896#32
  ![0, v1220.toNat, 896]
def k0_off96 (i : grid0.Coords) (k0_t15 : Fin (k0_t15_loop i).trips) : Fin 3 → Nat :=
  let c0_697 : Index := 0#32
  let c0_i32_635 : BitVec 32 := 0#32
  let c1_i32_637 : BitVec 32 := 1#32
  let arg18 : BitVec 32 := Scf.iv c0_i32_635 c1_i32_637 k0_t15
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off97 (i : grid0.Coords) (k0_t15 : Fin (k0_t15_loop i).trips) : Fin 3 → Nat :=
  let c0_714 : Index := 0#32
  let c896_715 : Index := 896#32
  let c0_i32_635 : BitVec 32 := 0#32
  let c1_i32_637 : BitVec 32 := 1#32
  let arg18 : BitVec 32 := Scf.iv c0_i32_635 c1_i32_637 k0_t15
  let c512_i32_694 : BitVec 32 := 512#32
  let v1218 : BitVec 32 := Scalar.muli arg18 c512_i32_694
  let v1219 : BitVec 32 := v1218
  let v1253 : Index := Scalar.indexCast v1219
  ![0, 896, v1253.toNat]
def k0_off98 (i : grid0.Coords) (k0_t15 : Fin (k0_t15_loop i).trips) : Fin 3 → Nat :=
  let c0_721 : Index := 0#32
  let c960_722 : Index := 960#32
  let c0_i32_635 : BitVec 32 := 0#32
  let c1_i32_637 : BitVec 32 := 1#32
  let arg18 : BitVec 32 := Scf.iv c0_i32_635 c1_i32_637 k0_t15
  let c512_i32_694 : BitVec 32 := 512#32
  let v1218 : BitVec 32 := Scalar.muli arg18 c512_i32_694
  let v1219 : BitVec 32 := v1218
  let v1266 : Index := Scalar.indexCast v1219
  ![0, 960, v1266.toNat]
@[reducible] def k0_t16_loop (i : grid0.Coords) : Scf.Loop 32 :=
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let v1118 : BitVec 32 := Scalar.addi c0_i32_635 v1117
  let c1_i32_638 : BitVec 32 := 1#32
  ⟨v1121, v1118, c1_i32_638⟩
def k0_mult24 (i : grid0.Coords) (k0_t16 : Fin (k0_t16_loop i).trips) : BitVec 32 :=
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_638 : BitVec 32 := 1#32
  let arg18 : BitVec 32 := Scf.iv v1121 c1_i32_638 k0_t16
  let c512_i32_694 : BitVec 32 := 512#32
  let v1218 : BitVec 32 := Scalar.muli arg18 c512_i32_694
  v1218
def k0_off99 (i : grid0.Coords) (k0_t16 : Fin (k0_t16_loop i).trips) : Fin 3 → Nat :=
  let c0_695 : Index := 0#32
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_638 : BitVec 32 := 1#32
  let arg18 : BitVec 32 := Scf.iv v1121 c1_i32_638 k0_t16
  let c512_i32_694 : BitVec 32 := 512#32
  let v1218 : BitVec 32 := Scalar.muli arg18 c512_i32_694
  let v1219 : BitVec 32 := v1218
  let v1220 : Index := Scalar.indexCast v1219
  let c896_696 : Index := 896#32
  ![0, v1220.toNat, 896]
def k0_off100 (i : grid0.Coords) (k0_t16 : Fin (k0_t16_loop i).trips) : Fin 3 → Nat :=
  let c0_697 : Index := 0#32
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_638 : BitVec 32 := 1#32
  let arg18 : BitVec 32 := Scf.iv v1121 c1_i32_638 k0_t16
  let c512_i32_694 : BitVec 32 := 512#32
  let v1218 : BitVec 32 := Scalar.muli arg18 c512_i32_694
  let v1219 : BitVec 32 := v1218
  let v1223 : Index := Scalar.indexCast v1219
  let c0_698 : Index := 0#32
  ![0, v1223.toNat, 0]
def k0_off101 (i : grid0.Coords) (k0_t16 : Fin (k0_t16_loop i).trips) : Fin 3 → Nat :=
  let c0_714 : Index := 0#32
  let c896_715 : Index := 896#32
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_638 : BitVec 32 := 1#32
  let arg18 : BitVec 32 := Scf.iv v1121 c1_i32_638 k0_t16
  let c512_i32_694 : BitVec 32 := 512#32
  let v1218 : BitVec 32 := Scalar.muli arg18 c512_i32_694
  let v1219 : BitVec 32 := v1218
  let v1253 : Index := Scalar.indexCast v1219
  ![0, 896, v1253.toNat]
def k0_off102 (i : grid0.Coords) (k0_t16 : Fin (k0_t16_loop i).trips) : Fin 3 → Nat :=
  let c0_721 : Index := 0#32
  let c960_722 : Index := 960#32
  let c0_i32_635 : BitVec 32 := 0#32
  let arg1 : BitVec 32 := BitVec.ofNat 32 (i 1).val
  let v1117 : BitVec 32 := Scalar.subi arg1 c0_i32_635
  let c1_i32_636 : BitVec 32 := 1#32
  let v1119 : BitVec 32 := Scalar.divsi v1117 c1_i32_636
  let v1120 : BitVec 32 := Scalar.muli v1119 c1_i32_636
  let v1121 : BitVec 32 := Scalar.addi c0_i32_635 v1120
  let c1_i32_638 : BitVec 32 := 1#32
  let arg18 : BitVec 32 := Scf.iv v1121 c1_i32_638 k0_t16
  let c512_i32_694 : BitVec 32 := 512#32
  let v1218 : BitVec 32 := Scalar.muli arg18 c512_i32_694
  let v1219 : BitVec 32 := v1218
  let v1266 : Index := Scalar.indexCast v1219
  ![0, 960, v1266.toNat]
def k0_mult25 (i : grid0.Coords) : BitVec 32 :=
  let arg1 : BitVec 32 := BitVec.ofNat 32 (i 1).val
  let c512_i32_639 : BitVec 32 := 512#32
  let v1122 : BitVec 32 := Scalar.muli arg1 c512_i32_639
  v1122
def k0_off103 (i : grid0.Coords) : Fin 3 → Nat :=
  let c0_640 : Index := 0#32
  let arg1 : BitVec 32 := BitVec.ofNat 32 (i 1).val
  let c512_i32_639 : BitVec 32 := 512#32
  let v1122 : BitVec 32 := Scalar.muli arg1 c512_i32_639
  let v1123 : BitVec 32 := v1122
  let v1124 : Index := Scalar.indexCast v1123
  let c896_641 : Index := 896#32
  ![0, v1124.toNat, 896]
def k0_off104 (i : grid0.Coords) : Fin 3 → Nat :=
  let c0_662 : Index := 0#32
  let c896_663 : Index := 896#32
  let arg1 : BitVec 32 := BitVec.ofNat 32 (i 1).val
  let c512_i32_639 : BitVec 32 := 512#32
  let v1122 : BitVec 32 := Scalar.muli arg1 c512_i32_639
  let v1123 : BitVec 32 := v1122
  let v1167 : Index := Scalar.indexCast v1123
  ![0, 896, v1167.toNat]
def k0_off105 (i : grid0.Coords) : Fin 3 → Nat :=
  let c0_669 : Index := 0#32
  let c960_670 : Index := 960#32
  let arg1 : BitVec 32 := BitVec.ofNat 32 (i 1).val
  let c512_i32_639 : BitVec 32 := 512#32
  let v1122 : BitVec 32 := Scalar.muli arg1 c512_i32_639
  let v1123 : BitVec 32 := v1122
  let v1180 : Index := Scalar.indexCast v1123
  ![0, 960, v1180.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S8x4096x1024 : Shape := ⟨3, ![8, 4096, 1024]⟩
abbrev S1024 : Shape := ⟨1, ![1024]⟩
abbrev S1024x1024 : Shape := ⟨2, ![1024, 1024]⟩
abbrev S8x16x4096 : Shape := ⟨3, ![8, 16, 4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16x64 : Shape := ⟨4, ![8, 4096, 16, 64]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x16x64x4096 : Shape := ⟨4, ![8, 16, 64, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1024, .f32⟩
  | .hbm, ⟨3, _⟩ => ⟨S8x4096x1024, .f32⟩
  | .hbm, ⟨4, _⟩ => ⟨S8x4096x1024, .f32⟩
  | .hbm, ⟨5, _⟩ => ⟨S8x16x4096, .f32⟩
  | .hbm, ⟨6, _⟩ => ⟨S1024x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x16x64, .f32⟩
  | .hbm, ⟨25, _⟩ => ⟨S8x4096x16x64, .f32⟩
  | .hbm, ⟨26, _⟩ => ⟨S8x4096x16x64, .f32⟩
  | .hbm, ⟨27, _⟩ => ⟨S8x16x4096x4096, .f32⟩
  | .hbm, ⟨28, _⟩ => ⟨S_, .f32⟩
  | .hbm, ⟨29, _⟩ => ⟨S8x16x4096x4096, .f32⟩
  | .hbm, ⟨30, _⟩ => ⟨S8x16x4096x4096, .f32⟩
  | .hbm, ⟨31, _⟩ => ⟨S8x16x4096x1, .f32⟩
  | .hbm, ⟨32, _⟩ => ⟨S8x16x1x4096, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S4096, .i32⟩
  | .hbm, ⟨37, _⟩ => ⟨S4096x1, .i32⟩
  | .hbm, ⟨38, _⟩ => ⟨S4096, .i32⟩
  | .hbm, ⟨39, _⟩ => ⟨S1x4096, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S8x16x4096x4096, .f32⟩
  | .hbm, ⟨44, _⟩ => ⟨S_, .f32⟩
  | .hbm, ⟨45, _⟩ => ⟨S_, .f32⟩
  | .hbm, ⟨46, _⟩ => ⟨S8x16x4096x4096, .i1⟩
  | .hbm, ⟨47, _⟩ => ⟨S8x16x4096x4096, .f32⟩
  | .hbm, ⟨48, _⟩ => ⟨S8x16x4096x4096, .f32⟩
  | .hbm, ⟨49, _⟩ => ⟨S_, .f32⟩
  | .hbm, ⟨50, _⟩ => ⟨S8x16x4096, .f32⟩
  | .hbm, ⟨51, _⟩ => ⟨S_, .f32⟩
  | .hbm, ⟨52, _⟩ => ⟨S8x16x4096, .f32⟩
  | .hbm, ⟨53, _⟩ => ⟨S8x16x4096, .f32⟩
  | .hbm, ⟨54, _⟩ => ⟨S8x16x4096x1, .f32⟩
  | .hbm, ⟨55, _⟩ => ⟨S8x16x4096x4096, .f32⟩
  | .hbm, ⟨56, _⟩ => ⟨S8x16x4096x4096, .f32⟩
  | .hbm, ⟨57, _⟩ => ⟨S8x16x4096x4096, .f32⟩
  | .hbm, ⟨58, _⟩ => ⟨S_, .f32⟩
  | .hbm, ⟨59, _⟩ => ⟨S8x16x4096, .f32⟩
  | .hbm, ⟨60, _⟩ => ⟨S8x16x4096x1, .f32⟩
  | .hbm, ⟨61, _⟩ => ⟨S8x16x4096x4096, .f32⟩
  | .hbm, ⟨62, _⟩ => ⟨S8x16x4096x4096, .f32⟩
  | .hbm, ⟨63, _⟩ => ⟨S8x16x64x4096, .f32⟩
  | .hbm, ⟨64, _⟩ => ⟨S8x4096x16x64, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Rows.lean ====
/-
  The layer's mathematics, one token (one row of 1024 features) at a time, over the extended reals: matrix
  products of a row, the root-mean-square norm, the gated feed-forward network and its half-weighted residual.
  Every kernel block and every reference array of this directory is read as these functions of its rows.
-/
module

public import Idealize.ShloMosaic.Lib.Pointwise
public import Idealize.ShloMosaic.Lib.Pipeline.ValueKit
public import Idealize.ShloMosaic.Lib.Pipeline.ReadBack

@[expose] public section

noncomputable section

namespace Rows

open Idealize.ShloMosaic

/-- A row times a matrix. -/
def vecMat {n p : ℕ} (x : Fin n → EReal) (w : Fin n → Fin p → EReal) (j : Fin p) : EReal := ∑ k, x k * w k j

/-- The root-mean-square norm of a row with gain `g`: `x / sqrt (mean (x²) + 1e-6) * g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The SwiGLU product of one gate and one up value: `gate * sigmoid gate * up`. -/
def swi (a b : EReal) : EReal := a * Ideal.div 1 (1 + Ideal.exp (-a)) * b

/-- The SwiGLU activations of a row. -/
def act (x : Fin 1024 → EReal) (wg wu : Fin 1024 → Fin 2816 → EReal) (f : Fin 2816) : EReal :=
  swi (vecMat x wg f) (vecMat x wu f)

/-- A row plus half its feed-forward network's output, the network reading the normalised row. -/
def halfFfn (x g : Fin 1024 → EReal) (wg wu : Fin 1024 → Fin 2816 → EReal) (wd : Fin 2816 → Fin 1024 → EReal)
    (d : Fin 1024) : EReal :=
  x d + Ideal.ofBits .f32 0x3F000000#32 * vecMat (act (rms x g) wg wu) wd d

/-- A row plus the attention output's projection. -/
def addProj (x o : Fin 1024 → EReal) (wo : Fin 1024 → Fin 1024 → EReal) (d : Fin 1024) : EReal := x d + vecMat o wo d

/-- A function of batch, position and feature laid out as an array of 32768 rows: row `4096 b + s`. -/
def byRow {n : ℕ} (f : Fin 8 → Fin 4096 → Fin n → EReal) (i : Fin 32768) (d : Fin n) : EReal :=
  f ⟨i / 4096, by omega⟩ ⟨i % 4096, by omega⟩ d

theorem byRow_eq {n : ℕ} (f : Fin 8 → Fin 4096 → Fin n → EReal) (i : Fin 32768) (d d' : Fin n) (b : Fin 8) (s : Fin 4096)
    (h : (i : ℕ) = b * 4096 + s) (hd : d = d') : byRow f i d = f b s d' := by
  subst hd
  unfold byRow
  rw [show (⟨(i : ℕ) / 4096, by omega⟩ : Fin 8) = b from Fin.ext (show (i : ℕ) / 4096 = b by omega),
    show (⟨(i : ℕ) % 4096, by omega⟩ : Fin 4096) = s from Fin.ext (show (i : ℕ) % 4096 = s by omega)]

end Rows

namespace Idealize.ShloMosaic.View

variable {sig : RefSig} {κ : Kind} {sp : Space} {s : Shape} {e : EltTy} {Val : EltTy → Type}

/-- Stores that are blocks of `G` leave `G` at every index one of them covers. -/
theorem canon_of_blocks [∀ e, Nonempty (Val e)] (G : s.Idx → Val e) (L : List (Piece Val s e)) (y : s.Idx)
    (hc : ∃ p ∈ L, y ∈ p.1.set) (h : PiecesOf G L) : canon L y = G y := by
  have := canon_append_of_piecesOf G [] L h y hc
  rwa [List.append_nil] at this

/-- A load of a box that the last `n` stores cover, these being blocks of `G`, reads `G` there. -/
theorem readCov_of_blocks [∀ e, Nonempty (Val e)] (n : ℕ) (G : s.Idx → Val e) (v : View sig κ sp s e) (L : List (Piece Val s e))
    (B : LoadRect s) (hc : ∀ j : B.shape.Idx, ∃ p ∈ L.take n, B.idx j ∈ p.1.set) (h : PiecesOf G (L.take n)) :
    v.readCov L B = fun j => G (B.idx j) := by
  rw [readCov_eq_canon']
  funext j
  conv_lhs => rw [← List.take_append_drop n L]
  exact canon_append_of_piecesOf G _ _ h _ (hc j)

end Idealize.ShloMosaic.View
-- ==== Proof.Soft.lean ====
/-
  The softmax-weighted mean over finitely many keys, over the extended reals: keys masked with `⊥` drop out, and
  dividing the weighted sum by the weights' sum is the same as dividing each weight.
-/
module

public import Idealize.ShloMosaic.Lib.Pointwise
public import Idealize.ShloMosaic.Lib.FinSumWindow
public import Idealize.ShloMosaic.Lib.Pipeline.ValueKit

@[expose] public section

noncomputable section

namespace Soft

open Idealize.ShloMosaic Idealize.ShloMosaic.FinSumWindow

/-- The greatest of the scores. -/
def top {n : ℕ} (s : Fin n → EReal) : EReal := Finset.univ.fold max ⊥ s

/-- The exponential weight of key `k`. -/
def wt {n : ℕ} (s : Fin n → EReal) (k : Fin n) : EReal := Ideal.exp (s k - top s)

/-- The weighted sum of the values over the sum of the weights. -/
def mean {n : ℕ} (s v : Fin n → EReal) : EReal := Ideal.div (∑ k, wt s k * v k) (∑ k, wt s k)

/-- The weighted mean with its greatest score and its scores spelled apart. -/
theorem mean_of {n : ℕ} (s s' v : Fin n → EReal) (h : ∀ k, s' k = s k) :
    Ideal.div (∑ k, Ideal.exp (s k - Finset.univ.fold max ⊥ s') * v k) (∑ k, Ideal.exp (s k - Finset.univ.fold max ⊥ s')) = mean s v := by
  rw [show s' = s from funext h]
  rfl

theorem le_top {n : ℕ} (s : Fin n → EReal) (k : Fin n) : s k ≤ top s :=
  Finset.le_sup (f := s) (Finset.mem_univ k)

theorem top_le {n : ℕ} (s : Fin n → EReal) (x : EReal) (h : ∀ k, s k ≤ x) : top s ≤ x :=
  Finset.sup_le (f := s) fun k _ => h k

/-- Scores that are `⊥` outside a window have the window's greatest score. -/
theorem top_window {N W : ℕ} (lo : ℕ) (hlo : lo + W ≤ N) (s : Fin N → EReal)
    (hs : ∀ P : Fin N, ¬(lo ≤ P.val ∧ P.val < lo + W) → s P = ⊥) :
    top s = top fun p : Fin W => s ⟨lo + p.val, by omega⟩ := by
  apply le_antisymm
  · refine top_le _ _ fun P => ?_
    by_cases h : lo ≤ P.val ∧ P.val < lo + W
    · have := le_top (fun p : Fin W => s ⟨lo + p.val, by omega⟩) ⟨P.val - lo, by omega⟩
      have e : (⟨lo + (P.val - lo), by omega⟩ : Fin N) = P := Fin.ext (show lo + (P.val - lo) = P.val by omega)
      simpa only [e] using this
    · rw [hs P h]; exact bot_le
  · exact top_le _ _ fun p => le_top s _

theorem wt_bot {n : ℕ} (s : Fin n → EReal) (k : Fin n) (h : s k = ⊥) : wt s k = 0 := by
  unfold wt
  rw [h, EReal.bot_sub]
  rfl

/-- Values matter only at keys whose score is not `⊥`. -/
theorem mean_congr {n : ℕ} (s s' v v' : Fin n → EReal) (hs : ∀ k, s k = s' k) (hv : ∀ k, s k ≠ ⊥ → v k = v' k) :
    mean s v = mean s' v' := by
  obtain rfl : s = s' := funext hs
  unfold mean
  refine congrArg (fun x => Ideal.div x _) (Finset.sum_congr rfl fun k _ => ?_)
  by_cases h : s k = ⊥
  · rw [wt_bot s k h, zero_mul, zero_mul]
  · rw [hv k h]

/-- Keys with score `⊥` drop out of the weighted mean. -/
theorem mean_window {N W : ℕ} (lo : ℕ) (hlo : lo + W ≤ N) (s v : Fin N → EReal)
    (hs : ∀ P : Fin N, ¬(lo ≤ P.val ∧ P.val < lo + W) → s P = ⊥) :
    mean s v = mean (fun p : Fin W => s ⟨lo + p.val, by omega⟩) fun p : Fin W => v ⟨lo + p.val, by omega⟩ := by
  unfold mean
  rw [sum_window lo hlo (fun k => wt s k * v k) fun P h => by rw [wt_bot s P (hs P h), zero_mul],
    sum_window lo hlo (fun k => wt s k) fun P h => wt_bot s P (hs P h)]
  unfold wt
  rw [top_window lo hlo s hs]

theorem exp_nonneg (x : EReal) : 0 ≤ Ideal.exp x := by
  induction x with
  | bot => exact le_refl _
  | top => exact OrderTop.le_top 0
  | coe r => rw [Ideal.exp_coe]; exact EReal.coe_nonneg.2 (Real.exp_pos r).le

theorem sum_mul {ι : Type*} (t : Finset ι) (f : ι → EReal) (c : EReal) (h0 : 0 ≤ c) (h1 : c ≠ ⊤) :
    (∑ k ∈ t, f k) * c = ∑ k ∈ t, f k * c := by
  classical
  induction t using Finset.induction_on with
  | empty => simp
  | insert a t ha ih => rw [Finset.sum_insert ha, Finset.sum_insert ha, EReal.right_distrib_of_nonneg_of_ne_top h0 h1, ih]

/-- The weights' sum is not zero when no score is `⊤` and some score is a real number. -/
theorem sum_ne_zero {n : ℕ} (s : Fin n → EReal) (ht : ∀ k, s k ≠ ⊤) (k₀ : Fin n) (hb : s k₀ ≠ ⊥) : ∑ k, wt s k ≠ 0 := by
  have h1 : top s ≠ ⊤ := by
    intro h
    have : top s < ⊤ := (Finset.sup_lt_iff (f := s) (by exact bot_lt_top)).2 fun k _ => lt_top_iff_ne_top.2 (ht k)
    exact this.ne h
  have h2 : top s ≠ ⊥ := fun h => hb (le_bot_iff.1 (h ▸ le_top s k₀))
  have h3 : 0 < wt s k₀ := by
    unfold wt
    lift top s to ℝ using ⟨h1, h2⟩ with a
    have hk := ht k₀
    lift s k₀ to ℝ using ⟨hk, hb⟩ with b
    rw [← EReal.coe_sub, Ideal.exp_coe]
    exact EReal.coe_pos.2 (Real.exp_pos _)
  exact (lt_of_lt_of_le h3 (Finset.single_le_sum (f := wt s) (fun k _ => exp_nonneg _) (Finset.mem_univ k₀))).ne'

/-- Dividing each weight by the weights' sum, the sum being nonzero. -/
theorem mean_eq {n : ℕ} (s v : Fin n → EReal) (h : ∑ k, wt s k ≠ 0) :
    mean s v = ∑ k, Ideal.div (wt s k) (∑ k, wt s k) * v k := by
  have h0 : 0 ≤ ∑ k, wt s k := Finset.sum_nonneg fun k _ => exp_nonneg _
  unfold mean
  generalize hL : ∑ k, wt s k = L at h h0 ⊢
  have hd : ∀ x, Ideal.div x L = x * L⁻¹ := fun x => by unfold Ideal.div; rw [if_neg h]
  have hi : L⁻¹ ≠ ⊤ := by
    induction L with
    | bot => simp
    | top => simp
    | coe r => rw [← EReal.coe_inv]; exact EReal.coe_ne_top _
  rw [hd, sum_mul _ _ _ (EReal.inv_nonneg_of_nonneg h0) hi]
  refine Finset.sum_congr rfl fun k _ => ?_
  rw [hd, mul_right_comm]

/-- A finite sum of products of real numbers is a real number. -/
theorem real_sum {n : ℕ} (x y : Fin n → EReal) (hx : ∀ k, ∃ r : ℝ, x k = r) (hy : ∀ k, ∃ r : ℝ, y k = r) :
    ∃ r : ℝ, ∑ k, x k * y k = r := by
  choose a ha using hx
  choose b hb using hy
  refine ⟨∑ k, a k * b k, ?_⟩
  have h : ∀ t : Finset (Fin n), ∑ k ∈ t, x k * y k = ((∑ k ∈ t, a k * b k : ℝ) : EReal) := fun t => by
    classical
    induction t using Finset.induction_on with
    | empty => simp
    | insert c t hc ih => rw [Finset.sum_insert hc, Finset.sum_insert hc, ih, ha, hb, EReal.coe_add, EReal.coe_mul]
  exact h _

end Soft

end
-- ==== Proof.AttnPays.lean ====
/-
  The chunked attention call's block arithmetic, read at one query row and one feature.
-/
module

public import proofs.«01_k».proof.Proof.Gen.KernelIdeal.Skeleton
public import proofs.«01_k».proof.Proof.Rows
public import proofs.«01_k».proof.Proof.Soft

@[expose] public section

set_option maxRecDepth 16384

noncomputable section

namespace Cert.KernelIdeal.Attn

open Cert.KernelIdeal Cert.KernelIdeal.Gen Idealize.ShloMosaic Idealize.ShloMosaic.TcCoe Idealize.SL.Sem Rows

/-- The score of the window's key `c` for query row `r` and head `a` of the pair, in a block of rows `128 i₁ …`. -/
def score (i : grid0.Coords) (q : Vec Ideal S1x128x128 .bf16) (k : Vec Ideal S1x640x128 .bf16)
    (b : Vec Ideal S2x128x640 .f32) (a : Fin 2) (r : Fin 128) (c : Fin 640) : EReal :=
  if 512 ≤ 128 * (i 1).val + c.val then
    (∑ l : Fin 64, q (ix3 0 r ⟨64 * a.val + l.val, by omega⟩) * k (ix3 0 c ⟨64 * a.val + l.val, by omega⟩)) + b (ix3 a r c)
  else ⊥

theorem lane_lt : ∀ n : Fin 128, IntOp.cmpi CmpIPredicate.slt (BitVec.ofNat 32 n.val) 64#32 = BitVec.ofBool (decide (n.val < 64)) := by
  decide +kernel

theorem in_seq : ∀ (n : Fin 32) (c : Fin 640), IntOp.cmpi CmpIPredicate.sge (BitVec.ofNat 32 c.val)
    (Scalar.subi (512#32) (Scalar.muli (BitVec.ofNat 32 n.val) 128#32)) = BitVec.ofBool (decide (512 ≤ 128 * n.val + c.val)) := by
  decide +kernel

theorem select_ofBool {α : Type} (p : Prop) [Decidable p] (x y : α) :
    Scalar.select (BitVec.ofBool (decide p)) x y = if p then x else y := by
  by_cases h : p <;> simp [h, Scalar.select]

theorem mask_bot : (Named.named κ "mask" 0xF149F2CA#32 : Ideal .f32) = (⊥ : EReal) := rfl

theorem low_sum (f : Fin 128 → EReal) : (∑ x : Fin 128, if x.val < 64 then f x else 0)
    = ∑ l : Fin 64, f ⟨64 * 0 + l.val, by omega⟩ := by
  rw [FinSumWindow.sum_window (W := 64) 0 (by omega) _ fun P h => if_neg (by omega)]
  refine Finset.sum_congr rfl fun l _ => ?_
  rw [if_pos (show 0 + l.val < 64 by omega)]

theorem high_sum (f : Fin 128 → EReal) : (∑ x : Fin 128, if x.val < 64 then 0 else f x)
    = ∑ l : Fin 64, f ⟨64 * 1 + l.val, by omega⟩ := by
  rw [FinSumWindow.sum_window (W := 64) 64 (by omega) _ fun P h => if_pos (by omega)]
  refine Finset.sum_congr rfl fun l _ => ?_
  rw [if_neg (show ¬ 64 + l.val < 64 by omega)]

theorem neg_inf : (Ideal.ofBits FTy.f32 0xFF800000#32 : EReal) = ⊥ := by
  simp [Ideal.ofBits, Ideal.ieee]

/-- One pair's stored block: each feature is its head's softmax-weighted mean of the values. -/
theorem pair_at (i : grid0.Coords) (q : Vec Ideal S1x128x128 .bf16) (k v : Vec Ideal S1x640x128 .bf16)
    (b : Vec Ideal S2x128x640 .f32) (r d : Fin 128) :
    k0_pay5 (F := Ideal) k0_pay2 (k0_pay4 i q k v b) (ix2 r d)
      = Soft.mean (score i q k b ⟨d.val / 64, by omega⟩ r) fun c => v (ix3 0 c d) := by
  have hv : ∀ c : Fin 640, _ := in_seq (i 1)
  pointwise [k0_pay5, k0_pay4, k0_pay2, k0_pay3]
  simp only [lane_lt, hv, select_ofBool, mask_bot, low_sum, high_sum, neg_inf]
  by_cases h : d.val < 64
  · refine (if_pos h).trans ?_
    refine (show _ = Soft.mean _ (fun c => v (ix3 0 c d)) from rfl).trans (congrArg (fun s => Soft.mean s fun c => v (ix3 0 c d)) (funext fun c => ?_))
    unfold score
    by_cases hc : 512 ≤ 128 * (i 1).val + c.val
    · refine (if_pos hc).trans (Eq.trans ?_ (if_pos hc).symm)
      have ha : (⟨d.val / 64, by omega⟩ : Fin 2) = 0 := Fin.ext (show d.val / 64 = 0 by omega)
      rw [ha]
      refine congrArg₂ (· + ·) rfl (congrArg b ?_)
      blk_ext
    · exact (if_neg hc).trans (if_neg hc).symm
  · refine (if_neg h).trans ?_
    have er : ∀ h, (⟨(128 + r.val) % 128, h⟩ : Fin 128) = r := fun _ => Fin.ext (show (128 + r.val) % 128 = r.val by omega)
    simp only [er]
    refine (show _ = Soft.mean _ (fun c => v (ix3 0 c d)) from rfl).trans (congrArg (fun s => Soft.mean s fun c => v (ix3 0 c d)) (funext fun c => ?_))
    unfold score
    by_cases hc : 512 ≤ 128 * (i 1).val + c.val
    · refine (if_pos hc).trans (Eq.trans ?_ (if_pos hc).symm)
      have ha : (⟨d.val / 64, by omega⟩ : Fin 2) = 1 := Fin.ext (show d.val / 64 = 1 by omega)
      rw [ha]
      refine congrArg₂ (· + ·) rfl (congrArg b ?_)
      blk_ext
    · exact (if_neg hc).trans (if_neg hc).symm

/-! The eight pairs' stored blocks, cut where the program cuts its text, are one function. -/

theorem e7 (i : grid0.Coords) (q : Vec Ideal S1x128x128 .bf16) (k v : Vec Ideal S1x640x128 .bf16) (b : Vec Ideal S2x128x640 .f32) :
    k0_pay7 (F := Ideal) (k0_pay6 k0_pay2 (k0_pay3 i) q k v b) = k0_pay5 k0_pay2 (k0_pay4 i q k v b) := rfl
theorem e9 (i : grid0.Coords) (q : Vec Ideal S1x128x128 .bf16) (k v : Vec Ideal S1x640x128 .bf16) (b : Vec Ideal S2x128x640 .f32) :
    k0_pay9 (F := Ideal) (k0_pay8 k0_pay2 (k0_pay3 i) q k v b) = k0_pay5 k0_pay2 (k0_pay4 i q k v b) := rfl
theorem e10 (i : grid0.Coords) (q : Vec Ideal S1x128x128 .bf16) (k v : Vec Ideal S1x640x128 .bf16) (b : Vec Ideal S2x128x640 .f32) :
    k0_pay10 (F := Ideal) k0_pay2 (k0_pay3 i) q k v b = k0_pay5 k0_pay2 (k0_pay4 i q k v b) := rfl
theorem e11 (i : grid0.Coords) (q : Vec Ideal S1x128x128 .bf16) (k v : Vec Ideal S1x640x128 .bf16) (b : Vec Ideal S2x128x640 .f32) :
    k0_pay11 (F := Ideal) k0_pay2 (k0_pay3 i) q k v b = k0_pay5 k0_pay2 (k0_pay4 i q k v b) := rfl
theorem e13 (i : grid0.Coords) (q : Vec Ideal S1x128x128 .bf16) (k v : Vec Ideal S1x640x128 .bf16) (b : Vec Ideal S2x128x640 .f32) :
    k0_pay13 (F := Ideal) k0_pay2 (k0_pay3 i) (k0_pay12 q) (Scalar.ofBits .bf16 0x0000#16) k v b = k0_pay5 k0_pay2 (k0_pay4 i q k v b) := rfl
theorem e15 (i : grid0.Coords) (q : Vec Ideal S1x128x128 .bf16) (k v : Vec Ideal S1x640x128 .bf16) (b : Vec Ideal S2x128x640 .f32) :
    k0_pay15 (F := Ideal) k0_pay2 (k0_pay3 i) (k0_pay14 k0_pay2 q) k v b = k0_pay5 k0_pay2 (k0_pay4 i q k v b) := rfl
theorem e17 (i : grid0.Coords) (q : Vec Ideal S1x128x128 .bf16) (k v : Vec Ideal S1x640x128 .bf16) (b : Vec Ideal S2x128x640 .f32) :
    k0_pay17 (F := Ideal) k0_pay2 (k0_pay3 i) (k0_pay16 k0_pay2 q) k v b = k0_pay5 k0_pay2 (k0_pay4 i q k v b) := rfl

/-- The stored output block: the residual block added to the heads' means projected by the output weights. -/
theorem out_pay (h : Vec Ideal S1x128x1024 .f32) (o : Vec Ideal S128x1024 .bf16) (w : Vec Ideal S1024x1024 .bf16)
    (r : Fin 128) (d : Fin 1024) :
    k0_pay1 (F := Ideal) (k0_pay18 h o w) (ix3 0 r d) = h (ix3 0 r d) + ∑ f : Fin 1024, o (ix2 r f) * w (ix2 f d) := by
  pointwise [k0_pay1, k0_pay18]

end Cert.KernelIdeal.Attn
-- ==== Proof.AttnPoint.lean ====
/-
  What one grid point of the chunked attention call leaves in its block of the result: row by row, the heads' softmax
  means projected and added to the residual.
-/
module

public import proofs.«01_k».proof.Proof.AttnPays
public import proofs.«01_k».proof.Proof.Gen.KernelIdeal.Frame

@[expose] public section

set_option maxRecDepth 16384

noncomputable section

namespace Cert.KernelIdeal.Attn

open Cert.KernelIdeal Cert.KernelIdeal.Gen Idealize.ShloMosaic Idealize.ShloMosaic.TcCoe Idealize.SL.Sem Rows

/-- The score of the window's key `c` for query row `r` and head `a`, at the grid point with coordinates `i`: the
    window starts at row `128 i₁` of the padded sequence. -/
def wscore (i : grid0.Coords) (q : Vec Ideal S1x128x1024 .bf16) (k : Vec Ideal S1x4608x1024 .bf16)
    (b : Vec Ideal S16x128x640 .f32) (a : Fin 16) (r : Fin 128) (c : Fin 640) : EReal :=
  if 512 ≤ 128 * (i 1).val + c.val then
    (∑ l : Fin 64, q (ix3 0 r ⟨64 * a.val + l.val, by omega⟩)
      * k (ix3 0 ⟨128 * (i 1).val + c.val, by have : (i 1).val < 32 := (i 1).isLt; omega⟩ ⟨64 * a.val + l.val, by omega⟩)) + b (ix3 a r c)
  else ⊥

/-- The attention output of row `r` at feature `f`, before its projection. -/
def heads (i : grid0.Coords) (q : Vec Ideal S1x128x1024 .bf16) (k v : Vec Ideal S1x4608x1024 .bf16)
    (b : Vec Ideal S16x128x640 .f32) (r : Fin 128) (f : Fin 1024) : EReal :=
  Soft.mean (wscore i q k b ⟨f.val / 64, by omega⟩ r)
    fun c => v (ix3 0 ⟨128 * (i 1).val + c.val, by have : (i 1).val < 32 := (i 1).isLt; omega⟩ f)

theorem heads_at (i : grid0.Coords) (p : ℕ) (hp : p < 8) (q : Vec Ideal S1x128x1024 .bf16) (k v : Vec Ideal S1x4608x1024 .bf16)
    (b : Vec Ideal S16x128x640 .f32) (q' : Vec Ideal S1x128x128 .bf16) (k' v' : Vec Ideal S1x640x128 .bf16)
    (b' : Vec Ideal S2x128x640 .f32)
    (hq : ∀ (r d : Fin 128) (f : Fin 1024), f.val = 128 * p + d.val → q' (ix3 0 r d) = q (ix3 0 r f))
    (hk : ∀ (c : Fin 640) (d : Fin 128) (s : Fin 4608) (f : Fin 1024), s.val = 128 * (i 1).val + c.val → f.val = 128 * p + d.val →
      k' (ix3 0 c d) = k (ix3 0 s f))
    (hv : ∀ (c : Fin 640) (d : Fin 128) (s : Fin 4608) (f : Fin 1024), s.val = 128 * (i 1).val + c.val → f.val = 128 * p + d.val →
      v' (ix3 0 c d) = v (ix3 0 s f))
    (hb : ∀ (a : Fin 2) (r : Fin 128) (c : Fin 640) (A : Fin 16), A.val = 2 * p + a.val → b' (ix3 a r c) = b (ix3 A r c))
    (r d : Fin 128) (f : Fin 1024) (hf : f.val = 128 * p + d.val) :
    k0_pay5 (F := Ideal) k0_pay2 (k0_pay4 i q' k' v' b') (ix2 r d) = heads i q k v b r f := by
  have hi : (i 1).val < 32 := (i 1).isLt
  rw [pair_at]
  unfold heads
  refine congrArg₂ Soft.mean (funext fun c => ?_) (funext fun c => hv c d _ f rfl hf)
  unfold score wscore
  by_cases hc : 512 ≤ 128 * (i 1).val + c.val
  · rw [if_pos hc, if_pos hc]
    refine congrArg₂ (· + ·) (Finset.sum_congr rfl fun l _ => congrArg₂ (· * ·) (hq _ _ _ ?_) (hk _ _ _ _ rfl ?_)) (hb _ _ _ _ ?_)
    · show 64 * (f.val / 64) + l.val = 128 * p + (64 * (d.val / 64) + l.val)
      omega
    · show 64 * (f.val / 64) + l.val = 128 * p + (64 * (d.val / 64) + l.val)
      omega
    · show f.val / 64 = 2 * p + d.val / 64
      omega
  · rw [if_neg hc, if_neg hc]

/-- The block of the result one grid point writes, read at row `r` and feature `d`. -/
def orow (i : grid0.Coords) (b0 : Vec Ideal S1x128x1024 .bf16) (b1 b2 : Vec Ideal S1x4608x1024 .bf16)
    (b3 : Vec Ideal S16x128x640 .f32) (b4 : Vec Ideal S1x128x1024 .f32) (b5 : Vec Ideal S1024x1024 .bf16)
    (r : Fin 128) (d : Fin 1024) : EReal :=
  b4 (ix3 0 r d) + ∑ f : Fin 1024, heads i b0 b1 b2 b3 r f * b5 (ix2 f d)

set_option maxHeartbeats 2000000 in
theorem out_at (c : Dev nD) (i : grid0.Coords) (arg2 : Memref sig .tc .vmem S1x128x1024 .bf16) (harg2 : arg2.IsWhole) (arg3 : Memref sig .tc .vmem S1x4608x1024 .bf16) (harg3 : arg3.IsWhole) (arg4 : Memref sig .tc .vmem S1x4608x1024 .bf16) (harg4 : arg4.IsWhole) (arg5 : Memref sig .tc .vmem S16x128x640 .f32) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1x128x1024 .f32) (harg8 : arg8.IsWhole) (arg9 : Memref sig .tc .vmem S128x1024 .bf16) (harg9 : arg9.IsWhole)
    (b0 : Vec Ideal S1x128x1024 .bf16) (b1 b2 : Vec Ideal S1x4608x1024 .bf16)
    (b3 : Vec Ideal S16x128x640 .f32) (b4 : Vec Ideal S1x128x1024 .f32) (b5 : Vec Ideal S1024x1024 .bf16) (y : S1x128x1024.Idx) :
    out0_A_6 c i arg2 harg2 arg3 harg3 arg4 harg4 arg5 harg5 arg6 harg6 arg7 harg7 arg8 harg8 arg9 harg9 b0 b1 b2 b3 b4 b5 y = orow i b0 b1 b2 b3 b4 b5 (y 1) (y 2) := by
  frame_open
  frame_out [e7, e9, e10, e11, e13, e15, e17]
  rw [View.readCov_of_blocks (Val := Elt Ideal) (e := .bf16) (s := S128x1024) 8 fun y => heads i b0 b1 b2 b3 (y 0) (y 1)]
  · idx_vars y
    obtain rfl : y0 = 0 := Subsingleton.elim _ _
    refine (out_pay _ _ _ _ _).trans ?_
    unfold orow
    refine congrArg₂ (· + ·) rfl (Finset.sum_congr rfl fun f _ => congrArg₂ (· * ·) (congrArg₂ (heads i b0 b1 b2 b3) (Fin.ext ?_) (Fin.ext ?_)) rfl)
    all_goals first
      | (show 0 + 1 * (y1 : ℕ) = y1; omega)
      | (show 0 + 1 * (f : ℕ) = f; omega)
      | (blk_simp; done)
      | (blk_simp; omega)
      | (blk_simp; simp; done)
      | (blk_simp; simp; omega)
  · exact fun j => View.cover_of_tiledL (s := S128x1024) _ ![128, 128] (by rfl) _
  refine ⟨?_, ?_, ?_, ?_, ?_, ?_, ?_, ?_, trivial⟩
  · intro j
    idx_vars j
    refine (heads_at i 7 (by omega) b0 b1 b2 b3 _ _ _ _ ?_ ?_ ?_ ?_ j0 j1 ⟨896 + j1, by omega⟩ (show 896 + j1.val = 128 * 7 + j1.val by omega)).trans
      (congrArg₂ (heads i b0 b1 b2 b3) (Fin.ext ?_) (Fin.ext ?_))
    · intro r d f h; pointwise; blk_ext
    · intro c d s f hs hf; pointwise; blk_ext [k0_off8_eq i]
    · intro c d s f hs hf; pointwise; blk_ext [k0_off8_eq i]
    · intro a r c A h; pointwise; blk_ext
    all_goals first
      | (blk_simp; done)
      | (blk_simp; omega)
      | (blk_simp; simp; done)
      | (blk_simp; simp; omega)
  · intro j
    idx_vars j
    refine (heads_at i 6 (by omega) b0 b1 b2 b3 _ _ _ _ ?_ ?_ ?_ ?_ j0 j1 ⟨768 + j1, by omega⟩ (show 768 + j1.val = 128 * 6 + j1.val by omega)).trans
      (congrArg₂ (heads i b0 b1 b2 b3) (Fin.ext ?_) (Fin.ext ?_))
    · intro r d f h; pointwise; blk_ext
    · intro c d s f hs hf; pointwise; blk_ext [k0_off7_eq i]
    · intro c d s f hs hf; pointwise; blk_ext [k0_off7_eq i]
    · intro a r c A h; pointwise; blk_ext
    all_goals first
      | (blk_simp; done)
      | (blk_simp; omega)
      | (blk_simp; simp; done)
      | (blk_simp; simp; omega)
  · intro j
    idx_vars j
    refine (heads_at i 5 (by omega) b0 b1 b2 b3 _ _ _ _ ?_ ?_ ?_ ?_ j0 j1 ⟨640 + j1, by omega⟩ (show 640 + j1.val = 128 * 5 + j1.val by omega)).trans
      (congrArg₂ (heads i b0 b1 b2 b3) (Fin.ext ?_) (Fin.ext ?_))
    · intro r d f h; pointwise; blk_ext
    · intro c d s f hs hf; pointwise; blk_ext [k0_off6_eq i]
    · intro c d s f hs hf; pointwise; blk_ext [k0_off6_eq i]
    · intro a r c A h; pointwise; blk_ext
    all_goals first
      | (blk_simp; done)
      | (blk_simp; omega)
      | (blk_simp; simp; done)
      | (blk_simp; simp; omega)
  · intro j
    idx_vars j
    refine (heads_at i 4 (by omega) b0 b1 b2 b3 _ _ _ _ ?_ ?_ ?_ ?_ j0 j1 ⟨512 + j1, by omega⟩ (show 512 + j1.val = 128 * 4 + j1.val by omega)).trans
      (congrArg₂ (heads i b0 b1 b2 b3) (Fin.ext ?_) (Fin.ext ?_))
    · intro r d f h; pointwise; blk_ext
    · intro c d s f hs hf; pointwise; blk_ext [k0_off5_eq i]
    · intro c d s f hs hf; pointwise; blk_ext [k0_off5_eq i]
    · intro a r c A h; pointwise; blk_ext
    all_goals first
      | (blk_simp; done)
      | (blk_simp; omega)
      | (blk_simp; simp; done)
      | (blk_simp; simp; omega)
  · intro j
    idx_vars j
    refine (heads_at i 3 (by omega) b0 b1 b2 b3 _ _ _ _ ?_ ?_ ?_ ?_ j0 j1 ⟨384 + j1, by omega⟩ (show 384 + j1.val = 128 * 3 + j1.val by omega)).trans
      (congrArg₂ (heads i b0 b1 b2 b3) (Fin.ext ?_) (Fin.ext ?_))
    · intro r d f h; pointwise; blk_ext
    · intro c d s f hs hf; pointwise; blk_ext [k0_off4_eq i]
    · intro c d s f hs hf; pointwise; blk_ext [k0_off4_eq i]
    · intro a r c A h; pointwise; blk_ext
    all_goals first
      | (blk_simp; done)
      | (blk_simp; omega)
      | (blk_simp; simp; done)
      | (blk_simp; simp; omega)
  · intro j
    idx_vars j
    refine (heads_at i 2 (by omega) b0 b1 b2 b3 _ _ _ _ ?_ ?_ ?_ ?_ j0 j1 ⟨256 + j1, by omega⟩ (show 256 + j1.val = 128 * 2 + j1.val by omega)).trans
      (congrArg₂ (heads i b0 b1 b2 b3) (Fin.ext ?_) (Fin.ext ?_))
    · intro r d f h; pointwise; blk_ext
    · intro c d s f hs hf; pointwise; blk_ext [k0_off3_eq i]
    · intro c d s f hs hf; pointwise; blk_ext [k0_off3_eq i]
    · intro a r c A h; pointwise; blk_ext
    all_goals first
      | (blk_simp; done)
      | (blk_simp; omega)
      | (blk_simp; simp; done)
      | (blk_simp; simp; omega)
  · intro j
    idx_vars j
    refine (heads_at i 1 (by omega) b0 b1 b2 b3 _ _ _ _ ?_ ?_ ?_ ?_ j0 j1 ⟨128 + j1, by omega⟩ (show 128 + j1.val = 128 * 1 + j1.val by omega)).trans
      (congrArg₂ (heads i b0 b1 b2 b3) (Fin.ext ?_) (Fin.ext ?_))
    · intro r d f h; pointwise; blk_ext
    · intro c d s f hs hf; pointwise; blk_ext [k0_off2_eq i]
    · intro c d s f hs hf; pointwise; blk_ext [k0_off2_eq i]
    · intro a r c A h; pointwise; blk_ext
    all_goals first
      | (blk_simp; done)
      | (blk_simp; omega)
      | (blk_simp; simp; done)
      | (blk_simp; simp; omega)
  · intro j
    idx_vars j
    refine (heads_at i 0 (by omega) b0 b1 b2 b3 _ _ _ _ ?_ ?_ ?_ ?_ j0 j1 ⟨0 + j1, by omega⟩ (show 0 + j1.val = 128 * 0 + j1.val by omega)).trans
      (congrArg₂ (heads i b0 b1 b2 b3) (Fin.ext ?_) (Fin.ext ?_))
    · intro r d f h; pointwise; blk_ext
    · intro c d s f hs hf; pointwise; blk_ext [k0_off1_eq i]
    · intro c d s f hs hf; pointwise; blk_ext [k0_off1_eq i]
    · intro a r c A h; pointwise; blk_ext
    all_goals first
      | (blk_simp; done)
      | (blk_simp; omega)
      | (blk_simp; simp; done)
      | (blk_simp; simp; omega)

end Cert.KernelIdeal.Attn
-- ==== Proof.AttnSpec.lean ====
/-
  Banded chunk attention as mathematics: each query of a chunk attends to its own chunk and the eight chunks before
  it, positions before the sequence's start masked, with a bias per head, query offset and band offset.
-/
module

public import proofs.«01_k».proof.Proof.AttnPoint

@[expose] public section

set_option maxRecDepth 16384

noncomputable section

namespace Cert.KernelIdeal.Attn

open Cert.KernelIdeal Cert.KernelIdeal.Gen Idealize.ShloMosaic Idealize.ShloMosaic.TcCoe Idealize.SL.Sem Rows
open Idealize.ShloMosaic.Pipeline (Dat)

/-- The queries times the attention scale, one over the square root of the head's width. -/
def scaled (q : FVec Ideal S8x4096x1024 .f32) : FVec Ideal S8x4096x1024 .f32 := fun i => q i * Ideal.ofBits .f32 0x3E000000#32

/-- The score of the (scaled) query at position `s` for the band's key `j`, head `a`: masked before the sequence's start. -/
def bscore (q k : FVec Ideal S8x4096x1024 .f32) (B : FVec Ideal S16x64x576 .f32) (b : Fin 8) (s : Fin 4096) (a : Fin 16)
    (j : Fin 576) : EReal :=
  if h : 512 ≤ 64 * (s.val / 64) + j.val then
    (∑ l : Fin 64, q (ix3 b s ⟨64 * a.val + l.val, by omega⟩)
      * k (ix3 b ⟨64 * (s.val / 64) + j.val - 512, by omega⟩ ⟨64 * a.val + l.val, by omega⟩)) + B (ix3 a ⟨s.val % 64, by omega⟩ j)
  else ⊥

/-- The value of the band's key `j` at feature `f`: zero before the sequence's start. -/
def bval (v : FVec Ideal S8x4096x1024 .f32) (b : Fin 8) (s : Fin 4096) (f : Fin 1024) (j : Fin 576) : EReal :=
  if h : 512 ≤ 64 * (s.val / 64) + j.val then v (ix3 b ⟨64 * (s.val / 64) + j.val - 512, by omega⟩ f) else 0

/-- The attention output at position `s` and feature `f`, before its projection. -/
def battn (q k v : FVec Ideal S8x4096x1024 .f32) (B : FVec Ideal S16x64x576 .f32) (b : Fin 8) (s : Fin 4096) (f : Fin 1024) : EReal :=
  Soft.mean (bscore q k B b s ⟨f.val / 64, by omega⟩) (bval v b s f)

/-- The result: the attention output projected and added to the residual. -/
def result (h : FVec Ideal S8x4096x1024 .f32) (q k v : FVec Ideal S8x4096x1024 .f32) (B : FVec Ideal S16x64x576 .f32)
    (wo : FVec Ideal S1024x1024 .f32) (b : Fin 8) (s : Fin 4096) (d : Fin 1024) : EReal :=
  h (ix3 b s d) + ∑ f : Fin 1024, battn q k v B b s f * wo (ix2 f d)

/-- Row `r` of a grid point whose blocks hold a batch's padded arrays and the bias laid out for two chunks. -/
theorem heads_eq (i : grid0.Coords) (q k v : FVec Ideal S8x4096x1024 .f32) (B : FVec Ideal S16x64x576 .f32)
    (b0 : Vec Ideal S1x128x1024 .bf16) (b1 b2 : Vec Ideal S1x4608x1024 .bf16) (b3 : Vec Ideal S16x128x640 .f32)
    (b : Fin 8) (s : Fin 4096) (r : Fin 128) (hs : s.val = 128 * (i 1).val + r.val)
    (hq : ∀ d, b0 (ix3 0 r d) = q (ix3 b s d))
    (hk : ∀ (P : Fin 4608) (u : Fin 4096) d, P.val = 512 + u.val → b1 (ix3 0 P d) = k (ix3 b u d))
    (hv : ∀ (P : Fin 4608) (u : Fin 4096) d, P.val = 512 + u.val → b2 (ix3 0 P d) = v (ix3 b u d))
    (hT : ∀ a (c : Fin 640) (j : Fin 576) (e : Fin 64), c.val = 64 * (r.val / 64) + j.val → e.val = r.val % 64 → b3 (ix3 a r c) = B (ix3 a e j))
    (hT' : ∀ a (c : Fin 640), ¬(64 * (r.val / 64) ≤ c.val ∧ c.val < 64 * (r.val / 64) + 576) → b3 (ix3 a r c) = ⊥)
    (f : Fin 1024) : heads i b0 b1 b2 b3 r f = battn q k v B b s f := by
  have hi : (i 1).val < 32 := (i 1).isLt
  unfold heads battn
  rw [Soft.mean_window (64 * (r.val / 64)) (by omega : 64 * (r.val / 64) + 576 ≤ 640)]
  · refine Soft.mean_congr _ _ _ _ (fun j => ?_) fun j hj => ?_
    · unfold wscore bscore
      by_cases h : 512 ≤ 64 * (s.val / 64) + j.val
      · rw [if_pos (show 512 ≤ 128 * (i 1).val + (64 * (r.val / 64) + j.val) by omega), dif_pos h]
        refine congrArg₂ (· + ·) (Finset.sum_congr rfl fun l _ => congrArg₂ (· * ·) (hq _) (hk _ _ _ ?_)) (hT _ _ j _ rfl ?_)
        · show 128 * (i 1).val + (64 * (r.val / 64) + j.val) = 512 + (64 * (s.val / 64) + j.val - 512)
          omega
        · show s.val % 64 = r.val % 64
          omega
      · rw [if_neg (show ¬ 512 ≤ 128 * (i 1).val + (64 * (r.val / 64) + j.val) by omega), dif_neg h]
    · have h : 512 ≤ 64 * (s.val / 64) + j.val := by
        by_contra h
        exact hj (if_neg (show ¬ 512 ≤ 128 * (i 1).val + (64 * (r.val / 64) + j.val) by omega))
      unfold bval
      rw [dif_pos h]
      refine hv _ _ _ ?_
      show 128 * (i 1).val + (64 * (r.val / 64) + j.val) = 512 + (64 * (s.val / 64) + j.val - 512)
      omega
  · intro c hc
    unfold wscore
    rw [hT' _ c hc, EReal.add_bot, ite_self]

end Cert.KernelIdeal.Attn
-- ==== Proof.AttnValue.lean ====
/-
  The chunked attention call's result array, read at one position and one feature.
-/
module

public import proofs.«01_k».proof.Proof.AttnSpec
public import proofs.«01_k».proof.Proof.Gen.KernelIdeal.Value
public import proofs.«01_k».proof.Proof.Gen.ReferenceIdeal.Read
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem Rows
open Idealize.ShloMosaic.Pipeline (Dat)

variable (m : (ℓ : Loc nD τ sig) → Buf (Elt Ideal) ℓ) (c : Dev nD)

theorem crd : ∀ t : Fin cfg0.N, ((grid0.coords t) 1).val = t.val % 32 :=
  (by decide +kernel : ∀ t : Fin grid0.N, _)

theorem idx : ∀ t : Fin cfg0.N, win0_0.index t = ![t.val / 32, t.val % 32 + 4, 0] ∧ win0_1.index t = ![t.val / 32, 0, 0] ∧
    win0_2.index t = ![t.val / 32, 0, 0] ∧ win0_3.index t = ![0, 0, 0] ∧ win0_4.index t = ![t.val / 32, t.val % 32, 0] ∧
    win0_5.index t = ![0, 0] ∧ win0_6.index t = ![t.val / 32, t.val % 32, 0] ∧ t.val < 256 :=
  (by decide +kernel : ∀ t : Fin grid0.N, _)

/-- A padded array past its padding is the array. -/
theorem pad_at (x : FVec Ideal S8x4096x1024 .bf16) (b : Fin 8) (P : Fin 4608) (f : Fin 1024) (s : Fin 4096) (h : P.val = 512 + s.val) :
    pad S8x4608x1024 ![0, 512, 0] ![0, 0, 0] ![0, 0, 0] x (constant S_ FTy.bf16 0#16)
      pads_S8x4096x1024_S8x4608x1024_000_51200_000 h_S_ (ix3 b P f) = x (ix3 b s f) := by
  pointwise
  rw [dif_pos (by omega)]
  blk_ext

theorem b0_at (t : Fin cfg0.N) (r : Fin 128) (d : Fin 1024) (b : Fin 8) (s : Fin 4096) (hb : b.val = t.val / 32)
    (hs : s.val = 128 * (t.val % 32) + r.val) :
    (iblk m c 0 t : Vec Ideal S1x128x1024 .bf16) (ix3 0 r d) = scaled (m ((c : Thread nD τ).loc main_arg1)) (ix3 b s d) := by
  blk_simp [iblk]
  entry_read
  refine Eq.trans (congrArg _ ?_) ((pad_at _ b ⟨512 + s.val, by omega⟩ d s rfl).trans rfl)
  blk_ext [idx t]

theorem b1_at (t : Fin cfg0.N) (P : Fin 4608) (d : Fin 1024) (b : Fin 8) (s : Fin 4096) (hb : b.val = t.val / 32)
    (hs : P.val = 512 + s.val) :
    (iblk m c 1 t : Vec Ideal S1x4608x1024 .bf16) (ix3 0 P d) = m ((c : Thread nD τ).loc main_arg2) (ix3 b s d) := by
  blk_simp [iblk]
  entry_read
  refine Eq.trans (congrArg _ ?_) ((pad_at _ b P d s hs).trans rfl)
  blk_ext [idx t]

theorem b2_at (t : Fin cfg0.N) (P : Fin 4608) (d : Fin 1024) (b : Fin 8) (s : Fin 4096) (hb : b.val = t.val / 32)
    (hs : P.val = 512 + s.val) :
    (iblk m c 2 t : Vec Ideal S1x4608x1024 .bf16) (ix3 0 P d) = m ((c : Thread nD τ).loc main_arg3) (ix3 b s d) := by
  blk_simp [iblk]
  entry_read
  refine Eq.trans (congrArg _ ?_) ((pad_at _ b P d s hs).trans rfl)
  blk_ext [idx t]

theorem b4_at (t : Fin cfg0.N) (r : Fin 128) (d : Fin 1024) (b : Fin 8) (s : Fin 4096) (hb : b.val = t.val / 32)
    (hs : s.val = 128 * (t.val % 32) + r.val) :
    (iblk m c 4 t : Vec Ideal S1x128x1024 .f32) (ix3 0 r d) = m ((c : Thread nD τ).loc main_arg0) (ix3 b s d) := by
  blk_simp [iblk]
  entry_read
  pointwise
  blk_ext [idx t]

theorem b5_at (t : Fin cfg0.N) (k j : Fin 1024) :
    (iblk m c 5 t : Vec Ideal S1024x1024 .bf16) (ix2 k j) = m ((c : Thread nD τ).loc main_arg5) (ix2 k j) := by
  blk_simp [iblk]
  entry_read
  pointwise
  blk_ext [idx t]

/-- The band's bias, gathered from the relative-position table: the reference's array. -/
abbrev band (x : FVec Ideal S16x513 .f32) : FVec Ideal S16x64x576 .f32 := Cert.ReferenceIdeal.Read.val_main_v43 (F := Ideal) x

/-- The bias laid out for two chunks: the second chunk's rows one chunk further right, `⊥` where neither band reaches. -/
def table (B : FVec Ideal S16x64x576 .f32) : FVec Ideal S16x128x640 .f32 :=
  concatenate S16x128x640 1
    [⟨S16x64x640, pad S16x64x640 ![0, 0, 0] ![0, 0, 64] ![0, 0, 0] B (constant S_ .f32 0xFF800000#32) pads_S16x64x576_S16x64x640_000_000_0640 h_S_⟩,
     ⟨S16x64x640, pad S16x64x640 ![0, 0, 64] ![0, 0, 0] ![0, 0, 0] B (constant S_ .f32 0xFF800000#32) pads_S16x64x576_S16x64x640_000_000_6400 h_S_⟩]
    concatenates_S16x64x640_S16x64x640_S16x128x640_d1

set_option maxHeartbeats 2000000 in
theorem V32 : V m c main_v32 = table (band (m ((c : Thread nD τ).loc main_arg4))) := by
  entry_read
  rfl

theorem table_in (B : FVec Ideal S16x64x576 .f32) (a : Fin 16) (r : Fin 128) (k : Fin 640) (j : Fin 576) (e : Fin 64)
    (hk : k.val = 64 * (r.val / 64) + j.val) (he : e.val = r.val % 64) : table B (ix3 a r k) = B (ix3 a e j) := by
  pointwise [table]
  by_cases h : r.val < 64
  · rw [dif_pos h, dif_pos (by omega)]
    blk_ext
  · rw [dif_neg h, dif_pos (by omega)]
    blk_ext

theorem table_out (B : FVec Ideal S16x64x576 .f32) (a : Fin 16) (r : Fin 128) (k : Fin 640)
    (hk : ¬(64 * (r.val / 64) ≤ k.val ∧ k.val < 64 * (r.val / 64) + 576)) : table B (ix3 a r k) = (⊥ : EReal) := by
  pointwise [table]
  by_cases h : r.val < 64
  · rw [dif_pos h, dif_neg (by omega)]
    exact neg_inf
  · rw [dif_neg h, dif_neg (by omega)]
    exact neg_inf

theorem b3_at (t : Fin cfg0.N) (a : Fin 16) (r : Fin 128) (k : Fin 640) :
    (iblk m c 3 t : Vec Ideal S16x128x640 .f32) (ix3 a r k) = table (band (m ((c : Thread nD τ).loc main_arg4))) (ix3 a r k) := by
  rw [← V32]
  blk_simp [iblk]
  refine congrArg _ ?_
  blk_ext [idx t]

/-- Row `r` of the block written at point `t` is the result at the position the row stands for. -/
theorem row_at (t : Fin cfg0.N) (r : Fin 128) (d : Fin 1024) (b : Fin 8) (s : Fin 4096) (hb : b.val = t.val / 32)
    (hs : s.val = 128 * (t.val % 32) + r.val) :
    orow (grid0.coords t) (iblk m c 0 t) (iblk m c 1 t) (iblk m c 2 t) (iblk m c 3 t) (iblk m c 4 t) (iblk m c 5 t) r d
      = result (m ((c : Thread nD τ).loc main_arg0)) (scaled (m ((c : Thread nD τ).loc main_arg1))) (m ((c : Thread nD τ).loc main_arg2))
          (m ((c : Thread nD τ).loc main_arg3)) (band (m ((c : Thread nD τ).loc main_arg4))) (m ((c : Thread nD τ).loc main_arg5)) b s d := by
  unfold orow result
  refine congrArg₂ (· + ·) (b4_at m c t r d b s hb hs) (Finset.sum_congr rfl fun f _ => congrArg₂ (· * ·) ?_ (b5_at m c t f d))
  exact heads_eq _ _ _ _ _ _ _ _ _ b s r (by rw [crd]; exact hs) (fun d => b0_at m c t r d b s hb hs)
    (fun P u d h => b1_at m c t P d b u hb h) (fun P u d h => b2_at m c t P d b u hb h)
    (fun a k j e hk he => (b3_at m c t a r k).trans (table_in _ a r k j e hk he))
    (fun a k hk => (b3_at m c t a r k).trans (table_out _ a r k hk)) f

/-- The result array after the run is banded chunk attention, projected and added to the residual. -/
theorem final : (dats m 0 c).arrAt 6 (cfgs 0).N = fun i : S8x4096x1024.Idx =>
    result (m ((c : Thread nD τ).loc main_arg0)) (scaled (m ((c : Thread nD τ).loc main_arg1))) (m ((c : Thread nD τ).loc main_arg2))
      (m ((c : Thread nD τ).loc main_arg3)) (band (m ((c : Thread nD τ).loc main_arg4))) (m ((c : Thread nD τ).loc main_arg5)) (i 0) (i 1) (i 2) := by
  refine (dats m 0 c).arrAt_eq_of_covers 6 _ (by decide +kernel) fun t _ y => ?_
  have h2 : ((((cfg0.win 6).blk t).view.emb y) 2 : Fin 1024) = (y 2 : Fin 1024) := by
    refine Fin.ext ?_
    blk_simp [idx t]
  have h1 : ((((cfg0.win 6).blk t).view.emb y) 1 : Fin 4096).val = 128 * (t.val % 32) + (y 1 : Fin 128).val := by
    blk_simp [idx t]
    omega
  have h0 : ((((cfg0.win 6).blk t).view.emb y) 0 : Fin 8).val = t.val / 32 := by
    blk_simp [idx t]
  have ht : t.val < 256 := (idx t).2.2.2.2.2.2.2
  refine Eq.trans ?_ (congrArg (result _ _ _ _ _ _ _ _) h2.symm)
  blk_simp
  rw [after0_6]
  unfold outsAt0
  exact (out_at (y := y) _ _ _ _ _ _ _ _ _ _ _ _ _ _ _ _ _ _ _ _ _ _ _ _).trans
    (row_at m c t (y 1) (y 2) _ _ h0 h1)

end Cert.KernelIdeal.Attn
-- ==== Proof.AttnRef.lean ====
/-
  The reference's result read at one position and one feature.
-/
module

public import proofs.«01_k».proof.Proof.AttnSpec
public import proofs.«01_k».proof.Proof.AttnPays
public import proofs.«01_k».proof.Proof.Gen.ReferenceIdeal.Read
public import proofs.«01_k».proof.Proof.Gen.Pre_finite
public import Idealize.ShloMosaic.Lib.Claim
public import Idealize.ShloMosaic.Lib.ReduceAll

@[expose] public section

set_option maxRecDepth 16384

noncomputable section

namespace Cert.ReferenceIdeal.Attn

open Cert.ReferenceIdeal Cert.ReferenceIdeal.Read Idealize.ShloMosaic Idealize.ShloMosaic.TcCoe Idealize.SL.Sem

open Cert.KernelIdeal.Attn (scaled bscore bval battn result)

/-- The band's entry `j` of a chunk: the key or value `64 c + j - 512`, zero before the sequence's start. -/
def bent (x : FVec Ideal S8x4096x1024 .f32) (b : Fin 8) (c : Fin 64) (j : Fin 576) (f : Fin 1024) : EReal :=
  if h : 512 ≤ 64 * c.val + j.val then x (ix3 b ⟨64 * c.val + j.val - 512, by omega⟩ f) else 0

theorem zero_f32 : FloatOps.sitofp (F := Ideal) FTy.f32 (0#32) = (0 : EReal) := by
  show (((0#32).toInt : ℝ) : EReal) = 0
  simp

theorem v3_at (x : FVec Ideal S8x4096x1024 .f32) (b : Fin 8) (p : Fin 72) (e : Fin 64) (a : Fin 16) (l : Fin 64)
    (c : Fin 64) (j : Fin 576) (f : Fin 1024) (hj : 64 * p.val + e.val = 64 * c.val + j.val) (hf : f.val = 64 * a.val + l.val) :
    val_main_v3 (F := Ideal) x (ix5 b p e a l) = bent x b c j f := by
  pointwise [val_main_v3, val_main_v1, val_main_call0_v0, val_main_c]
  unfold bent
  by_cases h : 8 ≤ p.val
  · rw [dif_pos (⟨h, by omega⟩ : 8 ≤ p.val ∧ p.val - 8 < 64), dif_pos (by omega)]
    exact congrArg x (by blk_ext)
  · rw [dif_neg (fun g : 8 ≤ p.val ∧ p.val - 8 < 64 => h g.1), dif_neg (by omega)]
    exact zero_f32

theorem v14_at (x : FVec Ideal S8x4096x1024 .f32) (i) : val_main_v14 (F := Ideal) x i = val_main_v3 (F := Ideal) x i := rfl

theorem v13_at (x : FVec Ideal S8x4096x1024 .f32) (b : Fin 8) (c : Fin 64) (j : Fin 576) (a : Fin 16) (l : Fin 64) (f : Fin 1024)
    (hf : f.val = 64 * a.val + l.val) : val_main_v13 (F := Ideal) x (ix5 b c j a l) = bent x b c j f := by
  pointwise [val_main_v13, val_main_v4, val_main_v5, val_main_v6, val_main_v7, val_main_v8, val_main_v9, val_main_v10, val_main_v11, val_main_v12]
  split_ifs
  all_goals exact v3_at x _ _ _ _ _ c j f (by simp only <;> omega) hf

theorem v24_at (x : FVec Ideal S8x4096x1024 .f32) (i) : val_main_v24 (F := Ideal) x i = val_main_v13 (F := Ideal) x i := rfl

/-- The chunk a band's key lies in, counted from the band's start: the offset over 64, rounded down. -/
theorem chunk_of (j : Fin 576) : val_main_v50 (F := Ideal) (ix2 0 j) = BitVec.ofNat 32 (j.val / 64) := by
  pointwise [val_main_v50, val_main_call3_v13, val_main_call3_v12, val_main_call3_c_0, val_main_call3_v11, val_main_call3_v10, val_main_call3_v9, val_main_call3_c, val_main_call3_v8, val_main_call3_v7, val_main_call3_v6, val_main_call3_v5, val_main_call3_v4, val_main_call3_v3, val_main_call3_v2, val_main_call3_v1, val_main_call3_v0, val_main_c_8, val_main_v49, val_main_v48]
  revert j
  decide +kernel

theorem in_seq : ∀ (c : Fin 64) (j : Fin 9), IntOp.cmpi CmpIPredicate.sge
      (IntOp.addi (IntOp.subi (BitVec.ofNat 32 c.val) 8#32) (BitVec.ofNat 32 j.val)) 0#32
    = BitVec.ofBool (decide (8 ≤ c.val + j.val)) := by
  decide +kernel

theorem v55_at (c : Fin 64) (j : Fin 576) :
    val_main_v55 (F := Ideal) (ix2 c j) = BitVec.ofBool (decide (512 ≤ 64 * c.val + j.val)) := by
  pointwise [val_main_v55, val_main_v54, val_main_c_9, val_main_v53, val_main_v52, val_main_v51, val_main_v47, val_main_v46, val_main_c_7, val_main_v45, val_main_v44]
  rw [chunk_of j]
  refine (in_seq c ⟨j.val / 64, by omega⟩).trans (congrArg BitVec.ofBool (decide_eq_decide.2 ?_))
  show 8 ≤ c.val + j.val / 64 ↔ 512 ≤ 64 * c.val + j.val
  omega

variable (x0 : FVec Ideal S8x4096x1024 .f32) (x1 x2 x3 : FVec Ideal S8x4096x1024 .f32) (x4 : FVec Ideal S16x513 .f32)
  (x5 : FVec Ideal S1024x1024 .f32)

/-- The attention scale is a number that is not negative. -/
theorem scale_real : ∃ r : ℝ, 0 ≤ r ∧ (Ideal.ofBits FTy.f32 0x3E000000#32 : EReal) = r := by
  refine ⟨_, ?_, by simp [Ideal.ofBits, Ideal.ieee]; rfl⟩
  positivity

/-- The scores of the query at position `64 c + e`. -/
theorem v64_at (b : Fin 8) (a : Fin 16) (c e : Fin 64) (j : Fin 576) (s : Fin 4096) (hs : s.val = 64 * c.val + e.val) :
    val_main_v64 (F := Ideal) x1 x2 x4 (ix5 b a c e j) = bscore (scaled x1) x2 (val_main_v43 (F := Ideal) x4) b s a j := by
  have hc : s.val / 64 = c.val := by omega
  obtain ⟨r, hr, er⟩ := scale_real
  pointwise [val_main_v64, val_main_call4_v1, val_main_v59, val_main_v63, val_main_v58, val_main_v57, val_main_cst, val_main_v56, val_main_v0, val_main_v62, val_main_v61, val_main_v60, val_main_call4_v2, val_main_call4_v0, val_main_cst_10]
  rw [v55_at, Cert.KernelIdeal.Attn.select_ofBool]
  unfold bscore
  by_cases h : 512 ≤ 64 * c.val + j.val
  · rw [if_pos h, dif_pos (by omega), Soft.sum_mul _ _ _ (er ▸ EReal.coe_nonneg.2 hr) (er ▸ EReal.coe_ne_top r)]
    refine congrArg₂ (· + ·) (Finset.sum_congr rfl fun l _ => (mul_right_comm _ _ _).trans
      (congrArg₂ (· * ·) (congrArg (scaled x1) (show _ = _ by blk_ext)) ?_))
      (congrArg (val_main_v43 (F := Ideal) x4) (by blk_ext))
    rw [v13_at x2 b c j a l ⟨64 * a.val + l.val, by omega⟩ rfl]
    unfold bent
    rw [dif_pos h]
    exact congrArg x2 (by blk_ext)
  · rw [if_neg h, dif_neg (by omega)]
    exact Cert.KernelIdeal.Attn.neg_inf

theorem v65_at (b : Fin 8) (a : Fin 16) (c e : Fin 64) (s : Fin 4096) (hs : s.val = 64 * c.val + e.val) :
    val_main_v65 (F := Ideal) x1 x2 x4 (ix4 b a c e) = Soft.top (bscore (scaled x1) x2 (val_main_v43 (F := Ideal) x4) b s a) := by
  pointwise [val_main_v65, val_main_cst_11]
  unfold Soft.top
  rw [Cert.KernelIdeal.Attn.neg_inf]
  exact congrArg (fun g => Finset.fold max (⊥ : EReal) g Finset.univ) (funext fun j => v64_at x1 x2 x4 b a c e j s hs)

theorem v66_at (i : S8x16x64x64.Idx) : val_main_v66 (F := Ideal) i = (⊥ : EReal) := by
  rw [val_main_v66_apply, val_main_cst_12_apply]
  exact Cert.KernelIdeal.Attn.neg_inf

theorem v67_at (b : Fin 8) (a : Fin 16) (c e : Fin 64) (s : Fin 4096) (hs : s.val = 64 * c.val + e.val) :
    val_main_v67 (F := Ideal) x1 x2 x4 (ix4 b a c e) = Soft.top (bscore (scaled x1) x2 (val_main_v43 (F := Ideal) x4) b s a) := by
  rw [val_main_v67_apply, v66_at, v65_at x1 x2 x4 b a c e s hs]
  exact max_bot_left _

theorem v71_at (b : Fin 8) (a : Fin 16) (c e : Fin 64) (j : Fin 576) (s : Fin 4096) (hs : s.val = 64 * c.val + e.val) :
    val_main_v71 (F := Ideal) x1 x2 x4 (ix5 b a c e j) = Soft.wt (bscore (scaled x1) x2 (val_main_v43 (F := Ideal) x4) b s a) j := by
  pointwise [val_main_v71, val_main_v70, val_main_v69, val_main_v68]
  rw [v64_at x1 x2 x4 b a c e j s hs, v67_at x1 x2 x4 b a c e s hs]
  rfl

theorem v75_at (b : Fin 8) (a : Fin 16) (c e : Fin 64) (j : Fin 576) (s : Fin 4096) (hs : s.val = 64 * c.val + e.val) :
    val_main_v75 (F := Ideal) x1 x2 x4 (ix5 b a c e j)
      = Ideal.div (Soft.wt (bscore (scaled x1) x2 (val_main_v43 (F := Ideal) x4) b s a) j)
          (∑ k, Soft.wt (bscore (scaled x1) x2 (val_main_v43 (F := Ideal) x4) b s a) k) := by
  pointwise [val_main_v75, val_main_v74, val_main_v73, val_main_v72, val_main_cst_13]
  rw [v71_at x1 x2 x4 b a c e j s hs, Finset.sum_congr rfl fun k _ => v71_at x1 x2 x4 b a c e k s hs]

/-- The attention output: the values weighted, each weight divided by the weights' sum. -/
theorem v78_at (b : Fin 8) (s : Fin 4096) (f : Fin 1024)
    (h : ∑ k, Soft.wt (bscore (scaled x1) x2 (val_main_v43 (F := Ideal) x4) b s ⟨f.val / 64, by omega⟩) k ≠ 0) :
    val_main_v78 (F := Ideal) x1 x2 x3 x4 (ix3 b s f) = battn (scaled x1) x2 x3 (val_main_v43 (F := Ideal) x4) b s f := by
  unfold battn
  rw [Soft.mean_eq _ _ h]
  pointwise [val_main_v78, val_main_v77, val_main_v76]
  refine Finset.sum_congr rfl fun j _ => ?_
  rw [v75_at x1 x2 x4 b _ _ _ j s (by simp only; omega), v24_at, v13_at x3 _ _ _ _ _ f (by simp only; omega), mul_comm]
  rfl

/-- A value whose absolute value compares below infinity is a number. -/
theorem real_of_lt (x y : EReal) (hy : y = ⊤) (h : Ideal.cmp .olt (max x (-x)) y = 1#1) : ∃ r : ℝ, x = r := by
  subst hy
  induction x with
  | bot => simp [Ideal.cmp] at h
  | top => simp [Ideal.cmp] at h
  | coe r => exact ⟨r, rfl⟩

theorem inf_f32 : (Ideal.ofBits FTy.f32 0x7F800000#32 : EReal) = ⊤ := by
  simp [Ideal.ofBits, Ideal.ieee]

/-! ## The sums of the weights are positive where the scores are numbers -/

section Finite

variable (hq : ∀ i, ∃ r : ℝ, x1 i = r) (hk : ∀ i, ∃ r : ℝ, x2 i = r) (hb : ∀ i, ∃ r : ℝ, x4 i = r)
include hq hk hb

/-- Every score in the sequence is a number. -/
theorem score_real (b : Fin 8) (s : Fin 4096) (a : Fin 16) (j : Fin 576) (h : 512 ≤ 64 * (s.val / 64) + j.val) :
    ∃ r : ℝ, bscore x1 x2 (val_main_v43 (F := Ideal) x4) b s a j = r := by
  unfold bscore
  rw [dif_pos h]
  obtain ⟨r, hr⟩ := Soft.real_sum (fun l : Fin 64 => x1 (ix3 b s ⟨64 * a.val + l.val, by omega⟩))
    (fun l => x2 (ix3 b ⟨64 * (s.val / 64) + j.val - 512, by omega⟩ ⟨64 * a.val + l.val, by omega⟩)) (fun l => hq _) fun l => hk _
  obtain ⟨t, ht⟩ : ∃ t : ℝ, val_main_v43 (F := Ideal) x4 (ix3 a ⟨s.val % 64, by omega⟩ j) = t := by
    unfold val_main_v43 Host.gather
    exact hb _
  exact ⟨r + t, by rw [hr, ht, EReal.coe_add]⟩

theorem weights (b : Fin 8) (s : Fin 4096) (a : Fin 16) :
    ∑ k, Soft.wt (bscore x1 x2 (val_main_v43 (F := Ideal) x4) b s a) k ≠ 0 := by
  refine Soft.sum_ne_zero _ (fun j => ?_) ⟨512 + s.val % 64, by omega⟩ ?_
  · by_cases h : 512 ≤ 64 * (s.val / 64) + j.val
    · obtain ⟨r, hr⟩ := score_real x1 x2 x4 hq hk hb b s a j h
      rw [hr]
      exact EReal.coe_ne_top r
    · unfold bscore
      rw [dif_neg h]
      exact bot_ne_top
  · obtain ⟨r, hr⟩ := score_real x1 x2 x4 hq hk hb b s a ⟨512 + s.val % 64, by omega⟩ (by simp only; omega)
    rw [hr]
    exact EReal.coe_ne_bot r

/-- The reference's result. -/
theorem v80_at (i : S8x4096x1024.Idx) :
    val_main_v80 (F := Ideal) x0 x1 x2 x3 x4 x5 i = result x0 (scaled x1) x2 x3 (val_main_v43 (F := Ideal) x4) x5 (i 0) (i 1) (i 2) := by
  have hs : ∀ i, ∃ r : ℝ, scaled x1 i = r := fun i => by
    obtain ⟨r, hr⟩ := hq i
    obtain ⟨t, -, ht⟩ := scale_real
    exact ⟨r * t, by unfold scaled; rw [hr, ht, EReal.coe_mul]⟩
  idx_vars i
  pointwise [val_main_v80, val_main_v79]
  unfold result
  refine congrArg₂ (· + ·) rfl (Finset.sum_congr rfl fun f _ => ?_)
  rw [v78_at x1 x2 x3 x4 _ _ _ (weights (scaled x1) x2 x4 hs hk hb _ _ _)]

end Finite

/-- What the precondition says: the queries, the keys and the relative bias are numbers. -/
theorem real_of_finite (h : Cert.Pre_finite.fn (F := Ideal) x0 x1 x2 x3 x4 x5 = fun _ => 1#1) :
    (∀ i, ∃ r : ℝ, x1 i = r) ∧ (∀ i, ∃ r : ℝ, x2 i = r) ∧ ∀ i, ∃ r : ℝ, x4 i = r := by
  have h0 := congrFun h ix0
  obtain ⟨h12, h3⟩ := IntOp.andi_eq_one.1 h0
  obtain ⟨h1, h2⟩ := IntOp.andi_eq_one.1 h12
  exact ⟨fun i => real_of_lt _ _ inf_f32 (Host.reduce_andi_all _ _ _ _ _ h1 i),
    fun i => real_of_lt _ _ inf_f32 (Host.reduce_andi_all _ _ _ _ _ h2 i),
    fun i => real_of_lt _ _ inf_f32 (Host.reduce_andi_all _ _ _ _ _ h3 i)⟩

end Cert.ReferenceIdeal.Attn
-- ==== Proof.Ffn2Pays.lean ====
/-
  The feed-forward call's block arithmetic, read at one row and one column.
-/
module

public import proofs.«01_k».proof.Proof.Gen.Kernel2Ideal.Skeleton
public import proofs.«01_k».proof.Proof.Rows

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Rows

/-- The SwiGLU activations of the block's row `r`. -/
def arow (b0 : Vec Ideal S512x1024 .f32) (b1 : Vec Ideal S1x1024 .f32) (b2 b3 : Vec Ideal S1024x2816 .bf16) (r : Fin 512) : Fin 2816 → EReal :=
  act (rms (fun k => b0 (ix2 r k)) fun k => b1 (ix2 0 k)) (fun k j => b2 (ix2 k j)) (fun k j => b3 (ix2 k j))

/-- What the scratch buffer of activations holds: its row `r` is the block's row `r`. -/
def abuf (b0 : Vec Ideal S512x1024 .f32) (b1 : Vec Ideal S1x1024 .f32) (b2 b3 : Vec Ideal S1024x2816 .bf16) : Vec Ideal S512x2816 .bf16 := fun i => arow b0 b1 b2 b3 (i 0) (i 1)

/-- The block's row `r` of the result. -/
def orow (b0 : Vec Ideal S512x1024 .f32) (b1 : Vec Ideal S1x1024 .f32) (b2 b3 : Vec Ideal S1024x2816 .bf16) (b4 : Vec Ideal S2816x1024 .bf16)
    (b5 : Vec Ideal S1x1024 .f32) (r : Fin 512) : Fin 1024 → EReal :=
  halfFfn (fun k => b0 (ix2 r k)) (fun k => b1 (ix2 0 k)) (fun k j => b2 (ix2 k j)) (fun k j => b3 (ix2 k j)) fun k j => b4 (ix2 k j)

/-- The SwiGLU block stored for one chunk of 256 hidden columns. -/
theorem pay5_at (hn : Vec Ideal S512x1024 .bf16) (a b : Vec Ideal S1024x256 .bf16) (r : Fin 512) (j : Fin 256) :
    k0_pay5 hn a b (ix2 r j) = swi (vecMat (fun k => hn (ix2 r k)) (fun k j => a (ix2 k j)) j)
      (vecMat (fun k => hn (ix2 r k)) (fun k j => b (ix2 k j)) j) := by
  pointwise [k0_pay5, swi, vecMat]
  rfl

/-- The normalised rows. -/
theorem pay4_at (x : Vec Ideal S512x1024 .f32) (g : Vec Ideal S1x1024 .f32) (r : Fin 512) (d : Fin 1024) :
    k0_pay4 x g (ix2 r d) = rms (fun k => x (ix2 r k)) (fun k => g (ix2 0 k)) d := by
  pointwise [k0_pay4, k0_pay3, rms]

/-- One stored block of SwiGLU activations: hidden columns `col` onward. -/
theorem chunk_at (col : ℕ) (x : Vec Ideal S512x1024 .f32) (g : Vec Ideal S1x1024 .f32) (a b : Vec Ideal S1024x256 .bf16)
    (b2 b3 : Vec Ideal S1024x2816 .bf16)
    (ha : ∀ k (j : Fin 256) (f : Fin 2816), (f : ℕ) = col + j → a (ix2 k j) = b2 (ix2 k f))
    (hb : ∀ k (j : Fin 256) (f : Fin 2816), (f : ℕ) = col + j → b (ix2 k j) = b3 (ix2 k f))
    (r : Fin 512) (j : Fin 256) (f : Fin 2816) (hf : (f : ℕ) = col + j) :
    k0_pay5 (k0_pay4 x g) a b (ix2 r j) = arow x g b2 b3 r f := by
  rw [pay5_at]
  unfold arow act vecMat
  simp only [pay4_at, ha _ j f hf, hb _ j f hf]

/-- The half-weighted network output added to the residual row. -/
theorem tail_at (x : Vec Ideal S512x1024 .f32) (a : Vec Ideal S512x2816 .bf16) (A : Fin 2816 → EReal)
    (wd : Vec Ideal S2816x1024 .bf16) (r : Fin 512) (d : Fin 1024) (hA : (fun f => a (ix2 r f)) = A) :
    k0_pay2 (k0_pay3 x) a wd (ix2 r d) = x (ix2 r d) + Ideal.ofBits .f32 0x3F000000#32 * vecMat A (fun k j => wd (ix2 k j)) d := by
  subst hA
  pointwise [k0_pay2, k0_pay3, vecMat]

/-! ## The body's pieces, cut where the program cuts its text, are the same function -/

theorem e6 (hn : Vec Ideal S512x1024 .bf16) (a b : Vec Ideal S1024x256 .bf16) : k0_pay6 hn a b = k0_pay5 hn a b := rfl
theorem e7 (hn : Vec Ideal S512x1024 .bf16) (a b : Vec Ideal S1024x256 .bf16) : k0_pay7 hn a b = k0_pay5 hn a b := rfl
theorem e11 (hn : Vec Ideal S512x1024 .bf16) (a b : Vec Ideal S1024x256 .bf16) : k0_pay11 hn a b = k0_pay5 hn a b := rfl
theorem e13 (hn : Vec Ideal S512x1024 .bf16) (a b : Vec Ideal S1024x256 .bf16) : k0_pay13 hn a b = k0_pay5 hn a b := rfl
theorem e14 (hn : Vec Ideal S512x1024 .bf16) (a b : Vec Ideal S1024x256 .bf16) : k0_pay14 hn a b = k0_pay5 hn a b := rfl
theorem e17 (hn : Vec Ideal S512x1024 .bf16) (a b : Vec Ideal S1024x256 .bf16) : k0_pay17 hn a b = k0_pay5 hn a b := rfl
theorem e10 (hn : Vec Ideal S512x1024 .bf16) (a b : Vec Ideal S1024x256 .bf16) : k0_pay10 hn (k0_pay8 hn a) (k0_pay9 b) (constant S512x256 .f32 0x00000000#32) = k0_pay5 hn a b := rfl
theorem e16 (hn : Vec Ideal S512x1024 .bf16) (a b : Vec Ideal S1024x256 .bf16) : k0_pay16 hn (k0_pay15 hn a) b = k0_pay5 hn a b := rfl
theorem e18 (hn : Vec Ideal S512x1024 .bf16) (a b : Vec Ideal S1024x256 .bf16) : k0_pay1 (k0_pay18 hn a b) = k0_pay5 hn a b := rfl
theorem e12 (hn : Vec Ideal S512x1024 .bf16) (a b : Vec Ideal S1024x256 .bf16) : k0_pay12 hn a b = k0_pay5 hn a b := rfl

end Cert.Kernel2Ideal.Ffn
-- ==== Proof.Ffn2Point.lean ====
/-
  What one grid point of the feed-forward call leaves in its block of the result, row by row.
-/
module

public import proofs.«01_k».proof.Proof.Ffn2Pays
public import proofs.«01_k».proof.Proof.Gen.Kernel2Ideal.Frame

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Rows

set_option maxHeartbeats 2000000 in
theorem out_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x2816 .bf16) (harg9 : arg9.IsWhole)
    (b0 : Vec Ideal S512x1024 .f32) (b1 : Vec Ideal S1x1024 .f32) (b2 : Vec Ideal S1024x2816 .bf16) (b3 : Vec Ideal S1024x2816 .bf16) (b4 : Vec Ideal S2816x1024 .bf16) (b5 : Vec Ideal S1x1024 .f32)
    (y : S512x1024.Idx) :
    out0_A_6 c i arg1 harg1 arg2 harg2 arg3 harg3 arg4 harg4 arg5 harg5 arg6 harg6 arg7 harg7 arg8 harg8 arg9 harg9 b0 b1 b2 b3 b4 b5 y = orow b0 b1 b2 b3 b4 b5 (y 0) (y 1) := by
  frame_open
  simp (disch := decide) only [↓ View.readCov_skip]
  frame_out [e6, e7, e11, e13, e14, e17, e10, e16, e18, e12]
  idx_vars y
  rw [View.readCov_of_blocks (Val := Elt Ideal) (e := .bf16) (s := S512x2816) 11 (abuf b0 b1 b2 b3)]
  · refine (tail_at b0 _ (arow b0 b1 b2 b3 y0) b4 y0 y1 ?_).trans rfl
    funext f
    refine congrArg₂ (arow b0 b1 b2 b3) (Fin.ext ?_) (Fin.ext ?_)
    · show 0 + 1 * (y0 : ℕ) = y0
      omega
    · show 0 + 1 * (f : ℕ) = f
      omega
  · exact fun j => View.cover_of_tiledL (s := S512x2816) _ ![512, 256] (by rfl) _
  refine ⟨?_, ?_, ?_, ?_, ?_, ?_, ?_, ?_, ?_, ?_, ?_, trivial⟩
  · intro j
    idx_vars j
    refine (chunk_at 2560 b0 b1 _ _ b2 b3 ?_ ?_ j0 j1 ⟨2560 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 2304 b0 b1 _ _ b2 b3 ?_ ?_ j0 j1 ⟨2304 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 2048 b0 b1 _ _ b2 b3 ?_ ?_ j0 j1 ⟨2048 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1792 b0 b1 _ _ b2 b3 ?_ ?_ j0 j1 ⟨1792 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1536 b0 b1 _ _ b2 b3 ?_ ?_ j0 j1 ⟨1536 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1280 b0 b1 _ _ b2 b3 ?_ ?_ j0 j1 ⟨1280 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1024 b0 b1 _ _ b2 b3 ?_ ?_ j0 j1 ⟨1024 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 768 b0 b1 _ _ b2 b3 ?_ ?_ j0 j1 ⟨768 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 512 b0 b1 _ _ b2 b3 ?_ ?_ j0 j1 ⟨512 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 256 b0 b1 _ _ b2 b3 ?_ ?_ j0 j1 ⟨256 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 0 b0 b1 _ _ b2 b3 ?_ ?_ j0 j1 ⟨0 + j1, by omega⟩ rfl).trans
      (congrArg₂ (arow b0 b1 b2 b3) (Fin.ext ?_) (Fin.ext ?_))
    all_goals first
      | (intro k l f h; pointwise; blk_ext; done)
      | (blk_simp; done)
      | (blk_simp; omega)

end Cert.Kernel2Ideal.Ffn
-- ==== Proof.Ffn2Value.lean ====
/-
  The feed-forward call's result array, read at one token and one feature.
-/
module

public import proofs.«01_k».proof.Proof.Ffn2Point
public import proofs.«01_k».proof.Proof.Gen.Kernel2Ideal.Value
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem Rows
open Idealize.ShloMosaic.Pipeline (Dat)

/-- The result at batch `b`, position `s`: half a feed-forward network added to the residual stream. -/
def out (h : FVec Ideal S8x4096x1024 .f32) (g : FVec Ideal S1024 .f32) (wg wu : FVec Ideal S1024x2816 .f32)
    (wd : FVec Ideal S2816x1024 .f32) (b : Fin 8) (s : Fin 4096) : Fin 1024 → EReal :=
  halfFfn (fun k => h (ix3 b s k)) (fun k => g (ix1 k)) (fun k j => wg (ix2 k j)) (fun k j => wu (ix2 k j)) fun k j => wd (ix2 k j)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ t.val < 64 :=
  (by decide +kernel : ∀ t : Fin grid0.N, _)

theorem b0_at (t : Fin cfg0.N) (r : Fin 512) (k : Fin 1024) (b : Fin 8) (s : Fin 4096) (h : (b : ℕ) * 4096 + s = t.val * 512 + r) :
    (iblk m c 0 t : Vec Ideal S512x1024 .f32) (ix2 r k) = m ((c : Thread nD τ).loc main_arg0) (ix3 b s k) := by
  blk_simp [iblk]
  entry_read
  pointwise
  blk_ext [idx t]

theorem b1_at (t : Fin cfg0.N) (k : Fin 1024) :
    (iblk m c 1 t : Vec Ideal S1x1024 .f32) (ix2 0 k) = m ((c : Thread nD τ).loc main_arg1) (ix1 k) := by
  blk_simp [iblk]
  entry_read
  pointwise
  blk_ext [idx t]

theorem b2_at (t : Fin cfg0.N) (k : Fin 1024) (j : Fin 2816) :
    (iblk m c 2 t : Vec Ideal S1024x2816 .bf16) (ix2 k j) = m ((c : Thread nD τ).loc main_arg2) (ix2 k j) := by
  blk_simp [iblk]
  entry_read
  pointwise
  blk_ext [idx t]

theorem b3_at (t : Fin cfg0.N) (k : Fin 1024) (j : Fin 2816) :
    (iblk m c 3 t : Vec Ideal S1024x2816 .bf16) (ix2 k j) = m ((c : Thread nD τ).loc main_arg3) (ix2 k j) := by
  blk_simp [iblk]
  entry_read
  pointwise
  blk_ext [idx t]

theorem b4_at (t : Fin cfg0.N) (k : Fin 2816) (j : Fin 1024) :
    (iblk m c 4 t : Vec Ideal S2816x1024 .bf16) (ix2 k j) = m ((c : Thread nD τ).loc main_arg4) (ix2 k j) := by
  blk_simp [iblk]
  entry_read
  pointwise
  blk_ext [idx t]

/-- Row `r` of the block written at point `t` is the result at the token the row stands for. -/
theorem row_at (t : Fin cfg0.N) (r : Fin 512) (d : Fin 1024) (b : Fin 8) (s : Fin 4096) (h : (b : ℕ) * 4096 + s = t.val * 512 + r) :
    orow (iblk m c 0 t) (iblk m c 1 t) (iblk m c 2 t) (iblk m c 3 t) (iblk m c 4 t) (iblk m c 5 t) r d
      = out (m ((c : Thread nD τ).loc main_arg0)) (m ((c : Thread nD τ).loc main_arg1)) (m ((c : Thread nD τ).loc main_arg2)) (m ((c : Thread nD τ).loc main_arg3)) (m ((c : Thread nD τ).loc main_arg4)) b s d := by
  unfold orow out
  congr 1
  · exact funext fun k => b0_at m c t r k b s h
  · exact funext fun k => b1_at m c t k
  · exact funext fun k => funext fun j => b2_at m c t k j
  · exact funext fun k => funext fun j => b3_at m c t k j
  · exact funext fun k => funext fun j => b4_at m c t k j

/-- The result array after the run: row `4096 b + s` is the result at batch `b`, position `s`. -/
theorem final : (dats m 0 c).arrAt 6 (cfgs 0).N = fun i : S32768x1024.Idx =>
    byRow (out (m ((c : Thread nD τ).loc main_arg0)) (m ((c : Thread nD τ).loc main_arg1)) (m ((c : Thread nD τ).loc main_arg2)) (m ((c : Thread nD τ).loc main_arg3)) (m ((c : Thread nD τ).loc main_arg4))) (i 0) (i 1) := by
  refine (dats m 0 c).arrAt_eq_of_covers 6 _ (by decide +kernel) fun t _ y => ?_
  have h1 : ((((cfg0.win 6).blk t).view.emb y) 1 : Fin 1024) = (y 1 : Fin 1024) := by
    refine Fin.ext ?_
    blk_simp [idx t]
  have h0 : ((((cfg0.win 6).blk t).view.emb y) 0 : Fin 32768).val = t.val * 512 + (y 0 : Fin 512).val := by
    blk_simp [idx t]
  have ht : t.val < 64 := (idx t).2.2.2.2.2.2.2
  have hy : (y 0 : Fin 512).val < 512 := (y 0 : Fin 512).isLt
  refine Eq.trans ?_ (byRow_eq _ _ _ _ ⟨t.val / 8, by omega⟩ ⟨t.val % 8 * 512 + (y 0 : Fin 512).val, by omega⟩
    (h0.trans (by simp only; omega)) h1).symm
  blk_simp
  rw [after0_6]
  unfold outsAt0
  exact (out_at (y := y) _ _ _ _ _ _ _ _ _ _ _ _ _ _ _ _ _ _ _ _ _ _ _ _ _ _).trans
    (row_at m c t (y 0) (y 1) _ _ (by simp only; omega))

end Cert.Kernel2Ideal.Ffn
-- ==== Proof.Ffn2Ref.lean ====
/-
  The reference of the feed-forward call, read at one token and one feature.
-/
module

public import proofs.«01_k».proof.Proof.Gen.Reference2Ideal.Read
public import proofs.«01_k».proof.Proof.Rows

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem Rows

variable (x0 : FVec Ideal S8x4096x1024 .f32) (x1 : FVec Ideal S1024 .f32) (x2 x3 : FVec Ideal S1024x2816 .f32)
    (x4 : FVec Ideal S2816x1024 .f32)
    (b : Fin 8) (s : Fin 4096)

theorem v12_at (d : Fin 1024) : val_main_v12 (F := Ideal) x0 x1 (ix3 b s d)
    = rms (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v16_at (f : Fin 2816) : val_main_v16 (F := Ideal) x0 x1 x2 x3 (ix3 b s f)
    = act (fun k => val_main_v12 (F := Ideal) x0 x1 (ix3 b s k)) (fun k j => x2 (ix2 k j)) (fun k j => x3 (ix2 k j)) f := by
  pointwise [val_main_v16, val_main_v15, val_main_v14, val_main_call0_v5, val_main_call0_v4, val_main_call0_cst_0,
    val_main_call0_v3, val_main_call0_v2, val_main_call0_cst, val_main_call0_v1, val_main_call0_v0, val_main_v13, act, swi, vecMat]

theorem v20_at (d : Fin 1024) : val_main_v20 (F := Ideal) x0 x1 x2 x3 x4 (ix3 b s d)
    = x0 (ix3 b s d)
      + Ideal.ofBits .f32 0x3F000000#32 * vecMat (fun k => val_main_v16 (F := Ideal) x0 x1 x2 x3 (ix3 b s k)) (fun k j => x4 (ix2 k j)) d := by
  pointwise [val_main_v20, val_main_v19, val_main_v18, val_main_v17, val_main_cst_2, vecMat]

theorem v20_row (d : Fin 1024) : val_main_v20 (F := Ideal) x0 x1 x2 x3 x4 (ix3 b s d)
    = (halfFfn (fun k => x0 (ix3 b s k)) (fun k => x1 (ix1 k)) (fun k j => x2 (ix2 k j)) (fun k j => x3 (ix2 k j)) fun k j => x4 (ix2 k j)) d := by
  have e12 : (fun k => val_main_v12 (F := Ideal) x0 x1 (ix3 b s k)) = rms (fun k => x0 (ix3 b s k)) fun k => x1 (ix1 k) :=
    funext (v12_at x0 x1 b s)
  unfold halfFfn
  rw [v20_at]
  congr 3
  funext f
  rw [v16_at, e12]

/-- The reference's result array: row `4096 b + s` is the result at batch `b`, position `s`. -/
theorem v21_at (i : S32768x1024.Idx) : val_main_v21 (F := Ideal) x0 x1 x2 x3 x4 i
    = byRow (fun b s => halfFfn (fun k => x0 (ix3 b s k)) (fun k => x1 (ix1 k)) (fun k j => x2 (ix2 k j)) (fun k j => x3 (ix2 k j)) fun k j => x4 (ix2 k j)) (i 0) (i 1) := by
  idx_vars i
  have e : val_main_v21 (F := Ideal) x0 x1 x2 x3 x4 (ix2 i0 i1)
      = val_main_v20 (F := Ideal) x0 x1 x2 x3 x4 (ix3 ⟨i0 / 4096, by omega⟩ ⟨i0 % 4096, by omega⟩ i1) := by
    pointwise [val_main_v21]
  rw [e]
  exact v20_row x0 x1 x2 x3 x4 _ _ i1

end Cert.Reference2Ideal.Ffn
-- ==== Proof.Ffn3Pays.lean ====
/-
  The last feed-forward call's block arithmetic, read at one row and one column.
-/
module

public import proofs.«01_k».proof.Proof.Gen.Kernel3Ideal.Skeleton
public import proofs.«01_k».proof.Proof.Rows

@[expose] public section

set_option maxRecDepth 16384

noncomputable section

namespace Cert.Kernel3Ideal.Ffn

open Cert.Kernel3Ideal Cert.Kernel3Ideal.Gen Idealize.ShloMosaic Idealize.ShloMosaic.TcCoe Idealize.SL.Sem Rows

/-- The SwiGLU activations of the block's row `r`. -/
def arow (b0 : Vec Ideal S512x1024 .f32) (b1 : Vec Ideal S1x1024 .f32) (b2 b3 : Vec Ideal S1024x2816 .bf16) (r : Fin 512) : Fin 2816 → EReal :=
  act (rms (fun k => b0 (ix2 r k)) fun k => b1 (ix2 0 k)) (fun k j => b2 (ix2 k j)) (fun k j => b3 (ix2 k j))

/-- What the scratch buffer of activations holds: its row `r` is the block's row `r`. -/
def abuf (b0 : Vec Ideal S512x1024 .f32) (b1 : Vec Ideal S1x1024 .f32) (b2 b3 : Vec Ideal S1024x2816 .bf16) : Vec Ideal S512x2816 .bf16 := fun i => arow b0 b1 b2 b3 (i 0) (i 1)

/-- The block's row `r` of the result. -/
def orow (b0 : Vec Ideal S512x1024 .f32) (b1 : Vec Ideal S1x1024 .f32) (b2 b3 : Vec Ideal S1024x2816 .bf16) (b4 : Vec Ideal S2816x1024 .bf16)
    (b5 : Vec Ideal S1x1024 .f32) (r : Fin 512) : Fin 1024 → EReal :=
  rms (halfFfn (fun k => b0 (ix2 r k)) (fun k => b1 (ix2 0 k)) (fun k j => b2 (ix2 k j)) (fun k j => b3 (ix2 k j)) fun k j => b4 (ix2 k j)) fun k => b5 (ix2 0 k)

/-- The SwiGLU block stored for one chunk of 256 hidden columns. -/
theorem pay5_at (hn : Vec Ideal S512x1024 .bf16) (a b : Vec Ideal S1024x256 .bf16) (r : Fin 512) (j : Fin 256) :
    k0_pay5 hn a b (ix2 r j) = swi (vecMat (fun k => hn (ix2 r k)) (fun k j => a (ix2 k j)) j)
      (vecMat (fun k => hn (ix2 r k)) (fun k j => b (ix2 k j)) j) := by
  pointwise [k0_pay5, swi, vecMat]
  rfl

/-- The normalised rows. -/
theorem pay4_at (x : Vec Ideal S512x1024 .f32) (g : Vec Ideal S1x1024 .f32) (r : Fin 512) (d : Fin 1024) :
    k0_pay4 x g (ix2 r d) = rms (fun k => x (ix2 r k)) (fun k => g (ix2 0 k)) d := by
  pointwise [k0_pay4, k0_pay3, rms]

/-- One stored block of SwiGLU activations: hidden columns `col` onward. -/
theorem chunk_at (col : ℕ) (x : Vec Ideal S512x1024 .f32) (g : Vec Ideal S1x1024 .f32) (a b : Vec Ideal S1024x256 .bf16)
    (b2 b3 : Vec Ideal S1024x2816 .bf16)
    (ha : ∀ k (j : Fin 256) (f : Fin 2816), (f : ℕ) = col + j → a (ix2 k j) = b2 (ix2 k f))
    (hb : ∀ k (j : Fin 256) (f : Fin 2816), (f : ℕ) = col + j → b (ix2 k j) = b3 (ix2 k f))
    (r : Fin 512) (j : Fin 256) (f : Fin 2816) (hf : (f : ℕ) = col + j) :
    k0_pay5 (k0_pay4 x g) a b (ix2 r j) = arow x g b2 b3 r f := by
  rw [pay5_at]
  unfold arow act vecMat
  simp only [pay4_at, ha _ j f hf, hb _ j f hf]

/-- The half-weighted network output added to the residual row, then the final norm. -/
theorem tail_at (x : Vec Ideal S512x1024 .f32) (a : Vec Ideal S512x2816 .bf16) (A : Fin 2816 → EReal)
    (wd : Vec Ideal S2816x1024 .bf16) (g : Vec Ideal S1x1024 .f32) (r : Fin 512) (d : Fin 1024) (hA : (fun f => a (ix2 r f)) = A) :
    k0_pay2 (k0_pay3 x) a wd g (ix2 r d)
      = rms (fun k => x (ix2 r k) + Ideal.ofBits .f32 0x3F000000#32 * vecMat A (fun k j => wd (ix2 k j)) k) (fun k => g (ix2 0 k)) d := by
  subst hA
  pointwise [k0_pay2, k0_pay3, rms, vecMat]

/-! ## The body's pieces, cut where the program cuts its text, are the same function -/

theorem e6 (hn : Vec Ideal S512x1024 .bf16) (a b : Vec Ideal S1024x256 .bf16) : k0_pay6 hn a b = k0_pay5 hn a b := rfl
theorem e7 (hn : Vec Ideal S512x1024 .bf16) (a b : Vec Ideal S1024x256 .bf16) : k0_pay7 hn a b = k0_pay5 hn a b := rfl
theorem e11 (hn : Vec Ideal S512x1024 .bf16) (a b : Vec Ideal S1024x256 .bf16) : k0_pay11 hn a b = k0_pay5 hn a b := rfl
theorem e13 (hn : Vec Ideal S512x1024 .bf16) (a b : Vec Ideal S1024x256 .bf16) : k0_pay13 hn a b = k0_pay5 hn a b := rfl
theorem e14 (hn : Vec Ideal S512x1024 .bf16) (a b : Vec Ideal S1024x256 .bf16) : k0_pay14 hn a b = k0_pay5 hn a b := rfl
theorem e17 (hn : Vec Ideal S512x1024 .bf16) (a b : Vec Ideal S1024x256 .bf16) : k0_pay17 hn a b = k0_pay5 hn a b := rfl
theorem e10 (hn : Vec Ideal S512x1024 .bf16) (a b : Vec Ideal S1024x256 .bf16) : k0_pay10 hn (k0_pay8 hn a) (k0_pay9 b) (constant S512x256 .f32 0x00000000#32) = k0_pay5 hn a b := rfl
theorem e16 (hn : Vec Ideal S512x1024 .bf16) (a b : Vec Ideal S1024x256 .bf16) : k0_pay16 hn (k0_pay15 hn a) b = k0_pay5 hn a b := rfl
theorem e18 (hn : Vec Ideal S512x1024 .bf16) (a b : Vec Ideal S1024x256 .bf16) : k0_pay1 (k0_pay18 hn a b) = k0_pay5 hn a b := rfl
theorem e12 (hn : Vec Ideal S512x1024 .bf16) (a b : Vec Ideal S1024x256 .bf16) : k0_pay12 hn a b = k0_pay5 hn a b := rfl

end Cert.Kernel3Ideal.Ffn
-- ==== Proof.Ffn3Point.lean ====
/-
  What one grid point of the last feed-forward call leaves in its block of the result, row by row.
-/
module

public import proofs.«01_k».proof.Proof.Ffn3Pays
public import proofs.«01_k».proof.Proof.Gen.Kernel3Ideal.Frame

@[expose] public section

set_option maxRecDepth 16384

noncomputable section

namespace Cert.Kernel3Ideal.Ffn

open Cert.Kernel3Ideal Cert.Kernel3Ideal.Gen Idealize.ShloMosaic Idealize.ShloMosaic.TcCoe Idealize.SL.Sem Rows

set_option maxHeartbeats 2000000 in
theorem out_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x2816 .bf16) (harg9 : arg9.IsWhole)
    (b0 : Vec Ideal S512x1024 .f32) (b1 : Vec Ideal S1x1024 .f32) (b2 : Vec Ideal S1024x2816 .bf16) (b3 : Vec Ideal S1024x2816 .bf16) (b4 : Vec Ideal S2816x1024 .bf16) (b5 : Vec Ideal S1x1024 .f32)
    (y : S512x1024.Idx) :
    out0_A_6 c i arg1 harg1 arg2 harg2 arg3 harg3 arg4 harg4 arg5 harg5 arg6 harg6 arg7 harg7 arg8 harg8 arg9 harg9 b0 b1 b2 b3 b4 b5 y = orow b0 b1 b2 b3 b4 b5 (y 0) (y 1) := by
  frame_open
  simp (disch := decide) only [↓ View.readCov_skip]
  frame_out [e6, e7, e11, e13, e14, e17, e10, e16, e18, e12]
  idx_vars y
  rw [View.readCov_of_blocks (Val := Elt Ideal) (e := .bf16) (s := S512x2816) 11 (abuf b0 b1 b2 b3)]
  · refine (tail_at b0 _ (arow b0 b1 b2 b3 y0) b4 b5 y0 y1 ?_).trans rfl
    funext f
    refine congrArg₂ (arow b0 b1 b2 b3) (Fin.ext ?_) (Fin.ext ?_)
    · show 0 + 1 * (y0 : ℕ) = y0
      omega
    · show 0 + 1 * (f : ℕ) = f
      omega
  · exact fun j => View.cover_of_tiledL (s := S512x2816) _ ![512, 256] (by rfl) _
  refine ⟨?_, ?_, ?_, ?_, ?_, ?_, ?_, ?_, ?_, ?_, ?_, trivial⟩
  · intro j
    idx_vars j
    refine (chunk_at 2560 b0 b1 _ _ b2 b3 ?_ ?_ j0 j1 ⟨2560 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 2304 b0 b1 _ _ b2 b3 ?_ ?_ j0 j1 ⟨2304 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 2048 b0 b1 _ _ b2 b3 ?_ ?_ j0 j1 ⟨2048 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1792 b0 b1 _ _ b2 b3 ?_ ?_ j0 j1 ⟨1792 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1536 b0 b1 _ _ b2 b3 ?_ ?_ j0 j1 ⟨1536 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1280 b0 b1 _ _ b2 b3 ?_ ?_ j0 j1 ⟨1280 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 1024 b0 b1 _ _ b2 b3 ?_ ?_ j0 j1 ⟨1024 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 768 b0 b1 _ _ b2 b3 ?_ ?_ j0 j1 ⟨768 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 512 b0 b1 _ _ b2 b3 ?_ ?_ j0 j1 ⟨512 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 256 b0 b1 _ _ b2 b3 ?_ ?_ j0 j1 ⟨256 + j1, by omega⟩ rfl).trans
      (congrArg₂ (arow b0 b1 b2 b3) (Fin.ext ?_) (Fin.ext ?_))
    all_goals first
      | (intro k l f h; pointwise; blk_ext; done)
      | (blk_simp; done)
      | (blk_simp; omega)
  · intro j
    idx_vars j
    refine (chunk_at 0 b0 b1 _ _ b2 b3 ?_ ?_ j0 j1 ⟨0 + j1, by omega⟩ rfl).trans
      (congrArg₂ (arow b0 b1 b2 b3) (Fin.ext ?_) (Fin.ext ?_))
    all_goals first
      | (intro k l f h; pointwise; blk_ext; done)
      | (blk_simp; done)
      | (blk_simp; omega)

end Cert.Kernel3Ideal.Ffn
-- ==== Proof.Ffn3Value.lean ====
/-
  The feed-forward call with the final norm's result array, read at one token and one feature.
-/
module

public import proofs.«01_k».proof.Proof.Ffn3Point
public import proofs.«01_k».proof.Proof.Gen.Kernel3Ideal.Value
public import Idealize.ShloMosaic.Lib.Claim

@[expose] public section

set_option maxRecDepth 16384

noncomputable section

namespace Cert.Kernel3Ideal.Ffn

open Cert.Kernel3Ideal Cert.Kernel3Ideal.Gen Idealize.ShloMosaic Idealize.ShloMosaic.TcCoe Idealize.SL.Sem Rows
open Idealize.ShloMosaic.Pipeline (Dat)

/-- The result at batch `b`, position `s`: half a feed-forward network added to the residual stream, and the final norm. -/
def out (h : FVec Ideal S8x4096x1024 .f32) (g : FVec Ideal S1024 .f32) (wg wu : FVec Ideal S1024x2816 .f32)
    (wd : FVec Ideal S2816x1024 .f32) (gf : FVec Ideal S1024 .f32) (b : Fin 8) (s : Fin 4096) : Fin 1024 → EReal :=
  rms (halfFfn (fun k => h (ix3 b s k)) (fun k => g (ix1 k)) (fun k j => wg (ix2 k j)) (fun k j => wu (ix2 k j)) fun k j => wd (ix2 k j)) fun k => gf (ix1 k)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ t.val < 64 :=
  (by decide +kernel : ∀ t : Fin grid0.N, _)

theorem b0_at (t : Fin cfg0.N) (r : Fin 512) (k : Fin 1024) (b : Fin 8) (s : Fin 4096) (h : (b : ℕ) * 4096 + s = t.val * 512 + r) :
    (iblk m c 0 t : Vec Ideal S512x1024 .f32) (ix2 r k) = m ((c : Thread nD τ).loc main_arg0) (ix3 b s k) := by
  blk_simp [iblk]
  entry_read
  pointwise
  blk_ext [idx t]

theorem b1_at (t : Fin cfg0.N) (k : Fin 1024) :
    (iblk m c 1 t : Vec Ideal S1x1024 .f32) (ix2 0 k) = m ((c : Thread nD τ).loc main_arg1) (ix1 k) := by
  blk_simp [iblk]
  entry_read
  pointwise
  blk_ext [idx t]

theorem b5_at (t : Fin cfg0.N) (k : Fin 1024) :
    (iblk m c 5 t : Vec Ideal S1x1024 .f32) (ix2 0 k) = m ((c : Thread nD τ).loc main_arg5) (ix1 k) := by
  blk_simp [iblk]
  entry_read
  pointwise
  blk_ext [idx t]

theorem b2_at (t : Fin cfg0.N) (k : Fin 1024) (j : Fin 2816) :
    (iblk m c 2 t : Vec Ideal S1024x2816 .bf16) (ix2 k j) = m ((c : Thread nD τ).loc main_arg2) (ix2 k j) := by
  blk_simp [iblk]
  entry_read
  pointwise
  blk_ext [idx t]

theorem b3_at (t : Fin cfg0.N) (k : Fin 1024) (j : Fin 2816) :
    (iblk m c 3 t : Vec Ideal S1024x2816 .bf16) (ix2 k j) = m ((c : Thread nD τ).loc main_arg3) (ix2 k j) := by
  blk_simp [iblk]
  entry_read
  pointwise
  blk_ext [idx t]

theorem b4_at (t : Fin cfg0.N) (k : Fin 2816) (j : Fin 1024) :
    (iblk m c 4 t : Vec Ideal S2816x1024 .bf16) (ix2 k j) = m ((c : Thread nD τ).loc main_arg4) (ix2 k j) := by
  blk_simp [iblk]
  entry_read
  pointwise
  blk_ext [idx t]

/-- Row `r` of the block written at point `t` is the result at the token the row stands for. -/
theorem row_at (t : Fin cfg0.N) (r : Fin 512) (d : Fin 1024) (b : Fin 8) (s : Fin 4096) (h : (b : ℕ) * 4096 + s = t.val * 512 + r) :
    orow (iblk m c 0 t) (iblk m c 1 t) (iblk m c 2 t) (iblk m c 3 t) (iblk m c 4 t) (iblk m c 5 t) r d
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s d := by
  unfold orow out
  congr 1
  · congr 1
    · exact funext fun k => b0_at m c t r k b s h
    · exact funext fun k => b1_at m c t k
    · exact funext fun k => funext fun j => b2_at m c t k j
    · exact funext fun k => funext fun j => b3_at m c t k j
    · exact funext fun k => funext fun j => b4_at m c t k j
  · exact funext fun k => b5_at m c t k

/-- The result array after the run: row `4096 b + s` is the result at batch `b`, position `s`. -/
theorem final : (dats m 0 c).arrAt 6 (cfgs 0).N = fun i : S32768x1024.Idx =>
    byRow (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (i 0) (i 1) := by
  refine (dats m 0 c).arrAt_eq_of_covers 6 _ (by decide +kernel) fun t _ y => ?_
  have h1 : ((((cfg0.win 6).blk t).view.emb y) 1 : Fin 1024) = (y 1 : Fin 1024) := by
    refine Fin.ext ?_
    blk_simp [idx t]
  have h0 : ((((cfg0.win 6).blk t).view.emb y) 0 : Fin 32768).val = t.val * 512 + (y 0 : Fin 512).val := by
    blk_simp [idx t]
  have ht : t.val < 64 := (idx t).2.2.2.2.2.2.2
  have hy : (y 0 : Fin 512).val < 512 := (y 0 : Fin 512).isLt
  refine Eq.trans ?_ (byRow_eq _ _ _ _ ⟨t.val / 8, by omega⟩ ⟨t.val % 8 * 512 + (y 0 : Fin 512).val, by omega⟩
    (h0.trans (by simp only; omega)) h1).symm
  blk_simp
  rw [after0_6]
  unfold outsAt0
  exact (out_at (y := y) _ _ _ _ _ _ _ _ _ _ _ _ _ _ _ _ _ _ _ _ _ _ _ _ _ _).trans
    (row_at m c t (y 0) (y 1) _ _ (by simp only; omega))

end Cert.Kernel3Ideal.Ffn
-- ==== Proof.Ffn3Ref.lean ====
/-
  The reference of the feed-forward call with the final norm, read at one token and one feature.
-/
module

public import proofs.«01_k».proof.Proof.Gen.Reference3Ideal.Read
public import proofs.«01_k».proof.Proof.Rows

@[expose] public section

set_option maxRecDepth 16384

noncomputable section

namespace Cert.Reference3Ideal.Ffn

open Cert.Reference3Ideal Cert.Reference3Ideal.Gen Cert.Reference3Ideal.Read Idealize.ShloMosaic Idealize.ShloMosaic.TcCoe Idealize.SL.Sem Rows

variable (x0 : FVec Ideal S8x4096x1024 .f32) (x1 : FVec Ideal S1024 .f32) (x2 x3 : FVec Ideal S1024x2816 .f32)
    (x4 : FVec Ideal S2816x1024 .f32) (x5 : FVec Ideal S1024 .f32)
    (b : Fin 8) (s : Fin 4096)

theorem v12_at (d : Fin 1024) : val_main_v12 (F := Ideal) x0 x1 (ix3 b s d)
    = rms (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v16_at (f : Fin 2816) : val_main_v16 (F := Ideal) x0 x1 x2 x3 (ix3 b s f)
    = act (fun k => val_main_v12 (F := Ideal) x0 x1 (ix3 b s k)) (fun k j => x2 (ix2 k j)) (fun k j => x3 (ix2 k j)) f := by
  pointwise [val_main_v16, val_main_v15, val_main_v14, val_main_call0_v5, val_main_call0_v4, val_main_call0_cst_0,
    val_main_call0_v3, val_main_call0_v2, val_main_call0_cst, val_main_call0_v1, val_main_call0_v0, val_main_v13, act, swi, vecMat]

theorem v20_at (d : Fin 1024) : val_main_v20 (F := Ideal) x0 x1 x2 x3 x4 (ix3 b s d)
    = x0 (ix3 b s d)
      + Ideal.ofBits .f32 0x3F000000#32 * vecMat (fun k => val_main_v16 (F := Ideal) x0 x1 x2 x3 (ix3 b s k)) (fun k j => x4 (ix2 k j)) d := by
  pointwise [val_main_v20, val_main_v19, val_main_v18, val_main_v17, val_main_cst_2, vecMat]

theorem v20_row (d : Fin 1024) : val_main_v20 (F := Ideal) x0 x1 x2 x3 x4 (ix3 b s d)
    = (halfFfn (fun k => x0 (ix3 b s k)) (fun k => x1 (ix1 k)) (fun k j => x2 (ix2 k j)) (fun k j => x3 (ix2 k j)) fun k j => x4 (ix2 k j)) d := by
  have e12 : (fun k => val_main_v12 (F := Ideal) x0 x1 (ix3 b s k)) = rms (fun k => x0 (ix3 b s k)) fun k => x1 (ix1 k) :=
    funext (v12_at x0 x1 b s)
  unfold halfFfn
  rw [v20_at]
  congr 3
  funext f
  rw [v16_at, e12]

theorem v33_at (d : Fin 1024) : val_main_v33 (F := Ideal) x0 x1 x2 x3 x4 x5 (ix3 b s d)
    = rms (fun k => val_main_v20 (F := Ideal) x0 x1 x2 x3 x4 (ix3 b s k)) (fun k => x5 (ix1 k)) d := by
  pointwise [val_main_v33, val_main_v32, val_main_v31, val_main_v30, val_main_v29, val_main_v28, val_main_v27, val_main_v26, val_main_v25,
    val_main_v24, val_main_v23, val_main_v22, val_main_v21, val_main_cst_3, val_main_cst_4, val_main_cst_5, rms]

/-- The reference's result array: row `4096 b + s` is the result at batch `b`, position `s`. -/
theorem v34_at (i : S32768x1024.Idx) : val_main_v34 (F := Ideal) x0 x1 x2 x3 x4 x5 i
    = byRow (fun b s => rms (halfFfn (fun k => x0 (ix3 b s k)) (fun k => x1 (ix1 k)) (fun k j => x2 (ix2 k j)) (fun k j => x3 (ix2 k j)) fun k j => x4 (ix2 k j)) fun k => x5 (ix1 k)) (i 0) (i 1) := by
  idx_vars i
  have e : val_main_v34 (F := Ideal) x0 x1 x2 x3 x4 x5 (ix2 i0 i1)
      = val_main_v33 (F := Ideal) x0 x1 x2 x3 x4 x5 (ix3 ⟨i0 / 4096, by omega⟩ ⟨i0 % 4096, by omega⟩ i1) := by
    pointwise [val_main_v34]
  rw [e, v33_at]
  unfold byRow
  congr 1
  exact funext fun k => v20_row x0 x1 x2 x3 x4 _ _ k

end Cert.Reference3Ideal.Ffn
-- ==== Proof.QkvPoint.lean ====
/-
  What one grid point of the projection call leaves in its three blocks, row by row: zeros at the point that writes
  the padding in front of a sequence, at every other point the normalised rows times the weights.
-/
module

public import proofs.«01_k».proof.Proof.Gen.Kernel4Ideal.Frame
public import proofs.«01_k».proof.Proof.Rows

@[expose] public section

set_option maxRecDepth 16384

noncomputable section

namespace Cert.Kernel4Ideal.Qkv

open Cert.Kernel4Ideal Cert.Kernel4Ideal.Gen Idealize.ShloMosaic Idealize.ShloMosaic.TcCoe Idealize.SL.Sem Rows

/-- The block's row `r`, normalised, times the 1024 columns of the weights from `col` on. -/
def prow (b0 : Vec Ideal S1x512x1024 .f32) (b1 : Vec Ideal S1x1024 .f32) (b2 : Vec Ideal S1024x3072 .bf16) (col : Fin 2049)
    (r : Fin 512) : Fin 1024 → EReal :=
  vecMat (rms (fun k => b0 (ix3 0 r k)) fun k => b1 (ix2 0 k)) fun k j => b2 (ix2 k ⟨col + j, by omega⟩)

theorem pay6_at (x : Vec Ideal S1x512x1024 .f32) (g : Vec Ideal S1x1024 .f32) (r : Fin 512) (d : Fin 1024) :
    k0_pay6 x g (ix2 r d) = rms (fun k => x (ix3 0 r k)) (fun k => g (ix2 0 k)) d := by
  pointwise [k0_pay6, rms]

theorem pay7_at (x : Vec Ideal S1x512x1024 .f32) (g : Vec Ideal S1x1024 .f32) (w : Vec Ideal S1024x1024 .bf16) (z : Fin 1)
    (r : Fin 512) (d : Fin 1024) :
    k0_pay7 x g w (ix3 z r d) = vecMat (fun k => k0_pay6 x g (ix2 r k)) (fun k j => w (ix2 k j)) d * Ideal.ofBits .f32 0x3E000000#32 := by
  pointwise [k0_pay7, vecMat]

theorem pay8_at (x : Vec Ideal S1x512x1024 .f32) (g : Vec Ideal S1x1024 .f32) (w : Vec Ideal S1024x1024 .bf16) (z : Fin 1)
    (r : Fin 512) (d : Fin 1024) :
    k0_pay8 x g w (ix3 z r d) = vecMat (fun k => k0_pay6 x g (ix2 r k)) (fun k j => w (ix2 k j)) d := by
  pointwise [k0_pay8, vecMat]

theorem pay5_at (n : FVec Ideal S512x1024 .bf16) (w : FVec Ideal S1024x1024 .bf16) (z : Fin 1) (r : Fin 512) (d : Fin 1024) :
    k0_pay5 n w (ix3 z r d) = vecMat (fun k => n (ix2 r k)) (fun k j => w (ix2 k j)) d := by
  pointwise [k0_pay5, vecMat]

theorem pay9_at (w : Vec Ideal S1024x1024 .bf16) (k j : Fin 1024) : k0_pay9 w (ix2 k j) = w (ix2 k j) := by
  pointwise [k0_pay9]

/-- The normalised rows times a block of the weights that starts at column `col`. -/
theorem prow_of (x : Vec Ideal S1x512x1024 .f32) (g : Vec Ideal S1x1024 .f32) (w : FVec Ideal S1024x1024 .bf16)
    (b2 : Vec Ideal S1024x3072 .bf16) (col : Fin 2049) (r : Fin 512) (d : Fin 1024)
    (hw : ∀ k (j : Fin 1024) (f : Fin 3072), (f : ℕ) = col + j → w (ix2 k j) = b2 (ix2 k f)) :
    vecMat (fun k => k0_pay6 x g (ix2 r k)) (fun k j => w (ix2 k j)) d = prow x g b2 col r d := by
  unfold prow vecMat
  simp only [pay6_at]
  exact Finset.sum_congr rfl fun k _ => congrArg _ (hw k d _ rfl)

theorem outA_3 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_A_3 c i arg2 harg2 arg3 harg3 arg4 harg4 arg5 harg5 arg6 harg6 arg7 harg7 hc0 hc1 b0 b1 b2 y = 0 := by
  frame_open
  frame_out
  idx_vars y
  pointwise [k0_pay2, k0_pay3, k0_pay4, k0_pay1]

theorem outA_4 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_A_4 c i arg2 harg2 arg3 harg3 arg4 harg4 arg5 harg5 arg6 harg6 arg7 harg7 hc0 hc1 b0 b1 b2 y = 0 := by
  frame_open
  frame_out
  idx_vars y
  pointwise [k0_pay2, k0_pay3, k0_pay4, k0_pay1]

theorem outA_5 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_A_5 c i arg2 harg2 arg3 harg3 arg4 harg4 arg5 harg5 arg6 harg6 arg7 harg7 hc0 hc1 b0 b1 b2 y = 0 := by
  frame_open
  frame_out
  idx_vars y
  pointwise [k0_pay2, k0_pay3, k0_pay4, k0_pay1]

theorem outB_3 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_B_3 c i arg2 harg2 arg3 harg3 arg4 harg4 arg5 harg5 arg6 harg6 arg7 harg7 hc0 hc1 b0 b1 b2 y = prow b0 b1 b2 0 (y 1) (y 2) * Ideal.ofBits .f32 0x3E000000#32 := by
  frame_open
  frame_out
  idx_vars y
  refine (pay7_at b0 b1 _ y0 y1 y2).trans (congrArg (· * _) (prow_of b0 b1 _ b2 0 y1 y2 ?_))
  intro k j f h
  pointwise
  blk_ext [h]

theorem outB_4 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_B_4 c i arg2 harg2 arg3 harg3 arg4 harg4 arg5 harg5 arg6 harg6 arg7 harg7 hc0 hc1 b0 b1 b2 y = prow b0 b1 b2 1024 (y 1) (y 2) := by
  frame_open
  frame_out
  idx_vars y
  refine (pay8_at b0 b1 _ y0 y1 y2).trans (prow_of b0 b1 _ b2 1024 y1 y2 ?_)
  intro k j f h
  pointwise
  blk_ext [h]

theorem outB_5 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .bf16) (harg7 : arg7.IsWhole) (hc0) (hc1)
    (b0 : Vec Ideal S1x512x1024 .f32) (b1 : Vec Ideal S1x1024 .f32) (b2 : Vec Ideal S1024x3072 .bf16) (y : S1x512x1024.Idx) :
    out0_B_5 c i arg2 harg2 arg3 harg3 arg4 harg4 arg5 harg5 arg6 harg6 arg7 harg7 hc0 hc1 b0 b1 b2 y = prow b0 b1 b2 2048 (y 1) (y 2) := by
  frame_open
  frame_out
  idx_vars y
  refine (pay5_at _ _ y0 y1 y2).trans (prow_of b0 b1 _ b2 2048 y1 y2 ?_)
  intro k j f h
  rw [pay9_at]
  pointwise
  blk_ext [h]

end Cert.Kernel4Ideal.Qkv
-- ==== Proof.QkvValue.lean ====
/-
  The projection call's three result arrays, read at one batch, position and feature.
-/
module

public import proofs.«01_k».proof.Proof.QkvPoint
public import Idealize.ShloMosaic.Lib.Claim

@[expose] public section

set_option maxRecDepth 16384

noncomputable section

namespace Cert.Kernel4Ideal.Qkv

open Cert.Kernel4Ideal Cert.Kernel4Ideal.Gen Idealize.ShloMosaic Idealize.ShloMosaic.TcCoe Idealize.SL.Sem Rows
open Idealize.ShloMosaic.Pipeline (Dat)

/-- The normalised token at batch `b`, position `s`, times the 1024 columns of the weights from `col` on. -/
def proj (h : FVec Ideal S8x4096x1024 .f32) (g : FVec Ideal S1024 .f32) (w : FVec Ideal S1024x3072 .f32) (col : Fin 2049)
    (b : Fin 8) (s : Fin 4096) : Fin 1024 → EReal :=
  vecMat (rms (fun k => h (ix3 b s k)) fun k => g (ix1 k)) fun k j => w (ix2 k ⟨col + j, by omega⟩)

/-- A function of batch, position and feature with 512 zero positions in front. -/
def padded (f : Fin 8 → Fin 4096 → Fin 1024 → EReal) (b : Fin 8) (s : Fin 4608) (d : Fin 1024) : EReal :=
  if s.val < 512 then 0 else f b ⟨s - 512, by omega⟩ d

theorem padded_zero (f : Fin 8 → Fin 4096 → Fin 1024 → EReal) (b : Fin 8) (s : Fin 4608) (d : Fin 1024) (h : s.val < 512) :
    padded f b s d = 0 := if_pos h

theorem padded_eq (f : Fin 8 → Fin 4096 → Fin 1024 → EReal) (b b' : Fin 8) (s : Fin 4608) (d d' : Fin 1024) (s' : Fin 4096)
    (hb : b = b') (h : s.val = 512 + s') (hd : d = d') : padded f b s d = f b' s' d' := by
  subst hb hd
  unfold padded
  rw [if_neg (by omega), show (⟨(s : ℕ) - 512, by omega⟩ : Fin 4096) = s' from Fin.ext (show (s : ℕ) - 512 = s' by omega)]

/-- The positions behind the padding. -/
def cut (x : FVec Ideal S8x4608x1024 .bf16) : FVec Ideal S8x4096x1024 .f32 :=
  extf .f32 (extractStridedSlice S8x4096x1024 ![0, 512, 0] x slices_S8x4608x1024_S8x4096x1024_0_512_0) bitsLt_bf16_f32

variable (m : (ℓ : Loc nD τ sig) → Buf (Elt Ideal) ℓ) (c : Dev nD)

theorem idx : ∀ t : Fin cfg0.N, win0_0.index t = ![t.val / 9, t.val % 9 - 1, 0] ∧ win0_1.index t = ![0, 0] ∧ win0_2.index t = ![0, 0]
    ∧ win0_3.index t = ![t.val / 9, t.val % 9, 0] ∧ win0_4.index t = ![t.val / 9, t.val % 9, 0] ∧ win0_5.index t = ![t.val / 9, t.val % 9, 0]
    ∧ t.val < 72 :=
  (by decide +kernel : ∀ t : Fin grid0.N, _)

theorem b0_at (t : Fin cfg0.N) (r : Fin 512) (k : Fin 1024) (b : Fin 8) (s : Fin 4096) (hb : (b : ℕ) = t.val / 9)
    (hs : (s : ℕ) = (t.val % 9 - 1) * 512 + r) :
    (iblk m c 0 t : Vec Ideal S1x512x1024 .f32) (ix3 0 r k) = m ((c : Thread nD τ).loc main_arg0) (ix3 b s k) := by
  blk_simp [iblk]
  entry_read
  pointwise
  blk_ext [idx t, hb, hs]

theorem b1_at (t : Fin cfg0.N) (k : Fin 1024) :
    (iblk m c 1 t : Vec Ideal S1x1024 .f32) (ix2 0 k) = m ((c : Thread nD τ).loc main_arg1) (ix1 k) := by
  blk_simp [iblk]
  simp only [V, V0, List.flatten_cons, List.flatten_nil, List.append_nil]
  entry_read
  pointwise
  blk_ext [idx t]

theorem b2_at (t : Fin cfg0.N) (k : Fin 1024) (j : Fin 3072) :
    (iblk m c 2 t : Vec Ideal S1024x3072 .bf16) (ix2 k j) = m ((c : Thread nD τ).loc main_arg2) (ix2 k j) := by
  blk_simp [iblk]
  entry_read
  pointwise
  blk_ext [idx t]

/-- Row `r` of the block written at point `t` is the projection of the token the row stands for. -/
theorem row_at (t : Fin cfg0.N) (col : Fin 2049) (r : Fin 512) (d : Fin 1024) (b : Fin 8) (s : Fin 4096) (hb : (b : ℕ) = t.val / 9)
    (hs : (s : ℕ) = (t.val % 9 - 1) * 512 + r) :
    prow (iblk m c 0 t) (iblk m c 1 t) (iblk m c 2 t) col r d
      = proj (m ((c : Thread nD τ).loc main_arg0)) (m ((c : Thread nD τ).loc main_arg1)) (m ((c : Thread nD τ).loc main_arg2)) col b s d := by
  unfold prow proj
  congr 1
  · congr 1
    · exact funext fun k => b0_at m c t r k b s hb hs
    · exact funext fun k => b1_at m c t k
  · exact funext fun k => funext fun j => b2_at m c t k _

/-- The queries after the run, with the padding in front of every sequence. -/
theorem final_3 : (dats m 0 c).arrAt 3 (cfgs 0).N = fun i : S8x4608x1024.Idx => padded (fun b s d => proj (m ((c : Thread nD τ).loc main_arg0)) (m ((c : Thread nD τ).loc main_arg1)) (m ((c : Thread nD τ).loc main_arg2)) 0 b s d * Ideal.ofBits .f32 0x3E000000#32) (i 0) (i 1) (i 2) := by
  refine (dats m 0 c).arrAt_eq_of_covers 3 _ (by decide +kernel) fun t _ y => ?_
  have h0 : ((((cfg0.win 3).blk t).view.emb y) 0 : Fin 8).val = t.val / 9 := by
    have : (y 0 : Fin 1).val < 1 := (y 0 : Fin 1).isLt
    blk_simp [idx t]
  have h1 : ((((cfg0.win 3).blk t).view.emb y) 1 : Fin 4608).val = t.val % 9 * 512 + (y 1 : Fin 512).val := by
    blk_simp [idx t]
  have h2 : ((((cfg0.win 3).blk t).view.emb y) 2 : Fin 1024) = (y 2 : Fin 1024) := by
    refine Fin.ext ?_
    blk_simp [idx t]
  have ht : t.val < 72 := (idx t).2.2.2.2.2.2
  have hy : (y 1 : Fin 512).val < 512 := (y 1 : Fin 512).isLt
  by_cases hz : t.val % 9 = 0
  · refine Eq.trans ?_ (padded_zero _ _ _ _ (by rw [h1]; omega)).symm
    blk_simp
    rw [after0_3, outsAt0_A m c t hz (by omega)]
    dsimp only
    rw [outA_3]
  · have e := row_at m c t 0 (y 1) (y 2) ⟨t.val / 9, by omega⟩ ⟨(t.val % 9 - 1) * 512 + (y 1 : Fin 512).val, by omega⟩ rfl rfl
    refine Eq.trans ?_ (padded_eq _ _ ⟨t.val / 9, by omega⟩ _ _ (y 2 : Fin 1024) ⟨(t.val % 9 - 1) * 512 + (y 1 : Fin 512).val, by omega⟩
      (Fin.ext h0) (h1.trans (by simp only <;> omega)) h2).symm
    blk_simp
    rw [after0_3, outsAt0_B m c t hz (by omega)]
    dsimp only
    rw [outB_3]
    exact congrArg (· * Ideal.ofBits .f32 0x3E000000#32) e

/-- The keys after the run, with the padding in front of every sequence. -/
theorem final_4 : (dats m 0 c).arrAt 4 (cfgs 0).N = fun i : S8x4608x1024.Idx => padded (proj (m ((c : Thread nD τ).loc main_arg0)) (m ((c : Thread nD τ).loc main_arg1)) (m ((c : Thread nD τ).loc main_arg2)) 1024) (i 0) (i 1) (i 2) := by
  refine (dats m 0 c).arrAt_eq_of_covers 4 _ (by decide +kernel) fun t _ y => ?_
  have h0 : ((((cfg0.win 4).blk t).view.emb y) 0 : Fin 8).val = t.val / 9 := by
    have : (y 0 : Fin 1).val < 1 := (y 0 : Fin 1).isLt
    blk_simp [idx t]
  have h1 : ((((cfg0.win 4).blk t).view.emb y) 1 : Fin 4608).val = t.val % 9 * 512 + (y 1 : Fin 512).val := by
    blk_simp [idx t]
  have h2 : ((((cfg0.win 4).blk t).view.emb y) 2 : Fin 1024) = (y 2 : Fin 1024) := by
    refine Fin.ext ?_
    blk_simp [idx t]
  have ht : t.val < 72 := (idx t).2.2.2.2.2.2
  have hy : (y 1 : Fin 512).val < 512 := (y 1 : Fin 512).isLt
  by_cases hz : t.val % 9 = 0
  · refine Eq.trans ?_ (padded_zero _ _ _ _ (by rw [h1]; omega)).symm
    blk_simp
    rw [after0_4, outsAt0_A m c t hz (by omega)]
    dsimp only
    rw [outA_4]
  · have e := row_at m c t 1024 (y 1) (y 2) ⟨t.val / 9, by omega⟩ ⟨(t.val % 9 - 1) * 512 + (y 1 : Fin 512).val, by omega⟩ rfl rfl
    refine Eq.trans ?_ (padded_eq _ _ ⟨t.val / 9, by omega⟩ _ _ (y 2 : Fin 1024) ⟨(t.val % 9 - 1) * 512 + (y 1 : Fin 512).val, by omega⟩
      (Fin.ext h0) (h1.trans (by simp only <;> omega)) h2).symm
    blk_simp
    rw [after0_4, outsAt0_B m c t hz (by omega)]
    dsimp only
    rw [outB_4]
    exact e

/-- The values after the run, with the padding in front of every sequence. -/
theorem final_5 : (dats m 0 c).arrAt 5 (cfgs 0).N = fun i : S8x4608x1024.Idx => padded (proj (m ((c : Thread nD τ).loc main_arg0)) (m ((c : Thread nD τ).loc main_arg1)) (m ((c : Thread nD τ).loc main_arg2)) 2048) (i 0) (i 1) (i 2) := by
  refine (dats m 0 c).arrAt_eq_of_covers 5 _ (by decide +kernel) fun t _ y => ?_
  have h0 : ((((cfg0.win 5).blk t).view.emb y) 0 : Fin 8).val = t.val / 9 := by
    have : (y 0 : Fin 1).val < 1 := (y 0 : Fin 1).isLt
    blk_simp [idx t]
  have h1 : ((((cfg0.win 5).blk t).view.emb y) 1 : Fin 4608).val = t.val % 9 * 512 + (y 1 : Fin 512).val := by
    blk_simp [idx t]
  have h2 : ((((cfg0.win 5).blk t).view.emb y) 2 : Fin 1024) = (y 2 : Fin 1024) := by
    refine Fin.ext ?_
    blk_simp [idx t]
  have ht : t.val < 72 := (idx t).2.2.2.2.2.2
  have hy : (y 1 : Fin 512).val < 512 := (y 1 : Fin 512).isLt
  by_cases hz : t.val % 9 = 0
  · refine Eq.trans ?_ (padded_zero _ _ _ _ (by rw [h1]; omega)).symm
    blk_simp
    rw [after0_5, outsAt0_A m c t hz (by omega)]
    dsimp only
    rw [outA_5]
  · have e := row_at m c t 2048 (y 1) (y 2) ⟨t.val / 9, by omega⟩ ⟨(t.val % 9 - 1) * 512 + (y 1 : Fin 512).val, by omega⟩ rfl rfl
    refine Eq.trans ?_ (padded_eq _ _ ⟨t.val / 9, by omega⟩ _ _ (y 2 : Fin 1024) ⟨(t.val % 9 - 1) * 512 + (y 1 : Fin 512).val, by omega⟩
      (Fin.ext h0) (h1.trans (by simp only <;> omega)) h2).symm
    blk_simp
    rw [after0_5, outsAt0_B m c t hz (by omega)]
    dsimp only
    rw [outB_5]
    exact e

/-- The queries as returned: the padding sliced off. -/
theorem tail_3 : Pipeline.afterTail₀ cfgs (dats m) 0 (V0 m) [hostOps1] c main_v4 = fun i : S8x4096x1024.Idx => proj (m ((c : Thread nD τ).loc main_arg0)) (m ((c : Thread nD τ).loc main_arg1)) (m ((c : Thread nD τ).loc main_arg2)) 0 (i 0) (i 1) (i 2) * Ideal.ofBits .f32 0x3E000000#32 := by
  have e : Pipeline.afterTail₀ cfgs (dats m) 0 (V0 m) [hostOps1] c main_v4 = cut ((dats m 0 c).arrAt 3 (cfgs 0).N) := by
    rw [← Pipeline.withArrays_arr spec0 (by decide) c (V0 m c) (fun w => (dats m 0 c).arrAt w (cfgs 0).N) 3]
    unfold Pipeline.afterTail₀
    simp only [List.flatten_cons, List.flatten_nil, List.append_nil, StableHlo.after_cons, StableHlo.after_nil]
    after_results_simp
    rfl
  rw [e, final_3]
  funext i
  idx_vars i
  pointwise [cut]
  exact padded_eq _ _ i0 _ _ i2 i1 rfl (by simp only <;> omega) rfl

/-- The keys as returned: the padding sliced off. -/
theorem tail_4 : Pipeline.afterTail₀ cfgs (dats m) 0 (V0 m) [hostOps1] c main_v6 = fun i : S8x4096x1024.Idx => proj (m ((c : Thread nD τ).loc main_arg0)) (m ((c : Thread nD τ).loc main_arg1)) (m ((c : Thread nD τ).loc main_arg2)) 1024 (i 0) (i 1) (i 2) := by
  have e : Pipeline.afterTail₀ cfgs (dats m) 0 (V0 m) [hostOps1] c main_v6 = cut ((dats m 0 c).arrAt 4 (cfgs 0).N) := by
    rw [← Pipeline.withArrays_arr spec0 (by decide) c (V0 m c) (fun w => (dats m 0 c).arrAt w (cfgs 0).N) 4]
    unfold Pipeline.afterTail₀
    simp only [List.flatten_cons, List.flatten_nil, List.append_nil, StableHlo.after_cons, StableHlo.after_nil]
    after_results_simp
    rfl
  rw [e, final_4]
  funext i
  idx_vars i
  pointwise [cut]
  exact padded_eq _ _ i0 _ _ i2 i1 rfl (by simp only <;> omega) rfl

/-- The values as returned: the padding sliced off. -/
theorem tail_5 : Pipeline.afterTail₀ cfgs (dats m) 0 (V0 m) [hostOps1] c main_v8 = fun i : S8x4096x1024.Idx => proj (m ((c : Thread nD τ).loc main_arg0)) (m ((c : Thread nD τ).loc main_arg1)) (m ((c : Thread nD τ).loc main_arg2)) 2048 (i 0) (i 1) (i 2) := by
  have e : Pipeline.afterTail₀ cfgs (dats m) 0 (V0 m) [hostOps1] c main_v8 = cut ((dats m 0 c).arrAt 5 (cfgs 0).N) := by
    rw [← Pipeline.withArrays_arr spec0 (by decide) c (V0 m c) (fun w => (dats m 0 c).arrAt w (cfgs 0).N) 5]
    unfold Pipeline.afterTail₀
    simp only [List.flatten_cons, List.flatten_nil, List.append_nil, StableHlo.after_cons, StableHlo.after_nil]
    after_results_simp
    rfl
  rw [e, final_5]
  funext i
  idx_vars i
  pointwise [cut]
  exact padded_eq _ _ i0 _ _ i2 i1 rfl (by simp only <;> omega) rfl

end Cert.Kernel4Ideal.Qkv
-- ==== Proof.QkvRef.lean ====
/-
  The reference of the projection call, read at one batch, position and feature.
-/
module

public import proofs.«01_k».proof.Proof.Gen.Reference4Ideal.Read
public import proofs.«01_k».proof.Proof.Rows

@[expose] public section

set_option maxRecDepth 16384

noncomputable section

namespace Cert.Reference4Ideal.Qkv

open Cert.Reference4Ideal Cert.Reference4Ideal.Gen Cert.Reference4Ideal.Read Idealize.ShloMosaic Idealize.ShloMosaic.TcCoe Idealize.SL.Sem Rows

variable (x0 : FVec Ideal S8x4096x1024 .f32) (x1 : FVec Ideal S1024 .f32) (x2 : FVec Ideal S1024x3072 .f32)
    (b : Fin 8) (s : Fin 4096) (d : Fin 1024)

theorem v12_at : val_main_v12 (F := Ideal) x0 x1 (ix3 b s d)
    = rms (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v13_at (j : Fin 3072) : val_main_v13 (F := Ideal) x0 x1 x2 (ix3 b s j)
    = vecMat (rms (fun k => x0 (ix3 b s k)) fun k => x1 (ix1 k)) (fun k j => x2 (ix2 k j)) j := by
  have e : (fun k => val_main_v12 (F := Ideal) x0 x1 (ix3 b s k)) = rms (fun k => x0 (ix3 b s k)) fun k => x1 (ix1 k) :=
    funext (v12_at x0 x1 b s)
  rw [← e]
  pointwise [val_main_v13, vecMat]

theorem v18_at : val_main_v18 (F := Ideal) x0 x1 x2 (ix3 b s d)
    = vecMat (rms (fun k => x0 (ix3 b s k)) fun k => x1 (ix1 k)) (fun k j => x2 (ix2 k j)) ⟨0 + d, by omega⟩ * Ideal.ofBits .f32 0x3E000000#32 := by
  rw [← v13_at]
  pointwise [val_main_v18, val_main_v17, val_main_cst_2, val_main_v14]

theorem v15_at : val_main_v15 (F := Ideal) x0 x1 x2 (ix3 b s d)
    = vecMat (rms (fun k => x0 (ix3 b s k)) fun k => x1 (ix1 k)) (fun k j => x2 (ix2 k j)) ⟨1024 + d, by omega⟩ := by
  rw [← v13_at]
  pointwise [val_main_v15]

theorem v16_at : val_main_v16 (F := Ideal) x0 x1 x2 (ix3 b s d)
    = vecMat (rms (fun k => x0 (ix3 b s k)) fun k => x1 (ix1 k)) (fun k j => x2 (ix2 k j)) ⟨2048 + d, by omega⟩ := by
  rw [← v13_at]
  pointwise [val_main_v16]

end Cert.Reference4Ideal.Qkv
-- ==== Proof.Flow.lean ====
/-
  A softmax-weighted mean taken a tile of keys at a time: the running greatest score, the running sum of weights and the
  running weighted sum, rescaled whenever the greatest score grows.
-/
module

public import proofs.«01_k».proof.Proof.Soft

@[expose] public section

noncomputable section

namespace Soft

open Idealize.ShloMosaic

/-- What the three running values are after the keys below `n`: before any key `⊥`, `0` and `0`; afterwards the sums of the
    weights and of the weighted values relative to some real number, which the first one holds. -/
def Run (x v : ℕ → EReal) (n : ℕ) (m l a : EReal) : Prop :=
  (n = 0 ∧ m = ⊥ ∧ l = 0 ∧ a = 0) ∨
    ∃ M : ℝ, m = M ∧ l = ∑ t ∈ Finset.range n, Ideal.exp (x t - M) ∧ a = ∑ t ∈ Finset.range n, Ideal.exp (x t - M) * v t

theorem exp_bot : Ideal.exp ⊥ = 0 := rfl

theorem exp_shift (x : EReal) (hx : x ≠ ⊤) (M N : ℝ) :
    Ideal.exp ((M : EReal) - N) * Ideal.exp (x - M) = Ideal.exp (x - N) := by
  induction x with
  | bot => rw [EReal.bot_sub, EReal.bot_sub, exp_bot, mul_zero]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2
    ring

theorem exp_real (M N : ℝ) : ∃ r : ℝ, 0 < r ∧ Ideal.exp ((M : EReal) - N) = r :=
  ⟨Real.exp (M - N), Real.exp_pos _, by rw [← EReal.coe_sub, Ideal.exp_coe]⟩

/-- The greatest of finitely many scores is a real number when none is `⊤` and one is not `⊥`. -/
theorem top_real {n : ℕ} (s : Fin n → EReal) (ht : ∀ k, s k ≠ ⊤) (k₀ : Fin n) (hb : s k₀ ≠ ⊥) : ∃ r : ℝ, top s = r := by
  have h1 : top s ≠ ⊤ := by
    intro h
    have : top s < ⊤ := (Finset.sup_lt_iff (f := s) (by exact bot_lt_top)).2 fun k _ => lt_top_iff_ne_top.2 (ht k)
    exact this.ne h
  have h2 : top s ≠ ⊥ := fun h => hb (le_bot_iff.1 (h ▸ le_top s k₀))
  exact ⟨(top s).toReal, (EReal.coe_toReal h1 h2).symm⟩

theorem mul_sum (t : Finset ℕ) (f : ℕ → EReal) (c : EReal) (h0 : 0 ≤ c) (h1 : c ≠ ⊤) :
    c * (∑ k ∈ t, f k) = ∑ k ∈ t, c * f k := by
  rw [mul_comm, sum_mul t f c h0 h1]
  exact Finset.sum_congr rfl fun k _ => mul_comm _ _

/-- One tile of keys. -/
theorem Run.step {x v : ℕ → EReal} {n W : ℕ} {m l a : EReal} (h : Run x v n m l a) (hx : ∀ t < n, x t ≠ ⊤)
    (s : Fin W → EReal) (c : ℝ) (hs : ∀ t : Fin W, x (n + t.val) = s t + c) (ht : ∀ t, s t ≠ ⊤) (k₀ : Fin W) (hb : s k₀ ≠ ⊥) :
    Run x v (n + W) (max m (top s + c))
      (Ideal.exp (m - max m (top s + c)) * l + ∑ t, Ideal.exp (s t + (c - max m (top s + c))))
      (Ideal.exp (m - max m (top s + c)) * a + ∑ t, v (n + t.val) * Ideal.exp (s t + (c - max m (top s + c)))) := by
  obtain ⟨T, hT⟩ := top_real s ht k₀ hb
  have hN : ∃ N : ℝ, max m (top s + c) = N := by
    rw [hT]
    rcases h with ⟨_, hm, _, _⟩ | ⟨M, hm, _, _⟩
    · exact ⟨T + c, by rw [hm, max_eq_right bot_le, EReal.coe_add]⟩
    · exact ⟨max M (T + c), by rw [hm, ← EReal.coe_add]; exact (EReal.coe_strictMono.monotone.map_max).symm⟩
  obtain ⟨N, hN⟩ := hN
  rw [hN]
  have hw : ∀ t : Fin W, Ideal.exp (s t + ((c : EReal) - N)) = Ideal.exp (x (n + t.val) - N) := fun t => by
    rw [hs t, sub_eq_add_neg, sub_eq_add_neg, add_assoc]
  have hold : Ideal.exp (m - N) * l = ∑ t ∈ Finset.range n, Ideal.exp (x t - N)
      ∧ Ideal.exp (m - N) * a = ∑ t ∈ Finset.range n, Ideal.exp (x t - N) * v t := by
    rcases h with ⟨hn, hm, hl, ha⟩ | ⟨M, hm, hl, ha⟩
    · subst hn
      rw [hl, ha]
      simp
    · obtain ⟨r, hr, he⟩ := exp_real M N
      have h0 : (0 : EReal) ≤ Ideal.exp ((M : EReal) - N) := exp_nonneg _
      have h1 : Ideal.exp ((M : EReal) - N) ≠ ⊤ := by rw [he]; exact EReal.coe_ne_top _
      rw [hm, hl, ha, mul_sum _ _ _ h0 h1, mul_sum _ _ _ h0 h1]
      refine ⟨Finset.sum_congr rfl fun t htn => exp_shift _ (hx t (Finset.mem_range.1 htn)) M N, Finset.sum_congr rfl fun t htn => ?_⟩
      rw [← mul_assoc, exp_shift _ (hx t (Finset.mem_range.1 htn)) M N]
  refine Or.inr ⟨N, rfl, ?_, ?_⟩
  · rw [hold.1, Finset.sum_range_add, ← Fin.sum_univ_eq_sum_range (fun t => Ideal.exp (x (n + t) - N)) W]
    exact congrArg₂ (· + ·) rfl (Finset.sum_congr rfl fun t _ => hw t)
  · rw [hold.2, Finset.sum_range_add, ← Fin.sum_univ_eq_sum_range (fun t => Ideal.exp (x (n + t) - N) * v (n + t)) W]
    exact congrArg₂ (· + ·) rfl (Finset.sum_congr rfl fun t _ => by rw [hw t, mul_comm])

/-- After the last key that counts, the quotient is the softmax-weighted mean. -/
theorem Run.mean_eq {x v : ℕ → EReal} {n N : ℕ} {m l a : EReal} (h : Run x v n m l a) (hn : n ≤ N) (hx : ∀ t < n, x t ≠ ⊤)
    (k₀ : ℕ) (hk : k₀ < n) (hb : x k₀ ≠ ⊥) (s u : Fin N → EReal) (hs : ∀ t : Fin N, t.val < n → s t = x t)
    (hs' : ∀ t : Fin N, n ≤ t.val → s t = ⊥) (hu : ∀ t : Fin N, t.val < n → u t = v t) : Ideal.div a l = mean s u := by
  rcases h with ⟨h0, _⟩ | ⟨M, _, hl, ha⟩
  · omega
  have e : ∀ p : Fin n, s ⟨0 + p.val, by omega⟩ = x p := fun p => by
    rw [hs _ (show 0 + p.val < n by omega)]
    exact congrArg x (zero_add _)
  have e' : ∀ p : Fin n, u ⟨0 + p.val, by omega⟩ = v p := fun p => by
    rw [hu _ (show 0 + p.val < n by omega)]
    exact congrArg v (zero_add _)
  rw [mean_window 0 (W := n) (by omega) s u fun P hP => hs' P (by omega), funext e, funext e']
  obtain ⟨T, hT⟩ := top_real (fun p : Fin n => x p) (fun p => hx p p.isLt) ⟨k₀, hk⟩ hb
  obtain ⟨r, hr, he⟩ := exp_real M T
  have h0 : (0 : EReal) ≤ Ideal.exp ((M : EReal) - T) := exp_nonneg _
  have h1 : Ideal.exp ((M : EReal) - T) ≠ ⊤ := by rw [he]; exact EReal.coe_ne_top _
  have hl' : l = ∑ p : Fin n, Ideal.exp (x p - M) := by rw [hl, ← Fin.sum_univ_eq_sum_range (fun t => Ideal.exp (x t - M)) n]
  have ha' : a = ∑ p : Fin n, Ideal.exp (x p - M) * v p := by
    rw [ha, ← Fin.sum_univ_eq_sum_range (fun t => Ideal.exp (x t - M) * v t) n]
  have hden : ∑ p : Fin n, wt (fun p : Fin n => x p) p = Ideal.exp ((M : EReal) - T) * l := by
    rw [hl', mul_comm, sum_mul _ _ _ h0 h1]
    refine Finset.sum_congr rfl fun p _ => ?_
    unfold wt
    rw [hT, mul_comm, exp_shift _ (hx p p.isLt) M T]
  have hnum : ∑ p : Fin n, wt (fun p : Fin n => x p) p * v p = Ideal.exp ((M : EReal) - T) * a := by
    rw [ha', mul_comm, sum_mul _ _ _ h0 h1]
    refine Finset.sum_congr rfl fun p _ => ?_
    unfold wt
    rw [hT, mul_right_comm]
    exact congrArg (· * v p) (by rw [mul_comm]; exact (exp_shift _ (hx p p.isLt) M T).symm)
  have hz := sum_ne_zero (fun p : Fin n => x p) (fun p => hx p p.isLt) ⟨k₀, hk⟩ hb
  unfold mean
  rw [hden] at hz
  rw [hden, hnum, he]
  rw [he] at hz
  have hl0 : l ≠ 0 := fun h => hz (by rw [h, mul_zero])
  unfold Ideal.div
  rw [if_neg hz, if_neg hl0, EReal.mul_inv, mul_mul_mul_comm, ← EReal.coe_inv, ← EReal.coe_mul, mul_inv_cancel₀ hr.ne', EReal.coe_one,
    one_mul]

end Soft
-- ==== Proof.FoxPays.lean ====
/-
  The forgetting attention call's block arithmetic: one tile of 512 keys against two heads' 512 queries each, read one
  query at a time.
-/
module

public import proofs.«01_k».proof.Proof.Gen.Kernel5Ideal.Skeleton
public import proofs.«01_k».proof.Proof.Rows
public import proofs.«01_k».proof.Proof.Flow

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

/-- The new running maxima of a tile of scores `s`, the queries' own terms `ct` added to the tile's maxima. -/
def mN (s : FVec Ideal S512x1024 .f32) (ct m : FVec Ideal S1x1024 .f32) : FVec Ideal S1x1024 .f32 :=
  maximumf m (addf (shapeCast S1x1024 (multiReduction .maximumf [0] S1024 s 0xFF800000#32 reduces_S512x1024_S1024 (.inl rfl) rfl)
    shapeCasts_S1024_S1x1024) ct)

/-- The tile's weights relative to the new maxima. -/
def pE (s : FVec Ideal S512x1024 .f32) (ct m : FVec Ideal S1x1024 .f32) : FVec Ideal S512x1024 .f32 :=
  exp (addf s (broadcastTo S512x1024 (subf ct (mN s ct m)) broadcasts_S1x1024_S512x1024))

/-- The factors the old sums are rescaled by. -/
def al (s : FVec Ideal S512x1024 .f32) (ct m : FVec Ideal S1x1024 .f32) : FVec Ideal S1x1024 .f32 := exp (subf m (mN s ct m))

/-- The new running maxima as stored. -/
def mS (s : FVec Ideal S512x1024 .f32) (ct m : FVec Ideal S1x1024 .f32) : FVec Ideal S1x1024 .f32 :=
  shapeCast S1x1024 (mN s ct m) shapeCasts_S1x1024_S1x1024

/-- The new sums of weights as stored. -/
def lS (s : FVec Ideal S512x1024 .f32) (ct m l : FVec Ideal S1x1024 .f32) : FVec Ideal S1x1024 .f32 :=
  shapeCast S1x1024 (addf (mulf (al s ct m) l) (shapeCast S1x1024 (multiReduction .add [0] S1024 (pE s ct m) 0x00000000#32
    reduces_S512x1024_S1024 (.inl rfl) rfl) shapeCasts_S1024_S1x1024)) shapeCasts_S1x1024_S1x1024

/-- The weights as the value product reads them. -/
def pB (s : FVec Ideal S512x1024 .f32) (ct m : FVec Ideal S1x1024 .f32) : FVec Ideal S512x1024 .bf16 :=
  truncf .bf16 (pE s ct m) bitsLt_bf16_f32

theorem neg_inf : (Ideal.ofBits FTy.f32 0xFF800000#32 : EReal) = ⊥ := by
  simp [Ideal.ofBits, Ideal.ieee]

theorem mN_at (s : FVec Ideal S512x1024 .f32) (ct m : FVec Ideal S1x1024 .f32) (q : Fin 1024) :
    mN s ct m (ix2 0 q) = max (m (ix2 0 q)) (Soft.top (fun t : Fin 512 => s (ix2 t q)) + ct (ix2 0 q)) := by
  pointwise [mN]
  rw [neg_inf]
  rfl

theorem mS_at (s : FVec Ideal S512x1024 .f32) (ct m : FVec Ideal S1x1024 .f32) (q : Fin 1024) :
    mS s ct m (ix2 0 q) = mN s ct m (ix2 0 q) := by
  pointwise [mS]

theorem al_at (s : FVec Ideal S512x1024 .f32) (ct m : FVec Ideal S1x1024 .f32) (q : Fin 1024) :
    al s ct m (ix2 0 q) = Ideal.exp (m (ix2 0 q) - mN s ct m (ix2 0 q)) := by
  pointwise [al]

theorem pE_at (s : FVec Ideal S512x1024 .f32) (ct m : FVec Ideal S1x1024 .f32) (t : Fin 512) (q : Fin 1024) :
    pE s ct m (ix2 t q) = Ideal.exp (s (ix2 t q) + (ct (ix2 0 q) - mN s ct m (ix2 0 q))) := by
  pointwise [pE]

theorem lS_at (s : FVec Ideal S512x1024 .f32) (ct m l : FVec Ideal S1x1024 .f32) (q : Fin 1024) :
    lS s ct m l (ix2 0 q) = al s ct m (ix2 0 q) * l (ix2 0 q) + ∑ t : Fin 512, pE s ct m (ix2 t q) := by
  pointwise [lS]

theorem acc_lo (a : FVec Ideal S1x1024 .f32) (p : FVec Ideal S512x1024 .bf16) (v : Vec Ideal S1x64x512 .bf16) (o : Vec Ideal S64x512 .f32)
    (d : Fin 64) (r : Fin 512) (q : Fin 1024) (h : q.val = r.val) :
    k0_pay127 (F := Ideal) a p v o (ix2 d r) = a (ix2 0 q) * o (ix2 d r) + ∑ t : Fin 512, v (ix3 0 d t) * p (ix2 t q) := by
  pointwise [k0_pay127]
  refine congrArg₂ (· + ·) (congrArg₂ (· * ·) (congrArg a ?_) rfl) (Finset.sum_congr rfl fun t _ => congrArg₂ (· * ·) rfl (congrArg p ?_)) <;> blk_ext

theorem acc_hi (a : FVec Ideal S1x1024 .f32) (p : FVec Ideal S512x1024 .bf16) (v : Vec Ideal S1x64x512 .bf16) (o : Vec Ideal S64x512 .f32)
    (d : Fin 64) (r : Fin 512) (q : Fin 1024) (h : q.val = 512 + r.val) :
    k0_pay128 (F := Ideal) a p v o (ix2 d r) = a (ix2 0 q) * o (ix2 d r) + ∑ t : Fin 512, v (ix3 0 d t) * p (ix2 t q) := by
  pointwise [k0_pay128]
  refine congrArg₂ (· + ·) (congrArg₂ (· * ·) (congrArg a ?_) rfl) (Finset.sum_congr rfl fun t _ => congrArg₂ (· * ·) rfl (congrArg p ?_)) <;> blk_ext

/-- A tile's scores before any mask. -/
theorem s_at (k a : Vec Ideal S1x512x128 .bf16) (R : Vec Ideal S256x1024 .bf16) (t : Fin 512) (q : Fin 1024) :
    k0_pay2 (F := Ideal) k a R (ix2 t q) = (∑ x : Fin 128, k (ix3 0 t x) * R (ix2 ⟨x.val, by omega⟩ q))
      + ∑ x : Fin 128, a (ix3 0 t x) * R (ix2 ⟨128 + x.val, by omega⟩ q) := by
  pointwise [k0_pay2]

theorem col : ∀ q : Fin 1024, Scalar.select (IntOp.cmpi CmpIPredicate.sge (BitVec.ofNat 32 q.val) 512#32)
    (Scalar.subi (BitVec.ofNat 32 q.val) 512#32) (BitVec.ofNat 32 q.val) = BitVec.ofNat 32 (q.val % 512) := by
  decide +kernel

theorem toInt_small : ∀ a : Fin 512, (BitVec.ofNat 32 a.val).toInt = a.val := by
  decide +kernel

theorem causal (q : Fin 1024) (t : Fin 512) : IntOp.cmpi CmpIPredicate.sle (BitVec.ofNat 32 t.val)
    (Scalar.select (IntOp.cmpi CmpIPredicate.sge (BitVec.ofNat 32 q.val) 512#32) (Scalar.subi (BitVec.ofNat 32 q.val) 512#32)
      (BitVec.ofNat 32 q.val)) = BitVec.ofBool (decide (t.val ≤ q.val % 512)) := by
  rw [col]
  show BitVec.ofBool (BitVec.sle _ _) = _
  refine congrArg _ ?_
  unfold BitVec.sle
  rw [toInt_small t, toInt_small ⟨q.val % 512, by omega⟩]
  simp
  omega

theorem select_ofBool {α : Type} (p : Prop) [Decidable p] (x y : α) :
    Scalar.select (BitVec.ofBool (decide p)) x y = if p then x else y := by
  by_cases h : p <;> simp [h, Scalar.select]

/-- The last tile's scores: a key after the query scores `⊥`. -/
theorem d_at (k a : Vec Ideal S1x512x128 .bf16) (R : Vec Ideal S256x1024 .bf16) (t : Fin 512) (q : Fin 1024) :
    k0_pay133 (F := Ideal) (k0_pay131 k) (k0_pay132 a) R (ix2 t q)
      = if t.val ≤ q.val % 512 then k0_pay2 (F := Ideal) k a R (ix2 t q) else ⊥ := by
  have e : k0_pay133 (F := Ideal) (k0_pay131 k) (k0_pay132 a) R (ix2 t q)
      = Scalar.select (IntOp.cmpi CmpIPredicate.sle (BitVec.ofNat 32 t.val)
    (Scalar.select (IntOp.cmpi CmpIPredicate.sge (BitVec.ofNat 32 q.val) 512#32) (Scalar.subi (BitVec.ofNat 32 q.val) 512#32)
      (BitVec.ofNat 32 q.val))) (k0_pay2 (F := Ideal) k a R (ix2 t q)) ⊥ := by
    pointwise [k0_pay133, k0_pay131, k0_pay132, k0_pay2]
    rfl
  rw [e, causal, select_ofBool]

end Cert.Kernel5Ideal.Fox
-- ==== Proof.FoxTile.lean ====
/-
  The forgetting attention call's running values while it goes through a pair of heads' keys, a tile at a time.
-/
module

public import proofs.«01_k».proof.Proof.FoxPays
public import proofs.«01_k».proof.Proof.Gen.Kernel5Ideal.Frame

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

abbrev LM := List (View.Piece (Elt Ideal) S1x1024 .f32)
abbrev LA := List (View.Piece (Elt Ideal) S128x512 .f32)

/-- A store of a whole row of columns. -/
abbrev wr (w : FVec Ideal S1x1024 .f32) : View.Piece (Elt Ideal) S1x1024 .f32 := ⟨Rect.unit ![0, 0] S1x1024.size inb_S1x1024_S1x1024_0_0, w⟩

/-- A store of the whole accumulator. -/
abbrev wa (w : FVec Ideal S128x512 .f32) : View.Piece (Elt Ideal) S128x512 .f32 := ⟨Rect.unit ![0, 0] S128x512.size inb_S128x512_S128x512_0_0, w⟩

/-- A store of the accumulator's first half, the pair's first head. -/
abbrev w0 (w : FVec Ideal S64x512 .f32) : View.Piece (Elt Ideal) S128x512 .f32 := ⟨Rect.unit ![0, 0] S64x512.size inb_S128x512_S64x512_0_0, w⟩

/-- A store of its second half. -/
abbrev w1 (w : FVec Ideal S64x512 .f32) : View.Piece (Elt Ideal) S128x512 .f32 := ⟨Rect.unit ![64, 0] S64x512.size inb_S128x512_S64x512_64_0, w⟩

/-- The column of query `r` of the head that feature `d` of the pair belongs to. -/
def qc (d : Fin 128) (r : Fin 512) : Fin 1024 := ⟨512 * (d.val / 64) + r.val, by omega⟩

/-- After `n` tiles the three running values of every query are those of its keys below `512 n`. -/
def St (X : Fin 1024 → ℕ → EReal) (V : Fin 128 → ℕ → EReal) (n : ℕ) (lm ll : LM) (la : LA) : Prop :=
  ∀ (d : Fin 128) (r : Fin 512), Soft.Run (X (qc d r)) (V d) (512 * n) (View.canon lm (ix2 0 (qc d r)))
    (View.canon ll (ix2 0 (qc d r))) (View.canon la (ix2 d r))

variable {X : Fin 1024 → ℕ → EReal} {V : Fin 128 → ℕ → EReal}

theorem whole_at {S : Shape} {e : EltTy} {off : Fin S.rank → ℕ} (h : ∀ a, off a = 0) (inb : ∀ a, off a + S.size a ≤ S.size a)
    (w : S.Idx → Elt Ideal e) (L : List (View.Piece (Elt Ideal) S e)) (y : S.Idx) :
    View.canon (⟨Rect.unit off S.size inb, w⟩ :: L) y = w y :=
  congrFun (View.canon_cons_unit_lit inb w L h) y

/-- A block of 128 rows stored in two halves. -/
theorem halves (x1 x0 : FVec Ideal S64x512 .f32) (L : LA) (d : Fin 128) (r : Fin 512) :
    View.canon (w1 x1 :: w0 x0 :: L) (ix2 d r)
      = if d.val < 64 then x0 (ix2 ⟨d.val % 64, by omega⟩ r) else x1 (ix2 ⟨d.val % 64, by omega⟩ r) := by
  refine View.canon_append_of_piecesOf (Val := Elt Ideal) (e := .f32) (s := S128x512)
    (fun y : S128x512.Idx => if (y 0).val < 64 then x0 (ix2 ⟨(y 0).val % 64, Nat.mod_lt _ (by omega)⟩ (y 1) : S64x512.Idx)
      else x1 (ix2 ⟨(y 0).val % 64, Nat.mod_lt _ (by omega)⟩ (y 1) : S64x512.Idx)) L [w1 x1, w0 x0] ?_ (ix2 d r) ?_
  · refine ⟨?_, ?_, trivial⟩
    · intro j
      idx_vars j
      refine Eq.trans ?_ (if_neg ?_).symm
      · refine congrArg x1 ?_
        blk_ext
      · show ¬ 64 + 1 * j0.val < 64
        omega
    · intro j
      idx_vars j
      refine Eq.trans ?_ (if_pos ?_).symm
      · refine congrArg x0 ?_
        blk_ext
      · show 0 + 1 * j0.val < 64
        omega
  · exact View.cover_of_tiledL (s := S128x512) _ ![64, 512] (by rfl) _

/-- Before any tile. -/
theorem St.zero (lm ll : LM) (la : LA) :
    St X V 0 (wr (k0_pay124 (F := Ideal)) :: lm)
      (wr (k0_pay125 (F := Ideal)) :: ll)
      (wa (k0_pay126 (F := Ideal)) :: la) := by
  intro d r
  refine Or.inl ⟨rfl, ?_, ?_, ?_⟩
  · refine (whole_at (by decide) _ _ _ _).trans ?_
    pointwise [k0_pay124]
    rfl
  · refine (whole_at (by decide) _ _ _ _).trans ?_
    pointwise [k0_pay125]
  · refine (whole_at (by decide) _ _ _ _).trans ?_
    pointwise [k0_pay126]

/-- One tile of keys: the stores it makes take the running values from its first key to its last. -/
theorem St.step {n : ℕ} {lm ll : LM} {la : LA} (h : St X V n lm ll la) (s : FVec Ideal S512x1024 .f32)
    (ct m l : Vec Ideal S1x1024 .f32) (v0 v1 : Vec Ideal S1x64x512 .bf16) (a0 a1 : Vec Ideal S64x512 .f32)
    (hm : ∀ q, m (ix2 0 q) = View.canon lm (ix2 0 q)) (hl : ∀ q, l (ix2 0 q) = View.canon ll (ix2 0 q))
    (ha0 : ∀ (d : Fin 64) (r : Fin 512), a0 (ix2 d r) = View.canon la (ix2 ⟨d.val, by omega⟩ r))
    (ha1 : ∀ (d : Fin 64) (r : Fin 512), a1 (ix2 d r) = View.canon la (ix2 ⟨64 + d.val, by omega⟩ r))
    (hc : ∀ q, ∃ c : ℝ, ct (ix2 0 q) = c) (hX : ∀ q t, X q t ≠ ⊤)
    (hs : ∀ (q : Fin 1024) (t : Fin 512), X q (512 * n + t.val) = s (ix2 t q) + ct (ix2 0 q))
    (ht : ∀ (q : Fin 1024) (t : Fin 512), s (ix2 t q) ≠ ⊤) (hb : ∀ q : Fin 1024, s (ix2 0 q) ≠ ⊥)
    (hv0 : ∀ (d : Fin 64) (t : Fin 512), v0 (ix3 0 d t) = V ⟨d.val, by omega⟩ (512 * n + t.val))
    (hv1 : ∀ (d : Fin 64) (t : Fin 512), v1 (ix3 0 d t) = V ⟨64 + d.val, by omega⟩ (512 * n + t.val)) :
    St X V (n + 1) (wr (mS s ct m) :: lm)
      (wr (lS s ct m l) :: ll)
      (w1 (k0_pay128 (F := Ideal) (al s ct m) (pB s ct m) v1 a1) ::
        w0 (k0_pay127 (F := Ideal) (al s ct m) (pB s ct m) v0 a0) :: la) := by
  intro d r
  obtain ⟨c, hc⟩ := hc (qc d r)
  have hr := (h d r).step (fun t _ => hX _ _) (fun t : Fin 512 => s (ix2 t (qc d r))) c (fun t => by rw [hs, hc]) (ht _) 0 (hb _)
  rw [← hc, ← hm (qc d r), ← hl (qc d r), ← mN_at] at hr
  have e1 := (whole_at (S := S1x1024) (by decide) inb_S1x1024_S1x1024_0_0 (mS s ct m) lm (ix2 0 (qc d r))).trans (mS_at s ct m _)
  have e2 := (whole_at (S := S1x1024) (by decide) inb_S1x1024_S1x1024_0_0 (lS s ct m l) ll (ix2 0 (qc d r))).trans (lS_at s ct m l _)
  rw [al_at, Finset.sum_congr rfl fun t _ => pE_at s ct m t (qc d r)] at e2
  have e3 := halves (k0_pay128 (F := Ideal) (al s ct m) (pB s ct m) v1 a1) (k0_pay127 (F := Ideal) (al s ct m) (pB s ct m) v0 a0) la d r
  have e4 : View.canon (w1 (k0_pay128 (F := Ideal) (al s ct m) (pB s ct m) v1 a1) ::
        w0 (k0_pay127 (F := Ideal) (al s ct m) (pB s ct m) v0 a0) :: la) (ix2 d r)
      = Ideal.exp (m (ix2 0 (qc d r)) - mN s ct m (ix2 0 (qc d r))) * View.canon la (ix2 d r)
        + ∑ t : Fin 512, V d (512 * n + t.val) * Ideal.exp (s (ix2 t (qc d r)) + (ct (ix2 0 (qc d r)) - mN s ct m (ix2 0 (qc d r)))) := by
    rw [e3]
    by_cases hd : d.val < 64
    · rw [if_pos hd, acc_lo _ _ _ _ _ r (qc d r) (show 512 * (d.val / 64) + r.val = r.val by omega), al_at, ha0,
        show (⟨d.val % 64, by omega⟩ : Fin 128) = d from Fin.ext (show d.val % 64 = d.val by omega)]
      refine congrArg₂ (· + ·) rfl (Finset.sum_congr rfl fun t _ => congrArg₂ (· * ·) ?_ (pE_at s ct m t _))
      rw [hv0, show (⟨d.val % 64, by omega⟩ : Fin 128) = d from Fin.ext (show d.val % 64 = d.val by omega)]
    · rw [if_neg hd, acc_hi _ _ _ _ _ r (qc d r) (show 512 * (d.val / 64) + r.val = 512 + r.val by omega), al_at, ha1,
        show (⟨64 + d.val % 64, by omega⟩ : Fin 128) = d from Fin.ext (show 64 + d.val % 64 = d.val by omega)]
      refine congrArg₂ (· + ·) rfl (Finset.sum_congr rfl fun t _ => congrArg₂ (· * ·) ?_ (pE_at s ct m t _))
      rw [hv1, show (⟨64 + d.val % 64, by omega⟩ : Fin 128) = d from Fin.ext (show 64 + d.val % 64 = d.val by omega)]
  rw [e1, e2, e4]
  exact hr

end Cert.Kernel5Ideal.Fox
-- ==== Proof.FoxFlow.lean ====
/-
  The forgetting attention call's two tiles, one below the diagonal and the one on it, over the arrays a grid point reads.
-/
module

public import Idealize.ShloMosaic.Lib.WholeRead
public import proofs.«01_k».proof.Proof.FoxTile

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (x3 : Vec Ideal S1x4096x1024 .bf16) (x4 : Vec Ideal S1x1024x4096 .bf16) (x5 : Vec Ideal S1x4096x128 .bf16)
  (j b : Fin 8) (R : Vec Ideal S256x1024 .bf16) (C : Vec Ideal S1x1024 .f32)

/-- Key `t`'s score against the query of column `q` without the query's own term, for the pair `j` of heads: `R` holds the
    queries and the selection of the keys' decay. -/
def raw (q : Fin 1024) (t : ℕ) : EReal :=
  (∑ x : Fin 128, x3 (ix3 0 ⟨t % 4096, Nat.mod_lt _ (by omega)⟩ ⟨128 * j.val + x.val, by omega⟩) * R (ix2 ⟨x.val, by omega⟩ q))
    + ∑ x : Fin 128, x5 (ix3 0 ⟨t % 4096, Nat.mod_lt _ (by omega)⟩ x) * R (ix2 ⟨128 + x.val, by omega⟩ q)

/-- The score, `⊥` for a key after the query; the queries are those of block `b`. -/
def XX (q : Fin 1024) (t : ℕ) : EReal := if t ≤ 512 * b.val + q.val % 512 then raw x3 x5 j R q t + C (ix2 0 q) else ⊥

/-- Key `t`'s value at feature `d` of the pair. -/
def VV (d : Fin 128) (t : ℕ) : EReal := x4 (ix3 0 ⟨128 * j.val + d.val, by omega⟩ ⟨t % 4096, Nat.mod_lt _ (by omega)⟩)

/-- What a tile's loads hold: the keys `512 n …` of the pair, their decay, and their values, half by half. -/
structure Tile (n : ℕ) (k a : Vec Ideal S1x512x128 .bf16) (v0 v1 : Vec Ideal S1x64x512 .bf16) : Prop where
  hk : ∀ (t : Fin 512) (x : Fin 128) (T : Fin 4096) (f : Fin 1024), T.val = 512 * n + t.val → f.val = 128 * j.val + x.val →
    k (ix3 0 t x) = x3 (ix3 0 T f)
  ha : ∀ (t : Fin 512) (x : Fin 128) (T : Fin 4096), T.val = 512 * n + t.val → a (ix3 0 t x) = x5 (ix3 0 T x)
  hv0 : ∀ (d : Fin 64) (t : Fin 512) (T : Fin 4096) (f : Fin 1024), T.val = 512 * n + t.val → f.val = 128 * j.val + d.val →
    v0 (ix3 0 d t) = x4 (ix3 0 f T)
  hv1 : ∀ (d : Fin 64) (t : Fin 512) (T : Fin 4096) (f : Fin 1024), T.val = 512 * n + t.val → f.val = 128 * j.val + (64 + d.val) →
    v1 (ix3 0 d t) = x4 (ix3 0 f T)

variable {x3 x4 x5 j b R C}

theorem Tile.raw_at {n : ℕ} {k a : Vec Ideal S1x512x128 .bf16} {v0 v1 : Vec Ideal S1x64x512 .bf16} (h : Tile x3 x4 x5 j n k a v0 v1)
    (hn : n < 8) (t : Fin 512) (q : Fin 1024) : k0_pay2 (F := Ideal) k a R (ix2 t q) = raw x3 x5 j R q (512 * n + t.val) := by
  rw [s_at]
  unfold raw
  refine congrArg₂ (· + ·) (Finset.sum_congr rfl fun x _ => congrArg₂ (· * ·) (h.hk t x _ _ ?_ rfl) rfl)
    (Finset.sum_congr rfl fun x _ => congrArg₂ (· * ·) (h.ha t x _ ?_) rfl) <;>
  · show (512 * n + t.val) % 4096 = 512 * n + t.val
    omega

theorem XX_ne_top (hr : ∀ q t, ∃ r : ℝ, raw x3 x5 j R q t = r) (hC : ∀ q, ∃ c : ℝ, C (ix2 0 q) = c) (q : Fin 1024) (t : ℕ) :
    XX x3 x5 j b R C q t ≠ ⊤ := by
  unfold XX
  obtain ⟨r, hr⟩ := hr q t
  obtain ⟨c, hc⟩ := hC q
  by_cases h : t ≤ 512 * b.val + q.val % 512
  · rw [if_pos h, hr, hc, ← EReal.coe_add]
    exact EReal.coe_ne_top _
  · rw [if_neg h]
    exact bot_ne_top

/-- A tile of keys before the queries' block. -/
theorem full {n : ℕ} {lm ll : LM} {la : LA} (hr : ∀ q t, ∃ r : ℝ, raw x3 x5 j R q t = r) (hC : ∀ q, ∃ c : ℝ, C (ix2 0 q) = c)
    (h : St (XX x3 x5 j b R C) (VV x4 j) n lm ll la) (hn : n < b.val)
    (k a : Vec Ideal S1x512x128 .bf16) (v0 v1 : Vec Ideal S1x64x512 .bf16) (T : Tile x3 x4 x5 j n k a v0 v1)
    (R' : Vec Ideal S256x1024 .bf16) (ct m l : Vec Ideal S1x1024 .f32) (a0 a1 : Vec Ideal S64x512 .f32) (hR : R' = R) (hct : ct = C)
    (hm : m = View.canon lm) (hl : l = View.canon ll)
    (ha0 : ∀ (d : Fin 64) (r : Fin 512), a0 (ix2 d r) = View.canon la (ix2 ⟨d.val, by omega⟩ r))
    (ha1 : ∀ (d : Fin 64) (r : Fin 512), a1 (ix2 d r) = View.canon la (ix2 ⟨64 + d.val, by omega⟩ r)) :
    St (XX x3 x5 j b R C) (VV x4 j) (n + 1) (wr (mS (k0_pay2 k a R') ct m) :: lm) (wr (lS (k0_pay2 k a R') ct m l) :: ll)
      (w1 (k0_pay128 (F := Ideal) (al (k0_pay2 k a R') ct m) (pB (k0_pay2 k a R') ct m) v1 a1) ::
        w0 (k0_pay127 (F := Ideal) (al (k0_pay2 k a R') ct m) (pB (k0_pay2 k a R') ct m) v0 a0) :: la) := by
  subst hR hct
  refine h.step _ ct m l v0 v1 a0 a1 (fun q => by rw [hm]) (fun q => by rw [hl]) ha0 ha1 hC (XX_ne_top hr hC) ?_ ?_ ?_ ?_ ?_
  · intro q t
    rw [T.raw_at (by omega)]
    exact if_pos (by omega)
  · intro q t
    rw [T.raw_at (by omega)]
    obtain ⟨r, hr⟩ := hr q (512 * n + t.val)
    rw [hr]
    exact EReal.coe_ne_top _
  · intro q
    rw [T.raw_at (by omega)]
    obtain ⟨r, hr⟩ := hr q (512 * n + (0 : Fin 512).val)
    rw [hr]
    exact EReal.coe_ne_bot _
  · intro d t
    exact T.hv0 d t _ _ (show (512 * n + t.val) % 4096 = 512 * n + t.val by omega) rfl
  · intro d t
    exact T.hv1 d t _ _ (show (512 * n + t.val) % 4096 = 512 * n + t.val by omega) rfl

/-- The tile on the diagonal. -/
theorem diag {lm ll : LM} {la : LA} (hr : ∀ q t, ∃ r : ℝ, raw x3 x5 j R q t = r) (hC : ∀ q, ∃ c : ℝ, C (ix2 0 q) = c)
    (h : St (XX x3 x5 j b R C) (VV x4 j) b.val lm ll la)
    (k a : Vec Ideal S1x512x128 .bf16) (v0 v1 : Vec Ideal S1x64x512 .bf16) (T : Tile x3 x4 x5 j b.val k a v0 v1)
    (R' : Vec Ideal S256x1024 .bf16) (ct m l : Vec Ideal S1x1024 .f32) (a0 a1 : Vec Ideal S64x512 .f32) (hR : R' = R) (hct : ct = C)
    (hm : m = View.canon lm) (hl : l = View.canon ll)
    (ha0 : ∀ (d : Fin 64) (r : Fin 512), a0 (ix2 d r) = View.canon la (ix2 ⟨d.val, by omega⟩ r))
    (ha1 : ∀ (d : Fin 64) (r : Fin 512), a1 (ix2 d r) = View.canon la (ix2 ⟨64 + d.val, by omega⟩ r)) :
    St (XX x3 x5 j b R C) (VV x4 j) (b.val + 1) (wr (mS (k0_pay133 (k0_pay131 k) (k0_pay132 a) R') ct m) :: lm)
      (wr (lS (k0_pay133 (k0_pay131 k) (k0_pay132 a) R') ct m l) :: ll)
      (w1 (k0_pay128 (F := Ideal) (al (k0_pay133 (k0_pay131 k) (k0_pay132 a) R') ct m) (pB (k0_pay133 (k0_pay131 k) (k0_pay132 a) R') ct m) v1 a1) ::
        w0 (k0_pay127 (F := Ideal) (al (k0_pay133 (k0_pay131 k) (k0_pay132 a) R') ct m) (pB (k0_pay133 (k0_pay131 k) (k0_pay132 a) R') ct m) v0 a0) :: la) := by
  subst hR hct
  refine h.step _ ct m l v0 v1 a0 a1 (fun q => by rw [hm]) (fun q => by rw [hl]) ha0 ha1 hC (XX_ne_top hr hC) ?_ ?_ ?_ ?_ ?_
  · intro q t
    rw [d_at, T.raw_at b.isLt]
    obtain ⟨c, hc⟩ := hC q
    unfold XX
    by_cases ht : t.val ≤ q.val % 512
    · rw [if_pos ht, if_pos (by omega)]
    · rw [if_neg ht, if_neg (by omega), hc, EReal.bot_add]
  · intro q t
    rw [d_at, T.raw_at b.isLt]
    obtain ⟨r, hr⟩ := hr q (512 * b.val + t.val)
    by_cases ht : t.val ≤ q.val % 512
    · rw [if_pos ht, hr]
      exact EReal.coe_ne_top _
    · rw [if_neg ht]
      exact bot_ne_top
  · intro q
    rw [d_at, T.raw_at b.isLt, if_pos (show (0 : Fin 512).val ≤ q.val % 512 from Nat.zero_le _)]
    obtain ⟨r, hr⟩ := hr q (512 * b.val + (0 : Fin 512).val)
    rw [hr]
    exact EReal.coe_ne_bot _
  · intro d t
    exact T.hv0 d t _ _ (show (512 * b.val + t.val) % 4096 = 512 * b.val + t.val by omega) rfl
  · intro d t
    exact T.hv1 d t _ _ (show (512 * b.val + t.val) % 4096 = 512 * b.val + t.val by omega) rfl

/-- After the diagonal tile the quotient is the softmax-weighted mean over all keys. -/
theorem St.quot {lm ll : LM} {la : LA} (hr : ∀ q t, ∃ r : ℝ, raw x3 x5 j R q t = r) (hC : ∀ q, ∃ c : ℝ, C (ix2 0 q) = c)
    (h : St (XX x3 x5 j b R C) (VV x4 j) (b.val + 1) lm ll la) (d : Fin 128) (r : Fin 512) :
    Ideal.div (View.canon la (ix2 d r)) (View.canon ll (ix2 0 (qc d r)))
      = Soft.mean (fun t : Fin 4096 => XX x3 x5 j b R C (qc d r) t.val) fun t : Fin 4096 => VV x4 j d t.val := by
  refine (h d r).mean_eq (N := 4096) (by omega) (fun t _ => XX_ne_top hr hC _ _) 0 (by omega) ?_ _ _ (fun t _ => rfl) ?_ (fun t _ => rfl)
  · unfold XX
    obtain ⟨s, hs⟩ := hr (qc d r) 0
    obtain ⟨c, hc⟩ := hC (qc d r)
    rw [if_pos (Nat.zero_le _), hs, hc, ← EReal.coe_add]
    exact EReal.coe_ne_bot _
  · intro t ht
    exact if_neg (by omega)

end

/-! What loads of the scratch arrays and of the operands' blocks read. -/

theorem rdw {sp : Space} {S : Shape} {e : EltTy} (v : View sig .tc sp S e) {off : Fin S.rank → ℕ} (h : ∀ a, off a = 0)
    (inb : ∀ a, off a + S.size a ≤ S.size a) (L : List (View.Piece (Elt Ideal) S e)) :
    v.readAt (Elt Ideal) (Rect.unit off S.size inb).toLoadRect (v.writes (Elt Ideal) v.junk L) = View.canon L := by
  rw [View.readAt_writes_junk_eq_canon]
  exact View.ld_unit_lit inb (View.canon L) h

theorem rd0 (v : View sig .tc .vmem S128x512 .f32) (L : LA) (d : Fin 64) (r : Fin 512) :
    v.readAt (Elt Ideal) (Rect.unit (s := S128x512) ![0, 0] S64x512.size inb_S128x512_S64x512_0_0).toLoadRect (v.writes (Elt Ideal) v.junk L) (ix2 d r)
      = View.canon L (ix2 ⟨d.val, by omega⟩ r) := by
  rw [View.readAt_writes_junk_eq_canon]
  refine congrArg (View.canon L) (funext fun a => Fin.ext ?_)
  match a with
  | ⟨0, _⟩ => exact (show 0 + 1 * d.val = d.val by omega)
  | ⟨1, _⟩ => exact (show 0 + 1 * r.val = r.val by omega)

theorem rd1 (v : View sig .tc .vmem S128x512 .f32) (L : LA) (d : Fin 64) (r : Fin 512) :
    v.readAt (Elt Ideal) (Rect.unit (s := S128x512) ![64, 0] S64x512.size inb_S128x512_S64x512_64_0).toLoadRect (v.writes (Elt Ideal) v.junk L) (ix2 d r)
      = View.canon L (ix2 ⟨64 + d.val, by omega⟩ r) := by
  rw [View.readAt_writes_junk_eq_canon]
  refine congrArg (View.canon L) (funext fun a => Fin.ext ?_)
  match a with
  | ⟨0, _⟩ => exact (show 64 + 1 * d.val = 64 + d.val by omega)
  | ⟨1, _⟩ => exact (show 0 + 1 * r.val = r.val by omega)

/-- A tile's loads from the operands' blocks. -/
theorem tile_of {arg5 : Memref sig .tc .vmem S1x4096x1024 .bf16} (h5 : arg5.IsWhole) {arg6 : Memref sig .tc .vmem S1x1024x4096 .bf16}
    (h6 : arg6.IsWhole) {arg7 : Memref sig .tc .vmem S1x4096x128 .bf16} (h7 : arg7.IsWhole)
    (x3 : Vec Ideal S1x4096x1024 .bf16) (x4 : Vec Ideal S1x1024x4096 .bf16) (x5 : Vec Ideal S1x4096x128 .bf16) (j : Fin 8) (n : ℕ)
    {o5 o7 o6 o6' : Fin 3 → ℕ} (e5 : o5 = ![0, 512 * n, 128 * j.val]) (e7 : o7 = ![0, 512 * n, 0])
    (e6 : o6 = ![0, 128 * j.val, 512 * n]) (e6' : o6' = ![0, 128 * j.val + 64, 512 * n])
    (i5 : ∀ a, o5 a + S1x512x128.size a ≤ S1x4096x1024.size a) (i7 : ∀ a, o7 a + S1x512x128.size a ≤ S1x4096x128.size a)
    (i6 : ∀ a, o6 a + S1x64x512.size a ≤ S1x1024x4096.size a) (i6' : ∀ a, o6' a + S1x64x512.size a ≤ S1x1024x4096.size a) :
    Tile x3 x4 x5 j n (View.readAt (Elt Ideal) arg5.view (Rect.unit (s := S1x4096x1024) o5 S1x512x128.size i5).toLoadRect (h5.unread x3))
      (View.readAt (Elt Ideal) arg7.view (Rect.unit (s := S1x4096x128) o7 S1x512x128.size i7).toLoadRect (h7.unread x5))
      (View.readAt (Elt Ideal) arg6.view (Rect.unit (s := S1x1024x4096) o6 S1x64x512.size i6).toLoadRect (h6.unread x4))
      (View.readAt (Elt Ideal) arg6.view (Rect.unit (s := S1x1024x4096) o6' S1x64x512.size i6').toLoadRect (h6.unread x4)) := by
  subst e5 e7 e6 e6'
  refine ⟨?_, ?_, ?_, ?_⟩
  · intro t x T f hT hf
    refine (Memref.IsWhole.readAt_unread h5 x3 _ _).trans (congrArg x3 (funext fun a => Fin.ext ?_))
    match a with
    | ⟨0, _⟩ => exact (show 0 + 0 = 0 by omega)
    | ⟨1, _⟩ => exact (show 512 * n + 1 * t.val = T.val by omega)
    | ⟨2, _⟩ => exact (show 128 * j.val + 1 * x.val = f.val by omega)
  · intro t x T hT
    refine (Memref.IsWhole.readAt_unread h7 x5 _ _).trans (congrArg x5 (funext fun a => Fin.ext ?_))
    match a with
    | ⟨0, _⟩ => exact (show 0 + 0 = 0 by omega)
    | ⟨1, _⟩ => exact (show 512 * n + 1 * t.val = T.val by omega)
    | ⟨2, _⟩ => exact (show 0 + 1 * x.val = x.val by omega)
  · intro d t T f hT hf
    refine (Memref.IsWhole.readAt_unread h6 x4 _ _).trans (congrArg x4 (funext fun a => Fin.ext ?_))
    match a with
    | ⟨0, _⟩ => exact (show 0 + 0 = 0 by omega)
    | ⟨1, _⟩ => exact (show 128 * j.val + 1 * d.val = f.val by omega)
    | ⟨2, _⟩ => exact (show 512 * n + 1 * t.val = T.val by omega)
  · intro d t T f hT hf
    refine (Memref.IsWhole.readAt_unread h6 x4 _ _).trans (congrArg x4 (funext fun a => Fin.ext ?_))
    match a with
    | ⟨0, _⟩ => exact (show 0 + 0 = 0 by omega)
    | ⟨1, _⟩ => exact (show 128 * j.val + 64 + 1 * d.val = f.val by omega)
    | ⟨2, _⟩ => exact (show 512 * n + 1 * t.val = T.val by omega)

end Cert.Kernel5Ideal.Fox
-- ==== Proof.FoxLoopA.lean ====
/-
  The forgetting attention call's loops over key tiles of the pairs 0 1 2 3.
-/
module

public import proofs.«01_k».proof.Proof.FoxFlow

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

/-- The queries' block. -/
def bq (i : grid0.Coords) : Fin 8 := ⟨(i 1).val, (i 1).isLt⟩

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x3 : Vec Ideal S1x4096x1024 .bf16) (x4 : Vec Ideal S1x1024x4096 .bf16) (x5 : Vec Ideal S1x4096x128 .bf16)
  (P12 : List (View.Piece (Elt Ideal) S256x1024 .bf16)) (P13 P14 P15 : LM) (P16 : LA)

theorem trips1 : ∀ i : grid0.Coords, (k0_t1_loop i).trips = (i 1).val := by decide +kernel

/-- The pieces the loop of pair 0 has stored after `k` trips. -/
abbrev lp1 (arg1 : BitVec 32) (v1 : BitVec 32) (k : ℕ) :=
  pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip1 (arg1 : BitVec 32) (v1 : BitVec 32) (hr : ∀ q t, ∃ r : ℝ, raw x3 x5 0 (View.canon P12) q t = r) (hC : ∀ q, ∃ c : ℝ, View.canon P13 (ix2 0 q) = c)
    (k : Fin (k0_t1_loop i).trips) (h : St (XX x3 x5 0 (bq i) (View.canon P12) (View.canon P13)) (VV x4 0) k.val P14 P15 P16) :
    St (XX x3 x5 0 (bq i) (View.canon P12) (View.canon P13)) (VV x4 0) (k.val + 1)
      ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t1 trip_k0_t1
  dsimp only
  exact full hr hC h (show k.val < (i 1).val from trips1 i ▸ k.isLt) _ _ _ _
    (tile_of harg5 harg6 harg7 x3 x4 x5 0 k.val (k0_off3_eq i k) (k0_off4_eq i k) (k0_off5_eq i k) (k0_off6_eq i k)
      (k0_off3_inb i k) (k0_off4_inb i k) (k0_off5_inb i k) (k0_off6_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop1 (arg1 : BitVec 32) (v1 : BitVec 32) (hr : ∀ q t, ∃ r : ℝ, raw x3 x5 0 (View.canon P12) q t = r) (hC : ∀ q, ∃ c : ℝ, View.canon P13 (ix2 0 q) = c)
    (h : St (XX x3 x5 0 (bq i) (View.canon P12) (View.canon P13)) (VV x4 0) 0 P14 P15 P16) (k : ℕ) (hk : k ≤ (i 1).val) :
    St (XX x3 x5 0 (bq i) (View.canon P12) (View.canon P13)) (VV x4 0) k ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).1 ++ P14)
      ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).2.1 ++ P15)
      ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).2.2 ++ P16) := by
  induction k with
  | zero => exact h
  | succ k ih =>
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips1 i ▸ hk⟩
    have s := trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v1 hr hC ⟨k, trips1 i ▸ hk⟩ (ih (by omega))
    rw [View.writes_append, View.writes_append, View.writes_append, ← List.append_assoc, ← List.append_assoc, ← List.append_assoc] at s
    dsimp only at e
    dsimp only [lp1]
    rw [e]
    exact s

theorem trips2 : ∀ i : grid0.Coords, (k0_t2_loop i).trips = 0 := by decide +kernel

/-- The loop over what is left of the tiles runs no trip. -/
theorem rest2 (arg1 : BitVec 32) (v1 : BitVec 32) (v92 : BitVec 32) (f14 : BufTy.Contents (Elt Ideal) arg14.view.ty) (f15 : BufTy.Contents (Elt Ideal) arg15.view.ty) (f16 : BufTy.Contents (Elt Ideal) arg16.view.ty) :
    pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v92
      (harg5.unread x3) (harg6.unread x4) (harg7.unread x5) (arg12.view.writes (Elt Ideal) arg12.view.junk P12) (arg13.view.writes (Elt Ideal) arg13.view.junk P13)
      f14 f15 f16 (k0_t2_loop i).trips = ([], [], []) := by
  rw [trips2]
  rfl

theorem trips3 : ∀ i : grid0.Coords, (k0_t3_loop i).trips = (i 1).val := by decide +kernel

/-- The pieces the loop of pair 1 has stored after `k` trips. -/
abbrev lp3 (arg1 : BitVec 32) (v1 : BitVec 32) (v207 : FVec Ideal S128x1024 .bf16) (k : ℕ) :=
  pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v207
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip3 (arg1 : BitVec 32) (v1 : BitVec 32) (v207 : FVec Ideal S128x1024 .bf16) (hr : ∀ q t, ∃ r : ℝ, raw x3 x5 1 (View.canon P12) q t = r) (hC : ∀ q, ∃ c : ℝ, View.canon P13 (ix2 0 q) = c)
    (k : Fin (k0_t3_loop i).trips) (h : St (XX x3 x5 1 (bq i) (View.canon P12) (View.canon P13)) (VV x4 1) k.val P14 P15 P16) :
    St (XX x3 x5 1 (bq i) (View.canon P12) (View.canon P13)) (VV x4 1) (k.val + 1)
      ((tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v207 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v207 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v207 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t3 trip_k0_t3
  dsimp only
  exact full hr hC h (show k.val < (i 1).val from trips3 i ▸ k.isLt) _ _ _ _
    (tile_of harg5 harg6 harg7 x3 x4 x5 1 k.val (k0_off17_eq i k) (k0_off18_eq i k) (k0_off19_eq i k) (k0_off20_eq i k)
      (k0_off17_inb i k) (k0_off18_inb i k) (k0_off19_inb i k) (k0_off20_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop3 (arg1 : BitVec 32) (v1 : BitVec 32) (v207 : FVec Ideal S128x1024 .bf16) (hr : ∀ q t, ∃ r : ℝ, raw x3 x5 1 (View.canon P12) q t = r) (hC : ∀ q, ∃ c : ℝ, View.canon P13 (ix2 0 q) = c)
    (h : St (XX x3 x5 1 (bq i) (View.canon P12) (View.canon P13)) (VV x4 1) 0 P14 P15 P16) (k : ℕ) (hk : k ≤ (i 1).val) :
    St (XX x3 x5 1 (bq i) (View.canon P12) (View.canon P13)) (VV x4 1) k ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 k).1 ++ P14)
      ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 k).2.1 ++ P15)
      ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 k).2.2 ++ P16) := by
  induction k with
  | zero => exact h
  | succ k ih =>
    have e := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v207
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips3 i ▸ hk⟩
    have s := trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v1 v207 hr hC ⟨k, trips3 i ▸ hk⟩ (ih (by omega))
    rw [View.writes_append, View.writes_append, View.writes_append, ← List.append_assoc, ← List.append_assoc, ← List.append_assoc] at s
    dsimp only at e
    dsimp only [lp3]
    rw [e]
    exact s

theorem trips4 : ∀ i : grid0.Coords, (k0_t4_loop i).trips = 0 := by decide +kernel

/-- The loop over what is left of the tiles runs no trip. -/
theorem rest4 (arg1 : BitVec 32) (v239 : BitVec 32) (f14 : BufTy.Contents (Elt Ideal) arg14.view.ty) (f15 : BufTy.Contents (Elt Ideal) arg15.view.ty) (f16 : BufTy.Contents (Elt Ideal) arg16.view.ty) :
    pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v239
      (harg5.unread x3) (harg6.unread x4) (harg7.unread x5) (arg12.view.writes (Elt Ideal) arg12.view.junk P12) (arg13.view.writes (Elt Ideal) arg13.view.junk P13)
      f14 f15 f16 (k0_t4_loop i).trips = ([], [], []) := by
  rw [trips4]
  rfl

theorem trips5 : ∀ i : grid0.Coords, (k0_t5_loop i).trips = (i 1).val := by decide +kernel

/-- The pieces the loop of pair 2 has stored after `k` trips. -/
abbrev lp5 (arg1 : BitVec 32) (v378 : FVec Ideal S128x512 .f32) (k : ℕ) :=
  pb_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip5 (arg1 : BitVec 32) (v378 : FVec Ideal S128x512 .f32) (hr : ∀ q t, ∃ r : ℝ, raw x3 x5 2 (View.canon P12) q t = r) (hC : ∀ q, ∃ c : ℝ, View.canon P13 (ix2 0 q) = c)
    (k : Fin (k0_t5_loop i).trips) (h : St (XX x3 x5 2 (bq i) (View.canon P12) (View.canon P13)) (VV x4 2) k.val P14 P15 P16) :
    St (XX x3 x5 2 (bq i) (View.canon P12) (View.canon P13)) (VV x4 2) (k.val + 1)
      ((tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t5 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t5 trip_k0_t5
  dsimp only
  exact full hr hC h (show k.val < (i 1).val from trips5 i ▸ k.isLt) _ _ _ _
    (tile_of harg5 harg6 harg7 x3 x4 x5 2 k.val (k0_off30_eq i k) (k0_off31_eq i k) (k0_off32_eq i k) (k0_off33_eq i k)
      (k0_off30_inb i k) (k0_off31_inb i k) (k0_off32_inb i k) (k0_off33_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop5 (arg1 : BitVec 32) (v378 : FVec Ideal S128x512 .f32) (hr : ∀ q t, ∃ r : ℝ, raw x3 x5 2 (View.canon P12) q t = r) (hC : ∀ q, ∃ c : ℝ, View.canon P13 (ix2 0 q) = c)
    (h : St (XX x3 x5 2 (bq i) (View.canon P12) (View.canon P13)) (VV x4 2) 0 P14 P15 P16) (k : ℕ) (hk : k ≤ (i 1).val) :
    St (XX x3 x5 2 (bq i) (View.canon P12) (View.canon P13)) (VV x4 2) k ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 k).1 ++ P14)
      ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 k).2.1 ++ P15)
      ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 k).2.2 ++ P16) := by
  induction k with
  | zero => exact h
  | succ k ih =>
    have e := pb_k0_t5_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips5 i ▸ hk⟩
    have s := trip5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v378 hr hC ⟨k, trips5 i ▸ hk⟩ (ih (by omega))
    rw [View.writes_append, View.writes_append, View.writes_append, ← List.append_assoc, ← List.append_assoc, ← List.append_assoc] at s
    dsimp only at e
    dsimp only [lp5]
    rw [e]
    exact s

theorem trips6 : ∀ i : grid0.Coords, (k0_t6_loop i).trips = 0 := by decide +kernel

/-- The loop over what is left of the tiles runs no trip. -/
theorem rest6 (arg1 : BitVec 32) (v378 : FVec Ideal S128x512 .f32) (v386 : BitVec 32) (f14 : BufTy.Contents (Elt Ideal) arg14.view.ty) (f15 : BufTy.Contents (Elt Ideal) arg15.view.ty) (f16 : BufTy.Contents (Elt Ideal) arg16.view.ty) :
    pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v378 v386
      (harg5.unread x3) (harg6.unread x4) (harg7.unread x5) (arg12.view.writes (Elt Ideal) arg12.view.junk P12) (arg13.view.writes (Elt Ideal) arg13.view.junk P13)
      f14 f15 f16 (k0_t6_loop i).trips = ([], [], []) := by
  rw [trips6]
  rfl

theorem trips7 : ∀ i : grid0.Coords, (k0_t7_loop i).trips = (i 1).val := by decide +kernel

/-- The pieces the loop of pair 3 has stored after `k` trips. -/
abbrev lp7 (arg1 : BitVec 32) (v517 : FVec Ideal S1x1024 .f32) (k : ℕ) :=
  pb_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip7 (arg1 : BitVec 32) (v517 : FVec Ideal S1x1024 .f32) (hr : ∀ q t, ∃ r : ℝ, raw x3 x5 3 (View.canon P12) q t = r) (hC : ∀ q, ∃ c : ℝ, View.canon P13 (ix2 0 q) = c)
    (k : Fin (k0_t7_loop i).trips) (h : St (XX x3 x5 3 (bq i) (View.canon P12) (View.canon P13)) (VV x4 3) k.val P14 P15 P16) :
    St (XX x3 x5 3 (bq i) (View.canon P12) (View.canon P13)) (VV x4 3) (k.val + 1)
      ((tripL_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t7 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t7 trip_k0_t7
  dsimp only
  exact full hr hC h (show k.val < (i 1).val from trips7 i ▸ k.isLt) _ _ _ _
    (tile_of harg5 harg6 harg7 x3 x4 x5 3 k.val (k0_off43_eq i k) (k0_off44_eq i k) (k0_off45_eq i k) (k0_off46_eq i k)
      (k0_off43_inb i k) (k0_off44_inb i k) (k0_off45_inb i k) (k0_off46_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop7 (arg1 : BitVec 32) (v517 : FVec Ideal S1x1024 .f32) (hr : ∀ q t, ∃ r : ℝ, raw x3 x5 3 (View.canon P12) q t = r) (hC : ∀ q, ∃ c : ℝ, View.canon P13 (ix2 0 q) = c)
    (h : St (XX x3 x5 3 (bq i) (View.canon P12) (View.canon P13)) (VV x4 3) 0 P14 P15 P16) (k : ℕ) (hk : k ≤ (i 1).val) :
    St (XX x3 x5 3 (bq i) (View.canon P12) (View.canon P13)) (VV x4 3) k ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 k).1 ++ P14)
      ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 k).2.1 ++ P15)
      ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 k).2.2 ++ P16) := by
  induction k with
  | zero => exact h
  | succ k ih =>
    have e := pb_k0_t7_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips7 i ▸ hk⟩
    have s := trip7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v517 hr hC ⟨k, trips7 i ▸ hk⟩ (ih (by omega))
    rw [View.writes_append, View.writes_append, View.writes_append, ← List.append_assoc, ← List.append_assoc, ← List.append_assoc] at s
    dsimp only at e
    dsimp only [lp7]
    rw [e]
    exact s

theorem trips8 : ∀ i : grid0.Coords, (k0_t8_loop i).trips = 0 := by decide +kernel

/-- The loop over what is left of the tiles runs no trip. -/
theorem rest8 (arg1 : BitVec 32) (v517 : FVec Ideal S1x1024 .f32) (v533 : BitVec 32) (f14 : BufTy.Contents (Elt Ideal) arg14.view.ty) (f15 : BufTy.Contents (Elt Ideal) arg15.view.ty) (f16 : BufTy.Contents (Elt Ideal) arg16.view.ty) :
    pb_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v517 v533
      (harg5.unread x3) (harg6.unread x4) (harg7.unread x5) (arg12.view.writes (Elt Ideal) arg12.view.junk P12) (arg13.view.writes (Elt Ideal) arg13.view.junk P13)
      f14 f15 f16 (k0_t8_loop i).trips = ([], [], []) := by
  rw [trips8]
  rfl

end

end Cert.Kernel5Ideal.Fox
-- ==== Proof.FoxLoopB.lean ====
/-
  The forgetting attention call's loops over key tiles of the pairs 4 5 6 7.
-/
module

public import proofs.«01_k».proof.Proof.FoxLoopA

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x3 : Vec Ideal S1x4096x1024 .bf16) (x4 : Vec Ideal S1x1024x4096 .bf16) (x5 : Vec Ideal S1x4096x128 .bf16)
  (P12 : List (View.Piece (Elt Ideal) S256x1024 .bf16)) (P13 P14 P15 : LM) (P16 : LA)

theorem trips9 : ∀ i : grid0.Coords, (k0_t9_loop i).trips = (i 1).val := by decide +kernel

/-- The pieces the loop of pair 4 has stored after `k` trips. -/
abbrev lp9 (arg1 : BitVec 32) (v1 : BitVec 32) (k : ℕ) :=
  pb_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip9 (arg1 : BitVec 32) (v1 : BitVec 32) (hr : ∀ q t, ∃ r : ℝ, raw x3 x5 4 (View.canon P12) q t = r) (hC : ∀ q, ∃ c : ℝ, View.canon P13 (ix2 0 q) = c)
    (k : Fin (k0_t9_loop i).trips) (h : St (XX x3 x5 4 (bq i) (View.canon P12) (View.canon P13)) (VV x4 4) k.val P14 P15 P16) :
    St (XX x3 x5 4 (bq i) (View.canon P12) (View.canon P13)) (VV x4 4) (k.val + 1)
      ((tripL_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t9 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t9 trip_k0_t9
  dsimp only
  exact full hr hC h (show k.val < (i 1).val from trips9 i ▸ k.isLt) _ _ _ _
    (tile_of harg5 harg6 harg7 x3 x4 x5 4 k.val (k0_off56_eq i k) (k0_off57_eq i k) (k0_off58_eq i k) (k0_off59_eq i k)
      (k0_off56_inb i k) (k0_off57_inb i k) (k0_off58_inb i k) (k0_off59_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop9 (arg1 : BitVec 32) (v1 : BitVec 32) (hr : ∀ q t, ∃ r : ℝ, raw x3 x5 4 (View.canon P12) q t = r) (hC : ∀ q, ∃ c : ℝ, View.canon P13 (ix2 0 q) = c)
    (h : St (XX x3 x5 4 (bq i) (View.canon P12) (View.canon P13)) (VV x4 4) 0 P14 P15 P16) (k : ℕ) (hk : k ≤ (i 1).val) :
    St (XX x3 x5 4 (bq i) (View.canon P12) (View.canon P13)) (VV x4 4) k ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).1 ++ P14)
      ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).2.1 ++ P15)
      ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 k).2.2 ++ P16) := by
  induction k with
  | zero => exact h
  | succ k ih =>
    have e := pb_k0_t9_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips9 i ▸ hk⟩
    have s := trip9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v1 hr hC ⟨k, trips9 i ▸ hk⟩ (ih (by omega))
    rw [View.writes_append, View.writes_append, View.writes_append, ← List.append_assoc, ← List.append_assoc, ← List.append_assoc] at s
    dsimp only at e
    dsimp only [lp9]
    rw [e]
    exact s

theorem trips10 : ∀ i : grid0.Coords, (k0_t10_loop i).trips = 0 := by decide +kernel

/-- The loop over what is left of the tiles runs no trip. -/
theorem rest10 (arg1 : BitVec 32) (v1 : BitVec 32) (v680 : BitVec 32) (f14 : BufTy.Contents (Elt Ideal) arg14.view.ty) (f15 : BufTy.Contents (Elt Ideal) arg15.view.ty) (f16 : BufTy.Contents (Elt Ideal) arg16.view.ty) :
    pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v680
      (harg5.unread x3) (harg6.unread x4) (harg7.unread x5) (arg12.view.writes (Elt Ideal) arg12.view.junk P12) (arg13.view.writes (Elt Ideal) arg13.view.junk P13)
      f14 f15 f16 (k0_t10_loop i).trips = ([], [], []) := by
  rw [trips10]
  rfl

theorem trips11 : ∀ i : grid0.Coords, (k0_t11_loop i).trips = (i 1).val := by decide +kernel

/-- The pieces the loop of pair 5 has stored after `k` trips. -/
abbrev lp11 (arg1 : BitVec 32) (v1 : BitVec 32) (v795 : FVec Ideal S128x1024 .bf16) (k : ℕ) :=
  pb_k0_t11 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v795
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip11 (arg1 : BitVec 32) (v1 : BitVec 32) (v795 : FVec Ideal S128x1024 .bf16) (hr : ∀ q t, ∃ r : ℝ, raw x3 x5 5 (View.canon P12) q t = r) (hC : ∀ q, ∃ c : ℝ, View.canon P13 (ix2 0 q) = c)
    (k : Fin (k0_t11_loop i).trips) (h : St (XX x3 x5 5 (bq i) (View.canon P12) (View.canon P13)) (VV x4 5) k.val P14 P15 P16) :
    St (XX x3 x5 5 (bq i) (View.canon P12) (View.canon P13)) (VV x4 5) (k.val + 1)
      ((tripL_k0_t11 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v795 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t11 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v795 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t11 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v795 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t11 trip_k0_t11
  dsimp only
  exact full hr hC h (show k.val < (i 1).val from trips11 i ▸ k.isLt) _ _ _ _
    (tile_of harg5 harg6 harg7 x3 x4 x5 5 k.val (k0_off69_eq i k) (k0_off70_eq i k) (k0_off71_eq i k) (k0_off72_eq i k)
      (k0_off69_inb i k) (k0_off70_inb i k) (k0_off71_inb i k) (k0_off72_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop11 (arg1 : BitVec 32) (v1 : BitVec 32) (v795 : FVec Ideal S128x1024 .bf16) (hr : ∀ q t, ∃ r : ℝ, raw x3 x5 5 (View.canon P12) q t = r) (hC : ∀ q, ∃ c : ℝ, View.canon P13 (ix2 0 q) = c)
    (h : St (XX x3 x5 5 (bq i) (View.canon P12) (View.canon P13)) (VV x4 5) 0 P14 P15 P16) (k : ℕ) (hk : k ≤ (i 1).val) :
    St (XX x3 x5 5 (bq i) (View.canon P12) (View.canon P13)) (VV x4 5) k ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 k).1 ++ P14)
      ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 k).2.1 ++ P15)
      ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 k).2.2 ++ P16) := by
  induction k with
  | zero => exact h
  | succ k ih =>
    have e := pb_k0_t11_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1 v795
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips11 i ▸ hk⟩
    have s := trip11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v1 v795 hr hC ⟨k, trips11 i ▸ hk⟩ (ih (by omega))
    rw [View.writes_append, View.writes_append, View.writes_append, ← List.append_assoc, ← List.append_assoc, ← List.append_assoc] at s
    dsimp only at e
    dsimp only [lp11]
    rw [e]
    exact s

theorem trips12 : ∀ i : grid0.Coords, (k0_t12_loop i).trips = 0 := by decide +kernel

/-- The loop over what is left of the tiles runs no trip. -/
theorem rest12 (arg1 : BitVec 32) (v827 : BitVec 32) (f14 : BufTy.Contents (Elt Ideal) arg14.view.ty) (f15 : BufTy.Contents (Elt Ideal) arg15.view.ty) (f16 : BufTy.Contents (Elt Ideal) arg16.view.ty) :
    pb_k0_t12 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v827
      (harg5.unread x3) (harg6.unread x4) (harg7.unread x5) (arg12.view.writes (Elt Ideal) arg12.view.junk P12) (arg13.view.writes (Elt Ideal) arg13.view.junk P13)
      f14 f15 f16 (k0_t12_loop i).trips = ([], [], []) := by
  rw [trips12]
  rfl

theorem trips13 : ∀ i : grid0.Coords, (k0_t13_loop i).trips = (i 1).val := by decide +kernel

/-- The pieces the loop of pair 6 has stored after `k` trips. -/
abbrev lp13 (arg1 : BitVec 32) (v966 : FVec Ideal S128x512 .f32) (k : ℕ) :=
  pb_k0_t13 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip13 (arg1 : BitVec 32) (v966 : FVec Ideal S128x512 .f32) (hr : ∀ q t, ∃ r : ℝ, raw x3 x5 6 (View.canon P12) q t = r) (hC : ∀ q, ∃ c : ℝ, View.canon P13 (ix2 0 q) = c)
    (k : Fin (k0_t13_loop i).trips) (h : St (XX x3 x5 6 (bq i) (View.canon P12) (View.canon P13)) (VV x4 6) k.val P14 P15 P16) :
    St (XX x3 x5 6 (bq i) (View.canon P12) (View.canon P13)) (VV x4 6) (k.val + 1)
      ((tripL_k0_t13 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t13 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t13 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t13 trip_k0_t13
  dsimp only
  exact full hr hC h (show k.val < (i 1).val from trips13 i ▸ k.isLt) _ _ _ _
    (tile_of harg5 harg6 harg7 x3 x4 x5 6 k.val (k0_off82_eq i k) (k0_off83_eq i k) (k0_off84_eq i k) (k0_off85_eq i k)
      (k0_off82_inb i k) (k0_off83_inb i k) (k0_off84_inb i k) (k0_off85_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop13 (arg1 : BitVec 32) (v966 : FVec Ideal S128x512 .f32) (hr : ∀ q t, ∃ r : ℝ, raw x3 x5 6 (View.canon P12) q t = r) (hC : ∀ q, ∃ c : ℝ, View.canon P13 (ix2 0 q) = c)
    (h : St (XX x3 x5 6 (bq i) (View.canon P12) (View.canon P13)) (VV x4 6) 0 P14 P15 P16) (k : ℕ) (hk : k ≤ (i 1).val) :
    St (XX x3 x5 6 (bq i) (View.canon P12) (View.canon P13)) (VV x4 6) k ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 k).1 ++ P14)
      ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 k).2.1 ++ P15)
      ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 k).2.2 ++ P16) := by
  induction k with
  | zero => exact h
  | succ k ih =>
    have e := pb_k0_t13_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips13 i ▸ hk⟩
    have s := trip13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v966 hr hC ⟨k, trips13 i ▸ hk⟩ (ih (by omega))
    rw [View.writes_append, View.writes_append, View.writes_append, ← List.append_assoc, ← List.append_assoc, ← List.append_assoc] at s
    dsimp only at e
    dsimp only [lp13]
    rw [e]
    exact s

theorem trips14 : ∀ i : grid0.Coords, (k0_t14_loop i).trips = 0 := by decide +kernel

/-- The loop over what is left of the tiles runs no trip. -/
theorem rest14 (arg1 : BitVec 32) (v966 : FVec Ideal S128x512 .f32) (v974 : BitVec 32) (f14 : BufTy.Contents (Elt Ideal) arg14.view.ty) (f15 : BufTy.Contents (Elt Ideal) arg15.view.ty) (f16 : BufTy.Contents (Elt Ideal) arg16.view.ty) :
    pb_k0_t14 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v966 v974
      (harg5.unread x3) (harg6.unread x4) (harg7.unread x5) (arg12.view.writes (Elt Ideal) arg12.view.junk P12) (arg13.view.writes (Elt Ideal) arg13.view.junk P13)
      f14 f15 f16 (k0_t14_loop i).trips = ([], [], []) := by
  rw [trips14]
  rfl

theorem trips15 : ∀ i : grid0.Coords, (k0_t15_loop i).trips = (i 1).val := by decide +kernel

/-- The pieces the loop of pair 7 has stored after `k` trips. -/
abbrev lp15 (arg1 : BitVec 32) (v1105 : FVec Ideal S1x1024 .f32) (k : ℕ) :=
  pb_k0_t15 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105
    (harg5.unread x3) (harg6.unread x4) (harg7.unread x5) (arg12.view.writes (Elt Ideal) arg12.view.junk P12) (arg13.view.writes (Elt Ideal) arg13.view.junk P13)
    (arg14.view.writes (Elt Ideal) arg14.view.junk P14) (arg15.view.writes (Elt Ideal) arg15.view.junk P15) (arg16.view.writes (Elt Ideal) arg16.view.junk P16) k

theorem trip15 (arg1 : BitVec 32) (v1105 : FVec Ideal S1x1024 .f32) (hr : ∀ q t, ∃ r : ℝ, raw x3 x5 7 (View.canon P12) q t = r) (hC : ∀ q, ∃ c : ℝ, View.canon P13 (ix2 0 q) = c)
    (k : Fin (k0_t15_loop i).trips) (h : St (XX x3 x5 7 (bq i) (View.canon P12) (View.canon P13)) (VV x4 7) k.val P14 P15 P16) :
    St (XX x3 x5 7 (bq i) (View.canon P12) (View.canon P13)) (VV x4 7) (k.val + 1)
      ((tripL_k0_t15 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).1 ++ P14)
      ((tripL_k0_t15 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.1 ++ P15)
      ((tripL_k0_t15 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105 (harg5.unread x3) (harg6.unread x4) (harg7.unread x5) (arg12.view.writes (Elt Ideal) arg12.view.junk P12) (arg13.view.writes (Elt Ideal) arg13.view.junk P13) k (arg14.view.writes (Elt Ideal) arg14.view.junk P14) (arg15.view.writes (Elt Ideal) arg15.view.junk P15) (arg16.view.writes (Elt Ideal) arg16.view.junk P16)).2.2 ++ P16) := by
  unfold tripL_k0_t15 trip_k0_t15
  dsimp only
  exact full hr hC h (show k.val < (i 1).val from trips15 i ▸ k.isLt) _ _ _ _
    (tile_of harg5 harg6 harg7 x3 x4 x5 7 k.val (k0_off95_eq i k) (k0_off96_eq i k) (k0_off97_eq i k) (k0_off98_eq i k)
      (k0_off95_inb i k) (k0_off96_inb i k) (k0_off97_inb i k) (k0_off98_inb i k))
    _ _ _ _ _ _ (rdw arg12.view (by decide) inb_S256x1024_S256x1024_0_0 P12) (rdw arg13.view (by decide) inb_S1x1024_S1x1024_0_0 P13)
    (rdw arg14.view (by decide) inb_S1x1024_S1x1024_0_0 P14) (rdw arg15.view (by decide) inb_S1x1024_S1x1024_0_0 P15)
    (rd0 arg16.view P16) (rd1 arg16.view P16)

theorem loop15 (arg1 : BitVec 32) (v1105 : FVec Ideal S1x1024 .f32) (hr : ∀ q t, ∃ r : ℝ, raw x3 x5 7 (View.canon P12) q t = r) (hC : ∀ q, ∃ c : ℝ, View.canon P13 (ix2 0 q) = c)
    (h : St (XX x3 x5 7 (bq i) (View.canon P12) (View.canon P13)) (VV x4 7) 0 P14 P15 P16) (k : ℕ) (hk : k ≤ (i 1).val) :
    St (XX x3 x5 7 (bq i) (View.canon P12) (View.canon P13)) (VV x4 7) k ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 k).1 ++ P14)
      ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 k).2.1 ++ P15)
      ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 k).2.2 ++ P16) := by
  induction k with
  | zero => exact h
  | succ k ih =>
    have e := pb_k0_t15_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105
      (harg5.unread x3) (harg6.unread x4) (harg7.unread x5) (arg12.view.writes (Elt Ideal) arg12.view.junk P12) (arg13.view.writes (Elt Ideal) arg13.view.junk P13)
      (arg14.view.writes (Elt Ideal) arg14.view.junk P14) (arg15.view.writes (Elt Ideal) arg15.view.junk P15) (arg16.view.writes (Elt Ideal) arg16.view.junk P16)
      ⟨k, trips15 i ▸ hk⟩
    have s := trip15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 _ _ _ arg1 v1105 hr hC ⟨k, trips15 i ▸ hk⟩ (ih (by omega))
    rw [View.writes_append, View.writes_append, View.writes_append, ← List.append_assoc, ← List.append_assoc, ← List.append_assoc] at s
    dsimp only at e
    dsimp only [lp15]
    rw [e]
    exact s

theorem trips16 : ∀ i : grid0.Coords, (k0_t16_loop i).trips = 0 := by decide +kernel

/-- The loop over what is left of the tiles runs no trip. -/
theorem rest16 (arg1 : BitVec 32) (v1105 : FVec Ideal S1x1024 .f32) (v1121 : BitVec 32) (f14 : BufTy.Contents (Elt Ideal) arg14.view.ty) (f15 : BufTy.Contents (Elt Ideal) arg15.view.ty) (f16 : BufTy.Contents (Elt Ideal) arg16.view.ty) :
    pb_k0_t16 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v1105 v1121
      (harg5.unread x3) (harg6.unread x4) (harg7.unread x5) (arg12.view.writes (Elt Ideal) arg12.view.junk P12) (arg13.view.writes (Elt Ideal) arg13.view.junk P13)
      f14 f15 f16 (k0_t16_loop i).trips = ([], [], []) := by
  rw [trips16]
  rfl

end

end Cert.Kernel5Ideal.Fox
-- ==== Proof.FoxPair.lean ====
/-
  The forgetting attention call's pair of heads: the right operand the scores are a product with, the queries' own terms,
  and the quotient a pair stores.
-/
module

public import proofs.«01_k».proof.Proof.FoxFlow

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

/-- The selection of the decay terms' columns: `lo` for the first head's queries, `hi` for the second's. -/
def sel (hi lo : BitVec 32) : FVec Ideal S128x1024 .bf16 :=
  truncf .bf16 (select
    (andi (cmpi .slt (iota .tc S128x1024 32 [0] iota_S128x1024_d0_w32) (broadcast S128x1024 48#32))
      (cmpi .eq (andi (iota .tc S128x1024 32 [0] iota_S128x1024_d0_w32) (broadcast S128x1024 15#32))
        (select (cmpi .sge (iota .tc S128x1024 32 [1] iota_S128x1024_d1_w32) (broadcast S128x1024 512#32)) (broadcast S128x1024 hi)
          (broadcast S128x1024 lo))))
    (broadcast S128x1024 (Scalar.ofBits .f32 0x3F800000#32 : Ideal FTy.f32)) (broadcast S128x1024 (Scalar.ofBits .f32 0x00000000#32 : Ideal FTy.f32)))
    bitsLt_bf16_f32

theorem sel_row : ∀ x : Fin 128, IntOp.cmpi CmpIPredicate.slt (BitVec.ofNat 32 x.val) 48#32 = BitVec.ofBool (decide (x.val < 48)) := by
  decide +kernel

theorem sel_eq : ∀ (x : Fin 128) (h : Fin 16), IntOp.cmpi CmpIPredicate.eq (Scalar.andi (BitVec.ofNat 32 x.val) 15#32) (BitVec.ofNat 32 h.val)
    = BitVec.ofBool (decide (x.val % 16 = h.val)) := by
  decide +kernel

theorem sel_col : ∀ c : Fin 1024, IntOp.cmpi CmpIPredicate.sge (BitVec.ofNat 32 c.val) 512#32 = BitVec.ofBool (decide (512 ≤ c.val)) := by
  decide +kernel

theorem sel_at (p : Fin 8) (x : Fin 128) (c : Fin 1024) :
    sel (BitVec.ofNat 32 (2 * p.val + 1)) (BitVec.ofNat 32 (2 * p.val)) (ix2 x c)
      = if x.val < 48 ∧ x.val % 16 = 2 * p.val + c.val / 512 then 1 else 0 := by
  have e : sel (BitVec.ofNat 32 (2 * p.val + 1)) (BitVec.ofNat 32 (2 * p.val)) (ix2 x c)
      = Scalar.select (Scalar.andi (IntOp.cmpi CmpIPredicate.slt (BitVec.ofNat 32 x.val) 48#32)
          (IntOp.cmpi CmpIPredicate.eq (Scalar.andi (BitVec.ofNat 32 x.val) 15#32)
            (Scalar.select (IntOp.cmpi CmpIPredicate.sge (BitVec.ofNat 32 c.val) 512#32) (BitVec.ofNat 32 (2 * p.val + 1))
              (BitVec.ofNat 32 (2 * p.val))))) (1 : EReal) 0 := by
    pointwise [sel]
    rfl
  have h : (Scalar.select (IntOp.cmpi CmpIPredicate.sge (BitVec.ofNat 32 c.val) 512#32) (BitVec.ofNat 32 (2 * p.val + 1))
      (BitVec.ofNat 32 (2 * p.val))) = BitVec.ofNat 32 ((⟨2 * p.val + c.val / 512, by omega⟩ : Fin 16)).val := by
    rw [sel_col, select_ofBool]
    by_cases hc : 512 ≤ c.val
    · rw [if_pos hc]
      exact congrArg (BitVec.ofNat 32) (show 2 * p.val + 1 = 2 * p.val + c.val / 512 by omega)
    · rw [if_neg hc]
      exact congrArg (BitVec.ofNat 32) (show 2 * p.val = 2 * p.val + c.val / 512 by omega)
  rw [e, h, sel_row, sel_eq]
  by_cases h1 : x.val < 48 <;> by_cases h2 : x.val % 16 = 2 * p.val + c.val / 512 <;>
    simp [h1, h2, Scalar.select, Scalar.andi] <;> decide

/-- The right operand of a pair's scores: the two heads' queries side by side, each under its own half of the features, and
    below them the selection of the keys' decay. -/
def RR (p : Fin 8) (q : Vec Ideal S1024x512 .bf16) : Vec Ideal S256x1024 .bf16 := fun y =>
  if (y 0).val < 128 then
    (if (y 0).val / 64 = (y 1).val / 512 then
      q (ix2 ⟨(128 * p.val + (y 0).val) % 1024, Nat.mod_lt _ (by omega)⟩ ⟨(y 1).val % 512, Nat.mod_lt _ (by omega)⟩) else (0 : EReal))
  else if (y 0).val - 128 < 48 ∧ ((y 0).val - 128) % 16 = 2 * p.val + (y 1).val / 512 then (1 : EReal) else (0 : EReal)

/-- The queries' own terms: the decay up to each query. -/
def CC (b p : Fin 8) (x6 : Vec Ideal S1x16x4096 .f32) : Vec Ideal S1x1024 .f32 := fun y =>
  x6 (ix3 0 ⟨(2 * p.val + (y 1).val / 512) % 16, Nat.mod_lt _ (by omega)⟩ ⟨(512 * b.val + (y 1).val % 512) % 4096, Nat.mod_lt _ (by omega)⟩)

abbrev LR := List (View.Piece (Elt Ideal) S256x1024 .bf16)

theorem canonR (p : Fin 8) (q : Vec Ideal S1024x512 .bf16) (u0 u1 z0 z1 : FVec Ideal S64x512 .bf16) (s : FVec Ideal S128x1024 .bf16) (L : LR)
    (hu0 : ∀ (d : Fin 64) (r : Fin 512), u0 (ix2 d r) = q (ix2 ⟨128 * p.val + d.val, by omega⟩ r))
    (hu1 : ∀ (d : Fin 64) (r : Fin 512), u1 (ix2 d r) = q (ix2 ⟨128 * p.val + 64 + d.val, by omega⟩ r))
    (hz0 : ∀ (d : Fin 64) (r : Fin 512), z0 (ix2 d r) = (0 : EReal)) (hz1 : ∀ (d : Fin 64) (r : Fin 512), z1 (ix2 d r) = (0 : EReal))
    (hs : ∀ (x : Fin 128) (c : Fin 1024), s (ix2 x c) = if x.val < 48 ∧ x.val % 16 = 2 * p.val + c.val / 512 then (1 : EReal) else 0) :
    View.canon ((⟨Rect.unit ![128, 0] S128x1024.size inb_S256x1024_S128x1024_128_0, s⟩ ::
      ⟨Rect.unit ![64, 512] S64x512.size inb_S256x1024_S64x512_64_512, u1⟩ ::
      ⟨Rect.unit ![0, 512] S64x512.size inb_S256x1024_S64x512_0_512, z1⟩ ::
      ⟨Rect.unit ![64, 0] S64x512.size inb_S256x1024_S64x512_64_0, z0⟩ ::
      ⟨Rect.unit ![0, 0] S64x512.size inb_S256x1024_S64x512_0_0, u0⟩ :: L : LR)) = RR p q := by
  funext y
  refine View.canon_append_of_piecesOf (Val := Elt Ideal) (e := .bf16) (s := S256x1024) (RR p q) L
    [⟨Rect.unit ![128, 0] S128x1024.size inb_S256x1024_S128x1024_128_0, s⟩,
      ⟨Rect.unit ![64, 512] S64x512.size inb_S256x1024_S64x512_64_512, u1⟩,
      ⟨Rect.unit ![0, 512] S64x512.size inb_S256x1024_S64x512_0_512, z1⟩,
      ⟨Rect.unit ![64, 0] S64x512.size inb_S256x1024_S64x512_64_0, z0⟩,
      ⟨Rect.unit ![0, 0] S64x512.size inb_S256x1024_S64x512_0_0, u0⟩] ?_ y ?_
  · refine ⟨?_, ?_, ?_, ?_, ?_, trivial⟩
    · intro j
      idx_vars j
      refine (hs j0 j1).trans ?_
      refine Eq.trans ?_ (if_neg ?_).symm
      · show _ = (if (128 + 1 * j0.val) - 128 < 48 ∧ ((128 + 1 * j0.val) - 128) % 16 = 2 * p.val + (0 + 1 * j1.val) / 512 then (1 : EReal) else 0)
        rw [show (128 + 1 * j0.val) - 128 = j0.val by omega, show 0 + 1 * j1.val = j1.val by omega]
      · show ¬ 128 + 1 * j0.val < 128
        omega
    · intro j
      idx_vars j
      refine (hu1 j0 j1).trans ?_
      refine Eq.trans ?_ (if_pos ?_).symm
      · refine Eq.trans ?_ (if_pos ?_).symm
        · refine congrArg q ?_
          refine congrArg₂ ix2 (Fin.ext ?_) (Fin.ext ?_)
          · show 128 * p.val + 64 + j0.val = (128 * p.val + (64 + 1 * j0.val)) % 1024
            omega
          · show j1.val = (512 + 1 * j1.val) % 512
            omega
        · show (64 + 1 * j0.val) / 64 = (512 + 1 * j1.val) / 512
          omega
      · show 64 + 1 * j0.val < 128
        omega
    · intro j
      idx_vars j
      refine (hz1 j0 j1).trans ?_
      refine Eq.trans ?_ (if_pos ?_).symm
      · refine (if_neg ?_).symm
        show ¬ (0 + 1 * j0.val) / 64 = (512 + 1 * j1.val) / 512
        omega
      · show 0 + 1 * j0.val < 128
        omega
    · intro j
      idx_vars j
      refine (hz0 j0 j1).trans ?_
      refine Eq.trans ?_ (if_pos ?_).symm
      · refine (if_neg ?_).symm
        show ¬ (64 + 1 * j0.val) / 64 = (0 + 1 * j1.val) / 512
        omega
      · show 64 + 1 * j0.val < 128
        omega
    · intro j
      idx_vars j
      refine (hu0 j0 j1).trans ?_
      refine Eq.trans ?_ (if_pos ?_).symm
      · refine Eq.trans ?_ (if_pos ?_).symm
        · refine congrArg q ?_
          refine congrArg₂ ix2 (Fin.ext ?_) (Fin.ext ?_)
          · show 128 * p.val + j0.val = (128 * p.val + (0 + 1 * j0.val)) % 1024
            omega
          · show j1.val = (0 + 1 * j1.val) % 512
            omega
        · show (0 + 1 * j0.val) / 64 = (0 + 1 * j1.val) / 512
          omega
      · show 0 + 1 * j0.val < 128
        omega
  · have h0 : (y 0).val < 256 := (y 0).isLt
    have h1 : (y 1).val < 1024 := (y 1).isLt
    by_cases a : 128 ≤ (y 0).val
    · refine ⟨_, List.Mem.head _, (Rect.mem_set_unit (inb := inb_S256x1024_S128x1024_128_0)).2 fun x => ?_⟩
      match x with
      | ⟨0, _⟩ => exact (show 128 ≤ (y 0).val ∧ (y 0).val < 128 + 128 by omega)
      | ⟨1, _⟩ => exact (show 0 ≤ (y 1).val ∧ (y 1).val < 0 + 1024 by omega)
    by_cases a' : 64 ≤ (y 0).val <;> by_cases c : 512 ≤ (y 1).val
    · refine ⟨_, List.Mem.tail _ (List.Mem.head _), (Rect.mem_set_unit (inb := inb_S256x1024_S64x512_64_512)).2 fun x => ?_⟩
      match x with
      | ⟨0, _⟩ => exact (show 64 ≤ (y 0).val ∧ (y 0).val < 64 + 64 by omega)
      | ⟨1, _⟩ => exact (show 512 ≤ (y 1).val ∧ (y 1).val < 512 + 512 by omega)
    · refine ⟨_, List.Mem.tail _ (List.Mem.tail _ (List.Mem.tail _ (List.Mem.head _))), (Rect.mem_set_unit (inb := inb_S256x1024_S64x512_64_0)).2 fun x => ?_⟩
      match x with
      | ⟨0, _⟩ => exact (show 64 ≤ (y 0).val ∧ (y 0).val < 64 + 64 by omega)
      | ⟨1, _⟩ => exact (show 0 ≤ (y 1).val ∧ (y 1).val < 0 + 512 by omega)
    · refine ⟨_, List.Mem.tail _ (List.Mem.tail _ (List.Mem.head _)), (Rect.mem_set_unit (inb := inb_S256x1024_S64x512_0_512)).2 fun x => ?_⟩
      match x with
      | ⟨0, _⟩ => exact (show 0 ≤ (y 0).val ∧ (y 0).val < 0 + 64 by omega)
      | ⟨1, _⟩ => exact (show 512 ≤ (y 1).val ∧ (y 1).val < 512 + 512 by omega)
    · refine ⟨_, List.Mem.tail _ (List.Mem.tail _ (List.Mem.tail _ (List.Mem.tail _ (List.Mem.head _)))), (Rect.mem_set_unit (inb := inb_S256x1024_S64x512_0_0)).2 fun x => ?_⟩
      match x with
      | ⟨0, _⟩ => exact (show 0 ≤ (y 0).val ∧ (y 0).val < 0 + 64 by omega)
      | ⟨1, _⟩ => exact (show 0 ≤ (y 1).val ∧ (y 1).val < 0 + 512 by omega)

theorem canonC (b p : Fin 8) (x6 : Vec Ideal S1x16x4096 .f32) (c0 c1 : FVec Ideal S1x512 .f32) (L : LM)
    (h0 : ∀ r : Fin 512, c0 (ix2 0 r) = x6 (ix3 0 ⟨2 * p.val, by omega⟩ ⟨512 * b.val + r.val, by omega⟩))
    (h1 : ∀ r : Fin 512, c1 (ix2 0 r) = x6 (ix3 0 ⟨2 * p.val + 1, by omega⟩ ⟨512 * b.val + r.val, by omega⟩)) :
    View.canon ((⟨Rect.unit ![0, 512] S1x512.size inb_S1x1024_S1x512_0_512, c1⟩ ::
      ⟨Rect.unit ![0, 0] S1x512.size inb_S1x1024_S1x512_0_0, c0⟩ :: L : LM)) = CC b p x6 := by
  funext y
  refine View.canon_append_of_piecesOf (Val := Elt Ideal) (e := .f32) (s := S1x1024) (CC b p x6) L
    [⟨Rect.unit ![0, 512] S1x512.size inb_S1x1024_S1x512_0_512, c1⟩,
      ⟨Rect.unit ![0, 0] S1x512.size inb_S1x1024_S1x512_0_0, c0⟩] ?_ y ?_
  · refine ⟨?_, ?_, trivial⟩
    · intro j
      idx_vars j
      obtain rfl : j0 = 0 := Subsingleton.elim _ _
      refine (h1 j1).trans (congrArg x6 ?_)
      refine congrArg₂ (ix3 0) (Fin.ext ?_) (Fin.ext ?_)
      · show 2 * p.val + 1 = (2 * p.val + (512 + 1 * j1.val) / 512) % 16
        omega
      · show 512 * b.val + j1.val = (512 * b.val + (512 + 1 * j1.val) % 512) % 4096
        omega
    · intro j
      idx_vars j
      obtain rfl : j0 = 0 := Subsingleton.elim _ _
      refine (h0 j1).trans (congrArg x6 ?_)
      refine congrArg₂ (ix3 0) (Fin.ext ?_) (Fin.ext ?_)
      · show 2 * p.val = (2 * p.val + (0 + 1 * j1.val) / 512) % 16
        omega
      · show 512 * b.val + j1.val = (512 * b.val + (0 + 1 * j1.val) % 512) % 4096
        omega
  · exact View.cover_of_tiledL (s := S1x1024) _ ![1, 512] (by rfl) _

/-- A load of 64 rows of the queries. -/
theorem rdq (v : View sig .tc .vmem S1024x512 .bf16) (x : FVec Ideal S1024x512 .bf16) {o : Fin 2 → ℕ} (n : ℕ) (ho : o = ![n, 0])
    (inb : ∀ a, o a + S64x512.size a ≤ S1024x512.size a) (d : Fin 64) (r : Fin 512) (f : Fin 1024) (hf : f.val = n + d.val) :
    View.readCov (Val := Elt Ideal) v [⟨Rect.unit ![0, 0] S1024x512.size inb_S1024x512_S1024x512_0_0, x⟩] (Rect.unit (s := S1024x512) o S64x512.size inb).toLoadRect (ix2 d r)
      = x (ix2 f r) := by
  subst ho
  refine (congrFun (View.readCov_eq_canon' v _ _) _).trans ?_
  refine (congrFun (View.canon_cons_unit_lit (S := S1024x512) (Val := Elt Ideal) (e := .bf16) inb_S1024x512_S1024x512_0_0 x [] (by decide)) _).trans ?_
  refine congrArg x (funext fun a => Fin.ext ?_)
  match a with
  | ⟨0, _⟩ => exact (show n + 1 * d.val = f.val by omega)
  | ⟨1, _⟩ => exact (show 0 + 1 * r.val = r.val by omega)

theorem pay117_at (v : Vec Ideal S64x512 .bf16) (d : Fin 64) (r : Fin 512) : k0_pay117 (F := Ideal) v (ix2 d r) = v (ix2 d r) := by
  pointwise [k0_pay117]

theorem pay118_at (d : Fin 64) (r : Fin 512) : k0_pay118 (F := Ideal) k0_pay116 (ix2 d r) = (0 : EReal) := by
  pointwise [k0_pay118, k0_pay116]

theorem pay121_at (x : Fin 128) (c : Fin 1024) : k0_pay121 (F := Ideal) (iota .tc S128x1024 32 [0] iota_S128x1024_d0_w32)
    (iota .tc S128x1024 32 [1] iota_S128x1024_d1_w32) (ix2 x c) = sel 1#32 0#32 (ix2 x c) := by
  pointwise [k0_pay121, sel]

theorem id_at (v : FVec Ideal S128x1024 .bf16) (x : Fin 128) (c : Fin 1024) : k0_pay150 (F := Ideal) v (ix2 x c) = v (ix2 x c) := by
  pointwise [k0_pay150]

theorem pay122_at (v : Vec Ideal S1x1x512 .f32) (r : Fin 512) : k0_pay122 (F := Ideal) v (ix2 0 r) = v (ix3 0 0 r) := by
  pointwise [k0_pay122]

/-- The lower rows of a block whose upper rows have just been stored. -/
theorem rd1' (v : View sig .tc .vmem S128x512 .f32) (x : FVec Ideal S64x512 .f32) (L : LA) (d : Fin 64) (r : Fin 512) :
    v.readAt (Elt Ideal) (Rect.unit (s := S128x512) ![64, 0] S64x512.size inb_S128x512_S64x512_64_0).toLoadRect
      (v.writes (Elt Ideal) v.junk (w0 x :: L)) (ix2 d r) = View.canon L (ix2 ⟨64 + d.val, by omega⟩ r) := by
  rw [rd1]
  refine View.canon_cons_of_not_mem _ _ fun h => ?_
  have h0 := ((Rect.mem_set_unit (inb := inb_S128x512_S64x512_0_0)).1 h 0).2
  have h1 : 64 + d.val < 0 + 64 := h0
  omega

/-- A load of one head's decay over the queries' block. -/
theorem rdc {arg8 : Memref sig .tc .vmem S1x16x4096 .f32} (h8 : arg8.IsWhole) (x6 : Vec Ideal S1x16x4096 .f32) {o : Fin 3 → ℕ} (n b : ℕ)
    (ho : o = ![0, n, 512 * b]) (inb : ∀ a, o a + S1x1x512.size a ≤ S1x16x4096.size a) (r : Fin 512) (f : Fin 16) (T : Fin 4096)
    (hf : f.val = n) (hT : T.val = 512 * b + r.val) :
    View.readAt (Elt Ideal) arg8.view (Rect.unit (s := S1x16x4096) o S1x1x512.size inb).toLoadRect (h8.unread x6) (ix3 0 0 r) = x6 (ix3 0 f T) := by
  subst ho
  refine (Memref.IsWhole.readAt_unread h8 x6 _ _).trans (congrArg x6 (funext fun a => Fin.ext ?_))
  match a with
  | ⟨0, _⟩ => exact (show 0 + 0 = 0 by omega)
  | ⟨1, _⟩ => exact (show n + 0 = f.val by omega)
  | ⟨2, _⟩ => exact (show 512 * b + 1 * r.val = T.val by omega)

theorem q_lo (l : Vec Ideal S1x1024 .f32) (a : Vec Ideal S64x512 .f32) (d : Fin 64) (r : Fin 512) (q : Fin 1024) (h : q.val = r.val) :
    k0_pay142 (F := Ideal) l a (ix2 d r) = Ideal.div (a (ix2 d r)) (l (ix2 0 q)) := by
  pointwise [k0_pay142]
  refine congrArg₂ Ideal.div rfl (congrArg l ?_)
  blk_ext

theorem q_hi (l : Vec Ideal S1x1024 .f32) (a : Vec Ideal S64x512 .f32) (d : Fin 64) (r : Fin 512) (q : Fin 1024) (h : q.val = 512 + r.val) :
    k0_pay144 (F := Ideal) (k0_pay143 (F := Ideal) l a) (ix2 d r) = Ideal.div (a (ix2 d r)) (l (ix2 0 q)) := by
  pointwise [k0_pay144, k0_pay143]
  refine congrArg₂ Ideal.div rfl (congrArg l ?_)
  blk_ext

end Cert.Kernel5Ideal.Fox
-- ==== Proof.FoxEndA.lean ====
/-
  The forgetting attention call's state at the end of the pairs 0 1 2 3.
-/
module

public import proofs.«01_k».proof.Proof.FoxLoopB
public import proofs.«01_k».proof.Proof.FoxPair

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x3 : Vec Ideal S1x4096x1024 .bf16) (x4 : Vec Ideal S1x1024x4096 .bf16) (x5 : Vec Ideal S1x4096x128 .bf16)
  (P12 : List (View.Piece (Elt Ideal) S256x1024 .bf16)) (P13 P14 P15 : LM) (P16 : LA)

/-- The pieces stored before the last tile of pair 0. -/
abbrev B14_0 (arg1 : BitVec 32) (v1 : BitVec 32) (arg1' : BitVec 32) (v1' : BitVec 32) (v92' : BitVec 32) : LM := (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v92' (harg5.unread x3) (harg6.unread x4) (harg7.unread x5) (arg12.view.writes (Elt Ideal) arg12.view.junk P12) (arg13.view.writes (Elt Ideal) arg13.view.junk P13)
    (arg14.view.writes (Elt Ideal) arg14.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).1 ++ P14)) (arg15.view.writes (Elt Ideal) arg15.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.1 ++ P15))
    (arg16.view.writes (Elt Ideal) arg16.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.2 ++ P16)) (k0_t2_loop i).trips).1 ++ ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).1 ++ P14)

abbrev B15_0 (arg1 : BitVec 32) (v1 : BitVec 32) (arg1' : BitVec 32) (v1' : BitVec 32) (v92' : BitVec 32) : LM := (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v92' (harg5.unread x3) (harg6.unread x4) (harg7.unread x5) (arg12.view.writes (Elt Ideal) arg12.view.junk P12) (arg13.view.writes (Elt Ideal) arg13.view.junk P13)
    (arg14.view.writes (Elt Ideal) arg14.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).1 ++ P14)) (arg15.view.writes (Elt Ideal) arg15.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.1 ++ P15))
    (arg16.view.writes (Elt Ideal) arg16.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.2 ++ P16)) (k0_t2_loop i).trips).2.1 ++ ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.1 ++ P15)

abbrev B16_0 (arg1 : BitVec 32) (v1 : BitVec 32) (arg1' : BitVec 32) (v1' : BitVec 32) (v92' : BitVec 32) : LA := (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v92' (harg5.unread x3) (harg6.unread x4) (harg7.unread x5) (arg12.view.writes (Elt Ideal) arg12.view.junk P12) (arg13.view.writes (Elt Ideal) arg13.view.junk P13)
    (arg14.view.writes (Elt Ideal) arg14.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).1 ++ P14)) (arg15.view.writes (Elt Ideal) arg15.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.1 ++ P15))
    (arg16.view.writes (Elt Ideal) arg16.view.junk ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.2 ++ P16)) (k0_t2_loop i).trips).2.2 ++ ((lp1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t1_loop i).trips).2.2 ++ P16)

theorem before0 (arg1 : BitVec 32) (v1 : BitVec 32) (arg1' : BitVec 32) (v1' : BitVec 32) (v92' : BitVec 32) (hr : ∀ q t, ∃ r : ℝ, raw x3 x5 0 (View.canon P12) q t = r) (hC : ∀ q, ∃ c : ℝ, View.canon P13 (ix2 0 q) = c)
    (h0 : St (XX x3 x5 0 (bq i) (View.canon P12) (View.canon P13)) (VV x4 0) 0 P14 P15 P16) :
    St (XX x3 x5 0 (bq i) (View.canon P12) (View.canon P13)) (VV x4 0) (bq i).val (B14_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92') (B15_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92') (B16_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92') := by
  unfold B14_0 B15_0 B16_0
  rw [rest2]
  have h := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 hr hC h0 (k0_t1_loop i).trips (le_of_eq (trips1 i))
  rw [trips1 i] at h ⊢
  exact h

/-- Pair 0's state once the last tile is stored. -/
theorem end0 (arg1 : BitVec 32) (v1 : BitVec 32) (arg1' : BitVec 32) (v1' : BitVec 32) (v92' : BitVec 32) (R : Vec Ideal S256x1024 .bf16) (C : Vec Ideal S1x1024 .f32) (hR : View.canon P12 = R) (hC : View.canon P13 = C)
    (hr : ∀ q t, ∃ r : ℝ, raw x3 x5 0 R q t = r) (hc : ∀ q, ∃ c : ℝ, C (ix2 0 q) = c) (h0 : St (XX x3 x5 0 (bq i) R C) (VV x4 0) 0 P14 P15 P16)
    (k a : Vec Ideal S1x512x128 .bf16) (u0 u1 : Vec Ideal S1x64x512 .bf16) (T : Tile x3 x4 x5 0 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92')))
    (hl : l = arg15.view.readAt (Elt Ideal) (Rect.unit ![0, 0] S1x1024.size inb_S1x1024_S1x1024_0_0).toLoadRect (arg15.view.writes (Elt Ideal) arg15.view.junk (B15_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92')))
    (ha0 : a0 = arg16.view.readAt (Elt Ideal) (Rect.unit (s := S128x512) ![0, 0] S64x512.size inb_S128x512_S64x512_0_0).toLoadRect (arg16.view.writes (Elt Ideal) arg16.view.junk (B16_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92')))
    (ha1 : a1 = arg16.view.readAt (Elt Ideal) (Rect.unit (s := S128x512) ![64, 0] S64x512.size inb_S128x512_S64x512_64_0).toLoadRect (arg16.view.writes (Elt Ideal) arg16.view.junk (w0 PB :: B16_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 0 (bq i) R C) (VV x4 0) ((bq i).val + 1) lm (wr PL :: B15_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92') (w1 PA :: w0 PB :: B16_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92') := by
  subst hR hC
  have e := diag hr hc (before0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v92' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 1. -/
abbrev B14_1 (arg1 : BitVec 32) (v1 : BitVec 32) (v207 : FVec Ideal S128x1024 .bf16) (arg1' : BitVec 32) (v239' : BitVec 32) : LM := (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v239' (harg5.unread x3) (harg6.unread x4) (harg7.unread x5) (arg12.view.writes (Elt Ideal) arg12.view.junk P12) (arg13.view.writes (Elt Ideal) arg13.view.junk P13)
    (arg14.view.writes (Elt Ideal) arg14.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).1 ++ P14)) (arg15.view.writes (Elt Ideal) arg15.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.1 ++ P15))
    (arg16.view.writes (Elt Ideal) arg16.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.2 ++ P16)) (k0_t4_loop i).trips).1 ++ ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).1 ++ P14)

abbrev B15_1 (arg1 : BitVec 32) (v1 : BitVec 32) (v207 : FVec Ideal S128x1024 .bf16) (arg1' : BitVec 32) (v239' : BitVec 32) : LM := (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v239' (harg5.unread x3) (harg6.unread x4) (harg7.unread x5) (arg12.view.writes (Elt Ideal) arg12.view.junk P12) (arg13.view.writes (Elt Ideal) arg13.view.junk P13)
    (arg14.view.writes (Elt Ideal) arg14.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).1 ++ P14)) (arg15.view.writes (Elt Ideal) arg15.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.1 ++ P15))
    (arg16.view.writes (Elt Ideal) arg16.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.2 ++ P16)) (k0_t4_loop i).trips).2.1 ++ ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.1 ++ P15)

abbrev B16_1 (arg1 : BitVec 32) (v1 : BitVec 32) (v207 : FVec Ideal S128x1024 .bf16) (arg1' : BitVec 32) (v239' : BitVec 32) : LA := (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v239' (harg5.unread x3) (harg6.unread x4) (harg7.unread x5) (arg12.view.writes (Elt Ideal) arg12.view.junk P12) (arg13.view.writes (Elt Ideal) arg13.view.junk P13)
    (arg14.view.writes (Elt Ideal) arg14.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).1 ++ P14)) (arg15.view.writes (Elt Ideal) arg15.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.1 ++ P15))
    (arg16.view.writes (Elt Ideal) arg16.view.junk ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.2 ++ P16)) (k0_t4_loop i).trips).2.2 ++ ((lp3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 (k0_t3_loop i).trips).2.2 ++ P16)

theorem before1 (arg1 : BitVec 32) (v1 : BitVec 32) (v207 : FVec Ideal S128x1024 .bf16) (arg1' : BitVec 32) (v239' : BitVec 32) (hr : ∀ q t, ∃ r : ℝ, raw x3 x5 1 (View.canon P12) q t = r) (hC : ∀ q, ∃ c : ℝ, View.canon P13 (ix2 0 q) = c)
    (h0 : St (XX x3 x5 1 (bq i) (View.canon P12) (View.canon P13)) (VV x4 1) 0 P14 P15 P16) :
    St (XX x3 x5 1 (bq i) (View.canon P12) (View.canon P13)) (VV x4 1) (bq i).val (B14_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239') (B15_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239') (B16_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239') := by
  unfold B14_1 B15_1 B16_1
  rw [rest4]
  have h := loop3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 hr hC h0 (k0_t3_loop i).trips (le_of_eq (trips3 i))
  rw [trips3 i] at h ⊢
  exact h

/-- Pair 1's state once the last tile is stored. -/
theorem end1 (arg1 : BitVec 32) (v1 : BitVec 32) (v207 : FVec Ideal S128x1024 .bf16) (arg1' : BitVec 32) (v239' : BitVec 32) (R : Vec Ideal S256x1024 .bf16) (C : Vec Ideal S1x1024 .f32) (hR : View.canon P12 = R) (hC : View.canon P13 = C)
    (hr : ∀ q t, ∃ r : ℝ, raw x3 x5 1 R q t = r) (hc : ∀ q, ∃ c : ℝ, C (ix2 0 q) = c) (h0 : St (XX x3 x5 1 (bq i) R C) (VV x4 1) 0 P14 P15 P16)
    (k a : Vec Ideal S1x512x128 .bf16) (u0 u1 : Vec Ideal S1x64x512 .bf16) (T : Tile x3 x4 x5 1 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239')))
    (hl : l = arg15.view.readAt (Elt Ideal) (Rect.unit ![0, 0] S1x1024.size inb_S1x1024_S1x1024_0_0).toLoadRect (arg15.view.writes (Elt Ideal) arg15.view.junk (B15_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239')))
    (ha0 : a0 = arg16.view.readAt (Elt Ideal) (Rect.unit (s := S128x512) ![0, 0] S64x512.size inb_S128x512_S64x512_0_0).toLoadRect (arg16.view.writes (Elt Ideal) arg16.view.junk (B16_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239')))
    (ha1 : a1 = arg16.view.readAt (Elt Ideal) (Rect.unit (s := S128x512) ![64, 0] S64x512.size inb_S128x512_S64x512_64_0).toLoadRect (arg16.view.writes (Elt Ideal) arg16.view.junk (w0 PB :: B16_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 1 (bq i) R C) (VV x4 1) ((bq i).val + 1) lm (wr PL :: B15_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239') (w1 PA :: w0 PB :: B16_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239') := by
  subst hR hC
  have e := diag hr hc (before1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v207 arg1' v239' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 2. -/
abbrev B14_2 (arg1 : BitVec 32) (v378 : FVec Ideal S128x512 .f32) (arg1' : BitVec 32) (v378' : FVec Ideal S128x512 .f32) (v386' : BitVec 32) : LM := (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v378' v386' (harg5.unread x3) (harg6.unread x4) (harg7.unread x5) (arg12.view.writes (Elt Ideal) arg12.view.junk P12) (arg13.view.writes (Elt Ideal) arg13.view.junk P13)
    (arg14.view.writes (Elt Ideal) arg14.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).1 ++ P14)) (arg15.view.writes (Elt Ideal) arg15.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.1 ++ P15))
    (arg16.view.writes (Elt Ideal) arg16.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.2 ++ P16)) (k0_t6_loop i).trips).1 ++ ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).1 ++ P14)

abbrev B15_2 (arg1 : BitVec 32) (v378 : FVec Ideal S128x512 .f32) (arg1' : BitVec 32) (v378' : FVec Ideal S128x512 .f32) (v386' : BitVec 32) : LM := (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v378' v386' (harg5.unread x3) (harg6.unread x4) (harg7.unread x5) (arg12.view.writes (Elt Ideal) arg12.view.junk P12) (arg13.view.writes (Elt Ideal) arg13.view.junk P13)
    (arg14.view.writes (Elt Ideal) arg14.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).1 ++ P14)) (arg15.view.writes (Elt Ideal) arg15.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.1 ++ P15))
    (arg16.view.writes (Elt Ideal) arg16.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.2 ++ P16)) (k0_t6_loop i).trips).2.1 ++ ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.1 ++ P15)

abbrev B16_2 (arg1 : BitVec 32) (v378 : FVec Ideal S128x512 .f32) (arg1' : BitVec 32) (v378' : FVec Ideal S128x512 .f32) (v386' : BitVec 32) : LA := (pb_k0_t6 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v378' v386' (harg5.unread x3) (harg6.unread x4) (harg7.unread x5) (arg12.view.writes (Elt Ideal) arg12.view.junk P12) (arg13.view.writes (Elt Ideal) arg13.view.junk P13)
    (arg14.view.writes (Elt Ideal) arg14.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).1 ++ P14)) (arg15.view.writes (Elt Ideal) arg15.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.1 ++ P15))
    (arg16.view.writes (Elt Ideal) arg16.view.junk ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.2 ++ P16)) (k0_t6_loop i).trips).2.2 ++ ((lp5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 (k0_t5_loop i).trips).2.2 ++ P16)

theorem before2 (arg1 : BitVec 32) (v378 : FVec Ideal S128x512 .f32) (arg1' : BitVec 32) (v378' : FVec Ideal S128x512 .f32) (v386' : BitVec 32) (hr : ∀ q t, ∃ r : ℝ, raw x3 x5 2 (View.canon P12) q t = r) (hC : ∀ q, ∃ c : ℝ, View.canon P13 (ix2 0 q) = c)
    (h0 : St (XX x3 x5 2 (bq i) (View.canon P12) (View.canon P13)) (VV x4 2) 0 P14 P15 P16) :
    St (XX x3 x5 2 (bq i) (View.canon P12) (View.canon P13)) (VV x4 2) (bq i).val (B14_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386') (B15_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386') (B16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386') := by
  unfold B14_2 B15_2 B16_2
  rw [rest6]
  have h := loop5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 hr hC h0 (k0_t5_loop i).trips (le_of_eq (trips5 i))
  rw [trips5 i] at h ⊢
  exact h

/-- Pair 2's state once the last tile is stored. -/
theorem end2 (arg1 : BitVec 32) (v378 : FVec Ideal S128x512 .f32) (arg1' : BitVec 32) (v378' : FVec Ideal S128x512 .f32) (v386' : BitVec 32) (R : Vec Ideal S256x1024 .bf16) (C : Vec Ideal S1x1024 .f32) (hR : View.canon P12 = R) (hC : View.canon P13 = C)
    (hr : ∀ q t, ∃ r : ℝ, raw x3 x5 2 R q t = r) (hc : ∀ q, ∃ c : ℝ, C (ix2 0 q) = c) (h0 : St (XX x3 x5 2 (bq i) R C) (VV x4 2) 0 P14 P15 P16)
    (k a : Vec Ideal S1x512x128 .bf16) (u0 u1 : Vec Ideal S1x64x512 .bf16) (T : Tile x3 x4 x5 2 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386')))
    (hl : l = arg15.view.readAt (Elt Ideal) (Rect.unit ![0, 0] S1x1024.size inb_S1x1024_S1x1024_0_0).toLoadRect (arg15.view.writes (Elt Ideal) arg15.view.junk (B15_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386')))
    (ha0 : a0 = arg16.view.readAt (Elt Ideal) (Rect.unit (s := S128x512) ![0, 0] S64x512.size inb_S128x512_S64x512_0_0).toLoadRect (arg16.view.writes (Elt Ideal) arg16.view.junk (B16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386')))
    (ha1 : a1 = arg16.view.readAt (Elt Ideal) (Rect.unit (s := S128x512) ![64, 0] S64x512.size inb_S128x512_S64x512_64_0).toLoadRect (arg16.view.writes (Elt Ideal) arg16.view.junk (w0 PB :: B16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 2 (bq i) R C) (VV x4 2) ((bq i).val + 1) lm (wr PL :: B15_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386') (w1 PA :: w0 PB :: B16_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386') := by
  subst hR hC
  have e := diag hr hc (before2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v378 arg1' v378' v386' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 3. -/
abbrev B14_3 (arg1 : BitVec 32) (v517 : FVec Ideal S1x1024 .f32) (arg1' : BitVec 32) (v517' : FVec Ideal S1x1024 .f32) (v533' : BitVec 32) : LM := (pb_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v517' v533' (harg5.unread x3) (harg6.unread x4) (harg7.unread x5) (arg12.view.writes (Elt Ideal) arg12.view.junk P12) (arg13.view.writes (Elt Ideal) arg13.view.junk P13)
    (arg14.view.writes (Elt Ideal) arg14.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).1 ++ P14)) (arg15.view.writes (Elt Ideal) arg15.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.1 ++ P15))
    (arg16.view.writes (Elt Ideal) arg16.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.2 ++ P16)) (k0_t8_loop i).trips).1 ++ ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).1 ++ P14)

abbrev B15_3 (arg1 : BitVec 32) (v517 : FVec Ideal S1x1024 .f32) (arg1' : BitVec 32) (v517' : FVec Ideal S1x1024 .f32) (v533' : BitVec 32) : LM := (pb_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v517' v533' (harg5.unread x3) (harg6.unread x4) (harg7.unread x5) (arg12.view.writes (Elt Ideal) arg12.view.junk P12) (arg13.view.writes (Elt Ideal) arg13.view.junk P13)
    (arg14.view.writes (Elt Ideal) arg14.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).1 ++ P14)) (arg15.view.writes (Elt Ideal) arg15.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.1 ++ P15))
    (arg16.view.writes (Elt Ideal) arg16.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.2 ++ P16)) (k0_t8_loop i).trips).2.1 ++ ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.1 ++ P15)

abbrev B16_3 (arg1 : BitVec 32) (v517 : FVec Ideal S1x1024 .f32) (arg1' : BitVec 32) (v517' : FVec Ideal S1x1024 .f32) (v533' : BitVec 32) : LA := (pb_k0_t8 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v517' v533' (harg5.unread x3) (harg6.unread x4) (harg7.unread x5) (arg12.view.writes (Elt Ideal) arg12.view.junk P12) (arg13.view.writes (Elt Ideal) arg13.view.junk P13)
    (arg14.view.writes (Elt Ideal) arg14.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).1 ++ P14)) (arg15.view.writes (Elt Ideal) arg15.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.1 ++ P15))
    (arg16.view.writes (Elt Ideal) arg16.view.junk ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.2 ++ P16)) (k0_t8_loop i).trips).2.2 ++ ((lp7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 (k0_t7_loop i).trips).2.2 ++ P16)

theorem before3 (arg1 : BitVec 32) (v517 : FVec Ideal S1x1024 .f32) (arg1' : BitVec 32) (v517' : FVec Ideal S1x1024 .f32) (v533' : BitVec 32) (hr : ∀ q t, ∃ r : ℝ, raw x3 x5 3 (View.canon P12) q t = r) (hC : ∀ q, ∃ c : ℝ, View.canon P13 (ix2 0 q) = c)
    (h0 : St (XX x3 x5 3 (bq i) (View.canon P12) (View.canon P13)) (VV x4 3) 0 P14 P15 P16) :
    St (XX x3 x5 3 (bq i) (View.canon P12) (View.canon P13)) (VV x4 3) (bq i).val (B14_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533') (B15_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533') (B16_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533') := by
  unfold B14_3 B15_3 B16_3
  rw [rest8]
  have h := loop7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 hr hC h0 (k0_t7_loop i).trips (le_of_eq (trips7 i))
  rw [trips7 i] at h ⊢
  exact h

/-- Pair 3's state once the last tile is stored. -/
theorem end3 (arg1 : BitVec 32) (v517 : FVec Ideal S1x1024 .f32) (arg1' : BitVec 32) (v517' : FVec Ideal S1x1024 .f32) (v533' : BitVec 32) (R : Vec Ideal S256x1024 .bf16) (C : Vec Ideal S1x1024 .f32) (hR : View.canon P12 = R) (hC : View.canon P13 = C)
    (hr : ∀ q t, ∃ r : ℝ, raw x3 x5 3 R q t = r) (hc : ∀ q, ∃ c : ℝ, C (ix2 0 q) = c) (h0 : St (XX x3 x5 3 (bq i) R C) (VV x4 3) 0 P14 P15 P16)
    (k a : Vec Ideal S1x512x128 .bf16) (u0 u1 : Vec Ideal S1x64x512 .bf16) (T : Tile x3 x4 x5 3 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533')))
    (hl : l = arg15.view.readAt (Elt Ideal) (Rect.unit ![0, 0] S1x1024.size inb_S1x1024_S1x1024_0_0).toLoadRect (arg15.view.writes (Elt Ideal) arg15.view.junk (B15_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533')))
    (ha0 : a0 = arg16.view.readAt (Elt Ideal) (Rect.unit (s := S128x512) ![0, 0] S64x512.size inb_S128x512_S64x512_0_0).toLoadRect (arg16.view.writes (Elt Ideal) arg16.view.junk (B16_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533')))
    (ha1 : a1 = arg16.view.readAt (Elt Ideal) (Rect.unit (s := S128x512) ![64, 0] S64x512.size inb_S128x512_S64x512_64_0).toLoadRect (arg16.view.writes (Elt Ideal) arg16.view.junk (w0 PB :: B16_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 3 (bq i) R C) (VV x4 3) ((bq i).val + 1) lm (wr PL :: B15_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533') (w1 PA :: w0 PB :: B16_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533') := by
  subst hR hC
  have e := diag hr hc (before3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v517 arg1' v517' v533' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

end

end Cert.Kernel5Ideal.Fox
-- ==== Proof.FoxEndB.lean ====
/-
  The forgetting attention call's state at the end of the pairs 4 5 6 7.
-/
module

public import proofs.«01_k».proof.Proof.FoxLoopB
public import proofs.«01_k».proof.Proof.FoxPair

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x3 : Vec Ideal S1x4096x1024 .bf16) (x4 : Vec Ideal S1x1024x4096 .bf16) (x5 : Vec Ideal S1x4096x128 .bf16)
  (P12 : List (View.Piece (Elt Ideal) S256x1024 .bf16)) (P13 P14 P15 : LM) (P16 : LA)

/-- The pieces stored before the last tile of pair 4. -/
abbrev B14_4 (arg1 : BitVec 32) (v1 : BitVec 32) (arg1' : BitVec 32) (v1' : BitVec 32) (v680' : BitVec 32) : LM := (pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v680' (harg5.unread x3) (harg6.unread x4) (harg7.unread x5) (arg12.view.writes (Elt Ideal) arg12.view.junk P12) (arg13.view.writes (Elt Ideal) arg13.view.junk P13)
    (arg14.view.writes (Elt Ideal) arg14.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).1 ++ P14)) (arg15.view.writes (Elt Ideal) arg15.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.1 ++ P15))
    (arg16.view.writes (Elt Ideal) arg16.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.2 ++ P16)) (k0_t10_loop i).trips).1 ++ ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).1 ++ P14)

abbrev B15_4 (arg1 : BitVec 32) (v1 : BitVec 32) (arg1' : BitVec 32) (v1' : BitVec 32) (v680' : BitVec 32) : LM := (pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v680' (harg5.unread x3) (harg6.unread x4) (harg7.unread x5) (arg12.view.writes (Elt Ideal) arg12.view.junk P12) (arg13.view.writes (Elt Ideal) arg13.view.junk P13)
    (arg14.view.writes (Elt Ideal) arg14.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).1 ++ P14)) (arg15.view.writes (Elt Ideal) arg15.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.1 ++ P15))
    (arg16.view.writes (Elt Ideal) arg16.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.2 ++ P16)) (k0_t10_loop i).trips).2.1 ++ ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.1 ++ P15)

abbrev B16_4 (arg1 : BitVec 32) (v1 : BitVec 32) (arg1' : BitVec 32) (v1' : BitVec 32) (v680' : BitVec 32) : LA := (pb_k0_t10 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1' v680' (harg5.unread x3) (harg6.unread x4) (harg7.unread x5) (arg12.view.writes (Elt Ideal) arg12.view.junk P12) (arg13.view.writes (Elt Ideal) arg13.view.junk P13)
    (arg14.view.writes (Elt Ideal) arg14.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).1 ++ P14)) (arg15.view.writes (Elt Ideal) arg15.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.1 ++ P15))
    (arg16.view.writes (Elt Ideal) arg16.view.junk ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.2 ++ P16)) (k0_t10_loop i).trips).2.2 ++ ((lp9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 (k0_t9_loop i).trips).2.2 ++ P16)

theorem before4 (arg1 : BitVec 32) (v1 : BitVec 32) (arg1' : BitVec 32) (v1' : BitVec 32) (v680' : BitVec 32) (hr : ∀ q t, ∃ r : ℝ, raw x3 x5 4 (View.canon P12) q t = r) (hC : ∀ q, ∃ c : ℝ, View.canon P13 (ix2 0 q) = c)
    (h0 : St (XX x3 x5 4 (bq i) (View.canon P12) (View.canon P13)) (VV x4 4) 0 P14 P15 P16) :
    St (XX x3 x5 4 (bq i) (View.canon P12) (View.canon P13)) (VV x4 4) (bq i).val (B14_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680') (B15_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680') (B16_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680') := by
  unfold B14_4 B15_4 B16_4
  rw [rest10]
  have h := loop9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 hr hC h0 (k0_t9_loop i).trips (le_of_eq (trips9 i))
  rw [trips9 i] at h ⊢
  exact h

/-- Pair 4's state once the last tile is stored. -/
theorem end4 (arg1 : BitVec 32) (v1 : BitVec 32) (arg1' : BitVec 32) (v1' : BitVec 32) (v680' : BitVec 32) (R : Vec Ideal S256x1024 .bf16) (C : Vec Ideal S1x1024 .f32) (hR : View.canon P12 = R) (hC : View.canon P13 = C)
    (hr : ∀ q t, ∃ r : ℝ, raw x3 x5 4 R q t = r) (hc : ∀ q, ∃ c : ℝ, C (ix2 0 q) = c) (h0 : St (XX x3 x5 4 (bq i) R C) (VV x4 4) 0 P14 P15 P16)
    (k a : Vec Ideal S1x512x128 .bf16) (u0 u1 : Vec Ideal S1x64x512 .bf16) (T : Tile x3 x4 x5 4 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680')))
    (hl : l = arg15.view.readAt (Elt Ideal) (Rect.unit ![0, 0] S1x1024.size inb_S1x1024_S1x1024_0_0).toLoadRect (arg15.view.writes (Elt Ideal) arg15.view.junk (B15_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680')))
    (ha0 : a0 = arg16.view.readAt (Elt Ideal) (Rect.unit (s := S128x512) ![0, 0] S64x512.size inb_S128x512_S64x512_0_0).toLoadRect (arg16.view.writes (Elt Ideal) arg16.view.junk (B16_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680')))
    (ha1 : a1 = arg16.view.readAt (Elt Ideal) (Rect.unit (s := S128x512) ![64, 0] S64x512.size inb_S128x512_S64x512_64_0).toLoadRect (arg16.view.writes (Elt Ideal) arg16.view.junk (w0 PB :: B16_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 4 (bq i) R C) (VV x4 4) ((bq i).val + 1) lm (wr PL :: B15_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680') (w1 PA :: w0 PB :: B16_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680') := by
  subst hR hC
  have e := diag hr hc (before4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 arg1' v1' v680' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 5. -/
abbrev B14_5 (arg1 : BitVec 32) (v1 : BitVec 32) (v795 : FVec Ideal S128x1024 .bf16) (arg1' : BitVec 32) (v827' : BitVec 32) : LM := (pb_k0_t12 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v827' (harg5.unread x3) (harg6.unread x4) (harg7.unread x5) (arg12.view.writes (Elt Ideal) arg12.view.junk P12) (arg13.view.writes (Elt Ideal) arg13.view.junk P13)
    (arg14.view.writes (Elt Ideal) arg14.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).1 ++ P14)) (arg15.view.writes (Elt Ideal) arg15.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.1 ++ P15))
    (arg16.view.writes (Elt Ideal) arg16.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.2 ++ P16)) (k0_t12_loop i).trips).1 ++ ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).1 ++ P14)

abbrev B15_5 (arg1 : BitVec 32) (v1 : BitVec 32) (v795 : FVec Ideal S128x1024 .bf16) (arg1' : BitVec 32) (v827' : BitVec 32) : LM := (pb_k0_t12 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v827' (harg5.unread x3) (harg6.unread x4) (harg7.unread x5) (arg12.view.writes (Elt Ideal) arg12.view.junk P12) (arg13.view.writes (Elt Ideal) arg13.view.junk P13)
    (arg14.view.writes (Elt Ideal) arg14.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).1 ++ P14)) (arg15.view.writes (Elt Ideal) arg15.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.1 ++ P15))
    (arg16.view.writes (Elt Ideal) arg16.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.2 ++ P16)) (k0_t12_loop i).trips).2.1 ++ ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.1 ++ P15)

abbrev B16_5 (arg1 : BitVec 32) (v1 : BitVec 32) (v795 : FVec Ideal S128x1024 .bf16) (arg1' : BitVec 32) (v827' : BitVec 32) : LA := (pb_k0_t12 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v827' (harg5.unread x3) (harg6.unread x4) (harg7.unread x5) (arg12.view.writes (Elt Ideal) arg12.view.junk P12) (arg13.view.writes (Elt Ideal) arg13.view.junk P13)
    (arg14.view.writes (Elt Ideal) arg14.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).1 ++ P14)) (arg15.view.writes (Elt Ideal) arg15.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.1 ++ P15))
    (arg16.view.writes (Elt Ideal) arg16.view.junk ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.2 ++ P16)) (k0_t12_loop i).trips).2.2 ++ ((lp11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 (k0_t11_loop i).trips).2.2 ++ P16)

theorem before5 (arg1 : BitVec 32) (v1 : BitVec 32) (v795 : FVec Ideal S128x1024 .bf16) (arg1' : BitVec 32) (v827' : BitVec 32) (hr : ∀ q t, ∃ r : ℝ, raw x3 x5 5 (View.canon P12) q t = r) (hC : ∀ q, ∃ c : ℝ, View.canon P13 (ix2 0 q) = c)
    (h0 : St (XX x3 x5 5 (bq i) (View.canon P12) (View.canon P13)) (VV x4 5) 0 P14 P15 P16) :
    St (XX x3 x5 5 (bq i) (View.canon P12) (View.canon P13)) (VV x4 5) (bq i).val (B14_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827') (B15_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827') (B16_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827') := by
  unfold B14_5 B15_5 B16_5
  rw [rest12]
  have h := loop11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 hr hC h0 (k0_t11_loop i).trips (le_of_eq (trips11 i))
  rw [trips11 i] at h ⊢
  exact h

/-- Pair 5's state once the last tile is stored. -/
theorem end5 (arg1 : BitVec 32) (v1 : BitVec 32) (v795 : FVec Ideal S128x1024 .bf16) (arg1' : BitVec 32) (v827' : BitVec 32) (R : Vec Ideal S256x1024 .bf16) (C : Vec Ideal S1x1024 .f32) (hR : View.canon P12 = R) (hC : View.canon P13 = C)
    (hr : ∀ q t, ∃ r : ℝ, raw x3 x5 5 R q t = r) (hc : ∀ q, ∃ c : ℝ, C (ix2 0 q) = c) (h0 : St (XX x3 x5 5 (bq i) R C) (VV x4 5) 0 P14 P15 P16)
    (k a : Vec Ideal S1x512x128 .bf16) (u0 u1 : Vec Ideal S1x64x512 .bf16) (T : Tile x3 x4 x5 5 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827')))
    (hl : l = arg15.view.readAt (Elt Ideal) (Rect.unit ![0, 0] S1x1024.size inb_S1x1024_S1x1024_0_0).toLoadRect (arg15.view.writes (Elt Ideal) arg15.view.junk (B15_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827')))
    (ha0 : a0 = arg16.view.readAt (Elt Ideal) (Rect.unit (s := S128x512) ![0, 0] S64x512.size inb_S128x512_S64x512_0_0).toLoadRect (arg16.view.writes (Elt Ideal) arg16.view.junk (B16_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827')))
    (ha1 : a1 = arg16.view.readAt (Elt Ideal) (Rect.unit (s := S128x512) ![64, 0] S64x512.size inb_S128x512_S64x512_64_0).toLoadRect (arg16.view.writes (Elt Ideal) arg16.view.junk (w0 PB :: B16_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 5 (bq i) R C) (VV x4 5) ((bq i).val + 1) lm (wr PL :: B15_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827') (w1 PA :: w0 PB :: B16_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827') := by
  subst hR hC
  have e := diag hr hc (before5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1 v795 arg1' v827' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 6. -/
abbrev B14_6 (arg1 : BitVec 32) (v966 : FVec Ideal S128x512 .f32) (arg1' : BitVec 32) (v966' : FVec Ideal S128x512 .f32) (v974' : BitVec 32) : LM := (pb_k0_t14 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v966' v974' (harg5.unread x3) (harg6.unread x4) (harg7.unread x5) (arg12.view.writes (Elt Ideal) arg12.view.junk P12) (arg13.view.writes (Elt Ideal) arg13.view.junk P13)
    (arg14.view.writes (Elt Ideal) arg14.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).1 ++ P14)) (arg15.view.writes (Elt Ideal) arg15.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.1 ++ P15))
    (arg16.view.writes (Elt Ideal) arg16.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.2 ++ P16)) (k0_t14_loop i).trips).1 ++ ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).1 ++ P14)

abbrev B15_6 (arg1 : BitVec 32) (v966 : FVec Ideal S128x512 .f32) (arg1' : BitVec 32) (v966' : FVec Ideal S128x512 .f32) (v974' : BitVec 32) : LM := (pb_k0_t14 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v966' v974' (harg5.unread x3) (harg6.unread x4) (harg7.unread x5) (arg12.view.writes (Elt Ideal) arg12.view.junk P12) (arg13.view.writes (Elt Ideal) arg13.view.junk P13)
    (arg14.view.writes (Elt Ideal) arg14.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).1 ++ P14)) (arg15.view.writes (Elt Ideal) arg15.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.1 ++ P15))
    (arg16.view.writes (Elt Ideal) arg16.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.2 ++ P16)) (k0_t14_loop i).trips).2.1 ++ ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.1 ++ P15)

abbrev B16_6 (arg1 : BitVec 32) (v966 : FVec Ideal S128x512 .f32) (arg1' : BitVec 32) (v966' : FVec Ideal S128x512 .f32) (v974' : BitVec 32) : LA := (pb_k0_t14 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v966' v974' (harg5.unread x3) (harg6.unread x4) (harg7.unread x5) (arg12.view.writes (Elt Ideal) arg12.view.junk P12) (arg13.view.writes (Elt Ideal) arg13.view.junk P13)
    (arg14.view.writes (Elt Ideal) arg14.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).1 ++ P14)) (arg15.view.writes (Elt Ideal) arg15.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.1 ++ P15))
    (arg16.view.writes (Elt Ideal) arg16.view.junk ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.2 ++ P16)) (k0_t14_loop i).trips).2.2 ++ ((lp13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 (k0_t13_loop i).trips).2.2 ++ P16)

theorem before6 (arg1 : BitVec 32) (v966 : FVec Ideal S128x512 .f32) (arg1' : BitVec 32) (v966' : FVec Ideal S128x512 .f32) (v974' : BitVec 32) (hr : ∀ q t, ∃ r : ℝ, raw x3 x5 6 (View.canon P12) q t = r) (hC : ∀ q, ∃ c : ℝ, View.canon P13 (ix2 0 q) = c)
    (h0 : St (XX x3 x5 6 (bq i) (View.canon P12) (View.canon P13)) (VV x4 6) 0 P14 P15 P16) :
    St (XX x3 x5 6 (bq i) (View.canon P12) (View.canon P13)) (VV x4 6) (bq i).val (B14_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974') (B15_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974') (B16_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974') := by
  unfold B14_6 B15_6 B16_6
  rw [rest14]
  have h := loop13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 hr hC h0 (k0_t13_loop i).trips (le_of_eq (trips13 i))
  rw [trips13 i] at h ⊢
  exact h

/-- Pair 6's state once the last tile is stored. -/
theorem end6 (arg1 : BitVec 32) (v966 : FVec Ideal S128x512 .f32) (arg1' : BitVec 32) (v966' : FVec Ideal S128x512 .f32) (v974' : BitVec 32) (R : Vec Ideal S256x1024 .bf16) (C : Vec Ideal S1x1024 .f32) (hR : View.canon P12 = R) (hC : View.canon P13 = C)
    (hr : ∀ q t, ∃ r : ℝ, raw x3 x5 6 R q t = r) (hc : ∀ q, ∃ c : ℝ, C (ix2 0 q) = c) (h0 : St (XX x3 x5 6 (bq i) R C) (VV x4 6) 0 P14 P15 P16)
    (k a : Vec Ideal S1x512x128 .bf16) (u0 u1 : Vec Ideal S1x64x512 .bf16) (T : Tile x3 x4 x5 6 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974')))
    (hl : l = arg15.view.readAt (Elt Ideal) (Rect.unit ![0, 0] S1x1024.size inb_S1x1024_S1x1024_0_0).toLoadRect (arg15.view.writes (Elt Ideal) arg15.view.junk (B15_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974')))
    (ha0 : a0 = arg16.view.readAt (Elt Ideal) (Rect.unit (s := S128x512) ![0, 0] S64x512.size inb_S128x512_S64x512_0_0).toLoadRect (arg16.view.writes (Elt Ideal) arg16.view.junk (B16_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974')))
    (ha1 : a1 = arg16.view.readAt (Elt Ideal) (Rect.unit (s := S128x512) ![64, 0] S64x512.size inb_S128x512_S64x512_64_0).toLoadRect (arg16.view.writes (Elt Ideal) arg16.view.junk (w0 PB :: B16_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 6 (bq i) R C) (VV x4 6) ((bq i).val + 1) lm (wr PL :: B15_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974') (w1 PA :: w0 PB :: B16_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974') := by
  subst hR hC
  have e := diag hr hc (before6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v966 arg1' v966' v974' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

/-- The pieces stored before the last tile of pair 7. -/
abbrev B14_7 (arg1 : BitVec 32) (v1105 : FVec Ideal S1x1024 .f32) (arg1' : BitVec 32) (v1105' : FVec Ideal S1x1024 .f32) (v1121' : BitVec 32) : LM := (pb_k0_t16 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1105' v1121' (harg5.unread x3) (harg6.unread x4) (harg7.unread x5) (arg12.view.writes (Elt Ideal) arg12.view.junk P12) (arg13.view.writes (Elt Ideal) arg13.view.junk P13)
    (arg14.view.writes (Elt Ideal) arg14.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).1 ++ P14)) (arg15.view.writes (Elt Ideal) arg15.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.1 ++ P15))
    (arg16.view.writes (Elt Ideal) arg16.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.2 ++ P16)) (k0_t16_loop i).trips).1 ++ ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).1 ++ P14)

abbrev B15_7 (arg1 : BitVec 32) (v1105 : FVec Ideal S1x1024 .f32) (arg1' : BitVec 32) (v1105' : FVec Ideal S1x1024 .f32) (v1121' : BitVec 32) : LM := (pb_k0_t16 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1105' v1121' (harg5.unread x3) (harg6.unread x4) (harg7.unread x5) (arg12.view.writes (Elt Ideal) arg12.view.junk P12) (arg13.view.writes (Elt Ideal) arg13.view.junk P13)
    (arg14.view.writes (Elt Ideal) arg14.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).1 ++ P14)) (arg15.view.writes (Elt Ideal) arg15.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.1 ++ P15))
    (arg16.view.writes (Elt Ideal) arg16.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.2 ++ P16)) (k0_t16_loop i).trips).2.1 ++ ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.1 ++ P15)

abbrev B16_7 (arg1 : BitVec 32) (v1105 : FVec Ideal S1x1024 .f32) (arg1' : BitVec 32) (v1105' : FVec Ideal S1x1024 .f32) (v1121' : BitVec 32) : LA := (pb_k0_t16 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1' v1105' v1121' (harg5.unread x3) (harg6.unread x4) (harg7.unread x5) (arg12.view.writes (Elt Ideal) arg12.view.junk P12) (arg13.view.writes (Elt Ideal) arg13.view.junk P13)
    (arg14.view.writes (Elt Ideal) arg14.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).1 ++ P14)) (arg15.view.writes (Elt Ideal) arg15.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.1 ++ P15))
    (arg16.view.writes (Elt Ideal) arg16.view.junk ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.2 ++ P16)) (k0_t16_loop i).trips).2.2 ++ ((lp15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 (k0_t15_loop i).trips).2.2 ++ P16)

theorem before7 (arg1 : BitVec 32) (v1105 : FVec Ideal S1x1024 .f32) (arg1' : BitVec 32) (v1105' : FVec Ideal S1x1024 .f32) (v1121' : BitVec 32) (hr : ∀ q t, ∃ r : ℝ, raw x3 x5 7 (View.canon P12) q t = r) (hC : ∀ q, ∃ c : ℝ, View.canon P13 (ix2 0 q) = c)
    (h0 : St (XX x3 x5 7 (bq i) (View.canon P12) (View.canon P13)) (VV x4 7) 0 P14 P15 P16) :
    St (XX x3 x5 7 (bq i) (View.canon P12) (View.canon P13)) (VV x4 7) (bq i).val (B14_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121') (B15_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121') (B16_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121') := by
  unfold B14_7 B15_7 B16_7
  rw [rest16]
  have h := loop15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 hr hC h0 (k0_t15_loop i).trips (le_of_eq (trips15 i))
  rw [trips15 i] at h ⊢
  exact h

/-- Pair 7's state once the last tile is stored. -/
theorem end7 (arg1 : BitVec 32) (v1105 : FVec Ideal S1x1024 .f32) (arg1' : BitVec 32) (v1105' : FVec Ideal S1x1024 .f32) (v1121' : BitVec 32) (R : Vec Ideal S256x1024 .bf16) (C : Vec Ideal S1x1024 .f32) (hR : View.canon P12 = R) (hC : View.canon P13 = C)
    (hr : ∀ q t, ∃ r : ℝ, raw x3 x5 7 R q t = r) (hc : ∀ q, ∃ c : ℝ, C (ix2 0 q) = c) (h0 : St (XX x3 x5 7 (bq i) R C) (VV x4 7) 0 P14 P15 P16)
    (k a : Vec Ideal S1x512x128 .bf16) (u0 u1 : Vec Ideal S1x64x512 .bf16) (T : Tile x3 x4 x5 7 (bq i).val k a u0 u1)
    (R' : Vec Ideal S256x1024 .bf16) (ct m l : Vec Ideal S1x1024 .f32) (a0 a1 : Vec Ideal S64x512 .f32)
    (PL : FVec Ideal S1x1024 .f32) (PB PA : FVec Ideal S64x512 .f32)
    (hR' : R' = arg12.view.readAt (Elt Ideal) (Rect.unit ![0, 0] S256x1024.size inb_S256x1024_S256x1024_0_0).toLoadRect (arg12.view.writes (Elt Ideal) arg12.view.junk P12))
    (hct : ct = arg13.view.readAt (Elt Ideal) (Rect.unit ![0, 0] S1x1024.size inb_S1x1024_S1x1024_0_0).toLoadRect (arg13.view.writes (Elt Ideal) arg13.view.junk P13))
    (hm : m = arg14.view.readAt (Elt Ideal) (Rect.unit ![0, 0] S1x1024.size inb_S1x1024_S1x1024_0_0).toLoadRect (arg14.view.writes (Elt Ideal) arg14.view.junk (B14_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121')))
    (hl : l = arg15.view.readAt (Elt Ideal) (Rect.unit ![0, 0] S1x1024.size inb_S1x1024_S1x1024_0_0).toLoadRect (arg15.view.writes (Elt Ideal) arg15.view.junk (B15_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121')))
    (ha0 : a0 = arg16.view.readAt (Elt Ideal) (Rect.unit (s := S128x512) ![0, 0] S64x512.size inb_S128x512_S64x512_0_0).toLoadRect (arg16.view.writes (Elt Ideal) arg16.view.junk (B16_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121')))
    (ha1 : a1 = arg16.view.readAt (Elt Ideal) (Rect.unit (s := S128x512) ![64, 0] S64x512.size inb_S128x512_S64x512_64_0).toLoadRect (arg16.view.writes (Elt Ideal) arg16.view.junk (w0 PB :: B16_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121')))
    (ePL : PL = lS (k0_pay133 (k0_pay131 k) (k0_pay132 a) R') ct m l)
    (ePB : PB = k0_pay127 (F := Ideal) (al (k0_pay133 (k0_pay131 k) (k0_pay132 a) R') ct m) (pB (k0_pay133 (k0_pay131 k) (k0_pay132 a) R') ct m) u0 a0)
    (ePA : PA = k0_pay128 (F := Ideal) (al (k0_pay133 (k0_pay131 k) (k0_pay132 a) R') ct m) (pB (k0_pay133 (k0_pay131 k) (k0_pay132 a) R') ct m) u1 a1) :
    ∃ lm, St (XX x3 x5 7 (bq i) R C) (VV x4 7) ((bq i).val + 1) lm (wr PL :: B15_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121') (w1 PA :: w0 PB :: B16_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121') := by
  subst hR hC
  have e := diag hr hc (before7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 P12 P13 P14 P15 P16 arg1 v1105 arg1' v1105' v1121' hr hc h0) k a u0 u1 T R' ct m l a0 a1
    (hR'.trans (rdw arg12.view (by decide) inb_S256x1024_S256x1024_0_0 P12)) (hct.trans (rdw arg13.view (by decide) inb_S1x1024_S1x1024_0_0 P13))
    (hm.trans (rdw arg14.view (by decide) inb_S1x1024_S1x1024_0_0 _)) (hl.trans (rdw arg15.view (by decide) inb_S1x1024_S1x1024_0_0 _))
    (fun d r => (congrFun ha0 _).trans (rd0 arg16.view _ d r)) (fun d r => (congrFun ha1 _).trans (rd1' arg16.view PB _ d r))
  rw [← ePL, ← ePB, ← ePA] at e
  exact ⟨_, e⟩

end

end Cert.Kernel5Ideal.Fox
-- ==== Proof.FoxRun.lean ====
/-
  The forgetting attention call's run, pair by pair.
-/
module

public import proofs.«01_k».proof.Proof.FoxEndA
public import proofs.«01_k».proof.Proof.FoxEndB

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

/-- The queries of a block, feature by query. -/
def qt (x0 : Vec Ideal S1x512x1024 .f32) (x1 : Vec Ideal S1x1024 .f32) (x2 : Vec Ideal S1024x1024 .bf16) : Vec Ideal S1024x512 .bf16 :=
  k0_pay115 (F := Ideal) x0 x1 x2

/-- A load of a whole block. -/
theorem rdu {S : Shape} {e : EltTy} {m : Memref sig .tc .vmem S e} (h : m.IsWhole) (X : Vec Ideal S e) {off : Fin S.rank → ℕ} (ho : ∀ a, off a = 0)
    (inb : ∀ a, off a + S.size a ≤ S.size a) : m.view.readAt (Elt Ideal) (Rect.unit off S.size inb).toLoadRect (h.unread X) = X := by
  funext y
  refine (Memref.IsWhole.readAt_unread h X _ y).trans ?_
  exact congrFun (View.ld_unit_lit inb X ho) y

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x0 : Vec Ideal S1x512x1024 .f32) (x1 : Vec Ideal S1x1024 .f32) (x2 : Vec Ideal S1024x1024 .bf16) (x3 : Vec Ideal S1x4096x1024 .bf16)
  (x4 : Vec Ideal S1x1024x4096 .bf16) (x5 : Vec Ideal S1x4096x128 .bf16) (x6 : Vec Ideal S1x16x4096 .f32)

theorem q_list : kernelRun0_A.sl.HS0_1 (F := Ideal) c arg2 harg2 arg3 harg3 arg4 harg4 x0 x1 x2
    = [⟨Rect.unit ![0, 0] S1024x512.size inb_S1024x512_S1024x512_0_0, qt x0 x1 x2⟩] := by
  unfold kernelRun0_A.sl.HS0_1
  rw [rdu harg2 x0 (off := ![0, 0, 0]) (by decide), rdu harg3 x1 (off := ![0, 0]) (by decide), rdu harg4 x2 (off := ![0, 0]) (by decide)]
  rfl

theorem q_at {o : Fin 2 → ℕ} (n : ℕ) (ho : o = ![n, 0]) (inb : ∀ a, o a + S64x512.size a ≤ S1024x512.size a) (d : Fin 64) (r : Fin 512)
    (f : Fin 1024) (hf : f.val = n + d.val) :
    arg11.view.readCov (kernelRun0_A.sl.HS0_1 (F := Ideal) c arg2 harg2 arg3 harg3 arg4 harg4 x0 x1 x2) (Rect.unit (s := S1024x512) o S64x512.size inb).toLoadRect (ix2 d r)
      = qt x0 x1 x2 (ix2 f r) := by
  rw [q_list]
  exact rdq arg11.view _ n ho inb d r f hf

/-- Pair 0. -/
theorem run0 (hr : ∀ q t, ∃ r : ℝ, raw x3 x5 0 (RR 0 (qt x0 x1 x2)) q t = r) (hc : ∀ q, ∃ c : ℝ, CC (bq i) 0 x6 (ix2 0 q) = c) :
    ∃ lm, St (XX x3 x5 0 (bq i) (RR 0 (qt x0 x1 x2)) (CC (bq i) 0 x6)) (VV x4 0) ((bq i).val + 1) lm
      (kernelRun0_A.sl.HS4_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2 kernelRun0_A.sl.HS5_1_1 kernelRun0_A.sl.HS4_1_1
  refine end0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 0 (i 1).val (k0_off11_eq i) (k0_off12_eq i) (k0_off13_eq i) (k0_off14_eq i)
      (k0_off11_inb i) (k0_off12_inb i) (k0_off13_inb i) (k0_off14_inb i))
    _ _ _ _ _ _ _ _ _ rfl rfl rfl rfl rfl rfl rfl rfl rfl
  · exact canonR 0 (qt x0 x1 x2) _ _ _ _ _ _
      (fun d r => (pay117_at _ d r).trans (q_at c arg2 harg2 arg3 harg3 arg4 harg4 arg11 x0 x1 x2 0 rfl _ d r _ rfl))
      (fun d r => (pay117_at _ d r).trans (q_at c arg2 harg2 arg3 harg3 arg4 harg4 arg11 x0 x1 x2 64 rfl _ d r _ rfl))
      pay118_at pay118_at (fun x c => (pay121_at x c).trans (sel_at 0 x c))
  · exact canonC (bq i) 0 x6 _ _ _
      (fun r => (pay122_at _ r).trans (rdc harg8 x6 0 (i 1).val (k0_off1_eq i) _ r _ _ rfl rfl))
      (fun r => (pay122_at _ r).trans (rdc harg8 x6 1 (i 1).val (k0_off2_eq i) _ r _ _ rfl rfl))

/-- Pair 1. -/
theorem run1 (hr : ∀ q t, ∃ r : ℝ, raw x3 x5 1 (RR 1 (qt x0 x1 x2)) q t = r) (hc : ∀ q, ∃ c : ℝ, CC (bq i) 1 x6 (ix2 0 q) = c) :
    ∃ lm, St (XX x3 x5 1 (bq i) (RR 1 (qt x0 x1 x2)) (CC (bq i) 1 x6)) (VV x4 1) ((bq i).val + 1) lm
      (kernelRun0_A.sl.HS4_1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_1 kernelRun0_A.sl.HS5_1_2 kernelRun0_A.sl.HS4_1_2
  refine end1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 1 (i 1).val (k0_off25_eq i) (k0_off12_eq i) (k0_off26_eq i) (k0_off27_eq i)
      (k0_off25_inb i) (k0_off12_inb i) (k0_off26_inb i) (k0_off27_inb i))
    _ _ _ _ _ _ _ _ _ rfl rfl rfl rfl rfl rfl rfl rfl rfl
  · exact canonR 1 (qt x0 x1 x2) _ _ _ _ _ _
      (fun d r => (pay117_at _ d r).trans (q_at c arg2 harg2 arg3 harg3 arg4 harg4 arg11 x0 x1 x2 128 rfl _ d r _ rfl))
      (fun d r => (pay117_at _ d r).trans (q_at c arg2 harg2 arg3 harg3 arg4 harg4 arg11 x0 x1 x2 192 rfl _ d r _ rfl))
      pay118_at pay118_at (fun x c => (id_at (sel 3#32 2#32) x c).trans (sel_at 1 x c))
  · exact canonC (bq i) 1 x6 _ _ _
      (fun r => (pay122_at _ r).trans (rdc harg8 x6 2 (i 1).val (k0_off15_eq i) _ r _ _ rfl rfl))
      (fun r => (pay122_at _ r).trans (rdc harg8 x6 3 (i 1).val (k0_off16_eq i) _ r _ _ rfl rfl))

/-- Pair 2. -/
theorem run2 (hr : ∀ q t, ∃ r : ℝ, raw x3 x5 2 (RR 2 (qt x0 x1 x2)) q t = r) (hc : ∀ q, ∃ c : ℝ, CC (bq i) 2 x6 (ix2 0 q) = c) :
    ∃ lm, St (XX x3 x5 2 (bq i) (RR 2 (qt x0 x1 x2)) (CC (bq i) 2 x6)) (VV x4 2) ((bq i).val + 1) lm
      (kernelRun0_A.sl.HS4_1_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_2 kernelRun0_A.sl.HS5_1_3 kernelRun0_A.sl.HS4_1_3
  refine end2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 2 (i 1).val (k0_off38_eq i) (k0_off12_eq i) (k0_off39_eq i) (k0_off40_eq i)
      (k0_off38_inb i) (k0_off12_inb i) (k0_off39_inb i) (k0_off40_inb i))
    _ _ _ _ _ _ _ _ _ rfl rfl rfl rfl rfl rfl rfl rfl rfl
  · exact canonR 2 (qt x0 x1 x2) _ _ _ _ _ _
      (fun d r => (pay117_at _ d r).trans (q_at c arg2 harg2 arg3 harg3 arg4 harg4 arg11 x0 x1 x2 256 rfl _ d r _ rfl))
      (fun d r => (pay117_at _ d r).trans (q_at c arg2 harg2 arg3 harg3 arg4 harg4 arg11 x0 x1 x2 320 rfl _ d r _ rfl))
      pay118_at pay118_at (fun x c => (id_at (sel 5#32 4#32) x c).trans (sel_at 2 x c))
  · exact canonC (bq i) 2 x6 _ _ _
      (fun r => (pay122_at _ r).trans (rdc harg8 x6 4 (i 1).val (k0_off28_eq i) _ r _ _ rfl rfl))
      (fun r => (pay122_at _ r).trans (rdc harg8 x6 5 (i 1).val (k0_off29_eq i) _ r _ _ rfl rfl))

/-- Pair 3. -/
theorem run3 (hr : ∀ q t, ∃ r : ℝ, raw x3 x5 3 (RR 3 (qt x0 x1 x2)) q t = r) (hc : ∀ q, ∃ c : ℝ, CC (bq i) 3 x6 (ix2 0 q) = c) :
    ∃ lm, St (XX x3 x5 3 (bq i) (RR 3 (qt x0 x1 x2)) (CC (bq i) 3 x6)) (VV x4 3) ((bq i).val + 1) lm
      (kernelRun0_A.sl.HS4_1_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_3 kernelRun0_A.sl.HS5_1_4 kernelRun0_A.sl.HS4_1_4
  refine end3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 3 (i 1).val (k0_off51_eq i) (k0_off12_eq i) (k0_off52_eq i) (k0_off53_eq i)
      (k0_off51_inb i) (k0_off12_inb i) (k0_off52_inb i) (k0_off53_inb i))
    _ _ _ _ _ _ _ _ _ rfl rfl rfl rfl rfl rfl rfl rfl rfl
  · exact canonR 3 (qt x0 x1 x2) _ _ _ _ _ _
      (fun d r => (pay117_at _ d r).trans (q_at c arg2 harg2 arg3 harg3 arg4 harg4 arg11 x0 x1 x2 384 rfl _ d r _ rfl))
      (fun d r => (pay117_at _ d r).trans (q_at c arg2 harg2 arg3 harg3 arg4 harg4 arg11 x0 x1 x2 448 rfl _ d r _ rfl))
      pay118_at pay118_at (fun x c => (id_at (sel 7#32 6#32) x c).trans (sel_at 3 x c))
  · exact canonC (bq i) 3 x6 _ _ _
      (fun r => (pay122_at _ r).trans (rdc harg8 x6 6 (i 1).val (k0_off41_eq i) _ r _ _ rfl rfl))
      (fun r => (pay122_at _ r).trans (rdc harg8 x6 7 (i 1).val (k0_off42_eq i) _ r _ _ rfl rfl))

/-- Pair 4. -/
theorem run4 (hr : ∀ q t, ∃ r : ℝ, raw x3 x5 4 (RR 4 (qt x0 x1 x2)) q t = r) (hc : ∀ q, ∃ c : ℝ, CC (bq i) 4 x6 (ix2 0 q) = c) :
    ∃ lm, St (XX x3 x5 4 (bq i) (RR 4 (qt x0 x1 x2)) (CC (bq i) 4 x6)) (VV x4 4) ((bq i).val + 1) lm
      (kernelRun0_A.sl.HS4_1_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_4 kernelRun0_A.sl.HS5_1_5 kernelRun0_A.sl.HS4_1_5
  refine end4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 4 (i 1).val (k0_off64_eq i) (k0_off12_eq i) (k0_off65_eq i) (k0_off66_eq i)
      (k0_off64_inb i) (k0_off12_inb i) (k0_off65_inb i) (k0_off66_inb i))
    _ _ _ _ _ _ _ _ _ rfl rfl rfl rfl rfl rfl rfl rfl rfl
  · exact canonR 4 (qt x0 x1 x2) _ _ _ _ _ _
      (fun d r => (pay117_at _ d r).trans (q_at c arg2 harg2 arg3 harg3 arg4 harg4 arg11 x0 x1 x2 512 rfl _ d r _ rfl))
      (fun d r => (pay117_at _ d r).trans (q_at c arg2 harg2 arg3 harg3 arg4 harg4 arg11 x0 x1 x2 576 rfl _ d r _ rfl))
      pay118_at pay118_at (fun x c => (id_at (sel 9#32 8#32) x c).trans (sel_at 4 x c))
  · exact canonC (bq i) 4 x6 _ _ _
      (fun r => (pay122_at _ r).trans (rdc harg8 x6 8 (i 1).val (k0_off54_eq i) _ r _ _ rfl rfl))
      (fun r => (pay122_at _ r).trans (rdc harg8 x6 9 (i 1).val (k0_off55_eq i) _ r _ _ rfl rfl))

/-- Pair 5. -/
theorem run5 (hr : ∀ q t, ∃ r : ℝ, raw x3 x5 5 (RR 5 (qt x0 x1 x2)) q t = r) (hc : ∀ q, ∃ c : ℝ, CC (bq i) 5 x6 (ix2 0 q) = c) :
    ∃ lm, St (XX x3 x5 5 (bq i) (RR 5 (qt x0 x1 x2)) (CC (bq i) 5 x6)) (VV x4 5) ((bq i).val + 1) lm
      (kernelRun0_A.sl.HS4_1_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_5 kernelRun0_A.sl.HS5_1_6 kernelRun0_A.sl.HS4_1_6
  refine end5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 5 (i 1).val (k0_off77_eq i) (k0_off12_eq i) (k0_off78_eq i) (k0_off79_eq i)
      (k0_off77_inb i) (k0_off12_inb i) (k0_off78_inb i) (k0_off79_inb i))
    _ _ _ _ _ _ _ _ _ rfl rfl rfl rfl rfl rfl rfl rfl rfl
  · exact canonR 5 (qt x0 x1 x2) _ _ _ _ _ _
      (fun d r => (pay117_at _ d r).trans (q_at c arg2 harg2 arg3 harg3 arg4 harg4 arg11 x0 x1 x2 640 rfl _ d r _ rfl))
      (fun d r => (pay117_at _ d r).trans (q_at c arg2 harg2 arg3 harg3 arg4 harg4 arg11 x0 x1 x2 704 rfl _ d r _ rfl))
      pay118_at pay118_at (fun x c => (id_at (sel 11#32 10#32) x c).trans (sel_at 5 x c))
  · exact canonC (bq i) 5 x6 _ _ _
      (fun r => (pay122_at _ r).trans (rdc harg8 x6 10 (i 1).val (k0_off67_eq i) _ r _ _ rfl rfl))
      (fun r => (pay122_at _ r).trans (rdc harg8 x6 11 (i 1).val (k0_off68_eq i) _ r _ _ rfl rfl))

/-- Pair 6. -/
theorem run6 (hr : ∀ q t, ∃ r : ℝ, raw x3 x5 6 (RR 6 (qt x0 x1 x2)) q t = r) (hc : ∀ q, ∃ c : ℝ, CC (bq i) 6 x6 (ix2 0 q) = c) :
    ∃ lm, St (XX x3 x5 6 (bq i) (RR 6 (qt x0 x1 x2)) (CC (bq i) 6 x6)) (VV x4 6) ((bq i).val + 1) lm
      (kernelRun0_A.sl.HS4_1_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_6 kernelRun0_A.sl.HS5_1_7 kernelRun0_A.sl.HS4_1_7
  refine end6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 6 (i 1).val (k0_off90_eq i) (k0_off12_eq i) (k0_off91_eq i) (k0_off92_eq i)
      (k0_off90_inb i) (k0_off12_inb i) (k0_off91_inb i) (k0_off92_inb i))
    _ _ _ _ _ _ _ _ _ rfl rfl rfl rfl rfl rfl rfl rfl rfl
  · exact canonR 6 (qt x0 x1 x2) _ _ _ _ _ _
      (fun d r => (pay117_at _ d r).trans (q_at c arg2 harg2 arg3 harg3 arg4 harg4 arg11 x0 x1 x2 768 rfl _ d r _ rfl))
      (fun d r => (pay117_at _ d r).trans (q_at c arg2 harg2 arg3 harg3 arg4 harg4 arg11 x0 x1 x2 832 rfl _ d r _ rfl))
      pay118_at pay118_at (fun x c => (id_at (sel 13#32 12#32) x c).trans (sel_at 6 x c))
  · exact canonC (bq i) 6 x6 _ _ _
      (fun r => (pay122_at _ r).trans (rdc harg8 x6 12 (i 1).val (k0_off80_eq i) _ r _ _ rfl rfl))
      (fun r => (pay122_at _ r).trans (rdc harg8 x6 13 (i 1).val (k0_off81_eq i) _ r _ _ rfl rfl))

/-- Pair 7. -/
theorem run7 (hr : ∀ q t, ∃ r : ℝ, raw x3 x5 7 (RR 7 (qt x0 x1 x2)) q t = r) (hc : ∀ q, ∃ c : ℝ, CC (bq i) 7 x6 (ix2 0 q) = c) :
    ∃ lm, St (XX x3 x5 7 (bq i) (RR 7 (qt x0 x1 x2)) (CC (bq i) 7 x6)) (VV x4 7) ((bq i).val + 1) lm
      (kernelRun0_A.sl.HS4_1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (kernelRun0_A.sl.HS5_2_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) := by
  unfold kernelRun0_A.sl.HS5_2_7 kernelRun0_A.sl.HS5_1_8 kernelRun0_A.sl.HS4_1_8
  refine end7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 _ _ _ _ _ _ _ _ _ _ _ _ ?_ ?_ hr hc (St.zero _ _ _) _ _ _ _
    (tile_of harg5 harg6 harg7 x3 x4 x5 7 (i 1).val (k0_off103_eq i) (k0_off12_eq i) (k0_off104_eq i) (k0_off105_eq i)
      (k0_off103_inb i) (k0_off12_inb i) (k0_off104_inb i) (k0_off105_inb i))
    _ _ _ _ _ _ _ _ _ rfl rfl rfl rfl rfl rfl rfl rfl rfl
  · exact canonR 7 (qt x0 x1 x2) _ _ _ _ _ _
      (fun d r => (pay117_at _ d r).trans (q_at c arg2 harg2 arg3 harg3 arg4 harg4 arg11 x0 x1 x2 896 rfl _ d r _ rfl))
      (fun d r => (pay117_at _ d r).trans (q_at c arg2 harg2 arg3 harg3 arg4 harg4 arg11 x0 x1 x2 960 rfl _ d r _ rfl))
      pay118_at pay118_at (fun x c => (id_at (sel 15#32 14#32) x c).trans (sel_at 7 x c))
  · exact canonC (bq i) 7 x6 _ _ _
      (fun r => (pay122_at _ r).trans (rdc harg8 x6 14 (i 1).val (k0_off93_eq i) _ r _ _ rfl rfl))
      (fun r => (pay122_at _ r).trans (rdc harg8 x6 15 (i 1).val (k0_off94_eq i) _ r _ _ rfl rfl))

end

end Cert.Kernel5Ideal.Fox
-- ==== Proof.FoxSum.lean ====
/-
  The forgetting attention call's scores, head by head: a pair's product with its right operand is, for each of the two
  heads, the product with that head's query plus the key's three decay terms.
-/
module

public import Idealize.ShloMosaic.Lib.FinSumWindow
public import proofs.«01_k».proof.Proof.FoxPair

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

/-- The sum over the columns a selection keeps: column `h` of each of three groups of sixteen. -/
theorem sum_sel (g : Fin 128 → EReal) (h : ℕ) (hh : h < 16) :
    ∑ x : Fin 128, g x * (if x.val < 48 ∧ x.val % 16 = h then (1 : EReal) else 0) = ∑ k : Fin 3, g ⟨16 * k.val + h, by omega⟩ := by
  have e : ∀ x : Fin 128, g x * (if x.val < 48 ∧ x.val % 16 = h then (1 : EReal) else 0) = if x.val < 48 ∧ x.val % 16 = h then g x else 0 := by
    intro x
    by_cases c : x.val < 48 ∧ x.val % 16 = h
    · rw [if_pos c, if_pos c, mul_one]
    · rw [if_neg c, if_neg c, mul_zero]
  rw [Finset.sum_congr rfl fun x _ => e x, ← Finset.sum_filter]
  let emb : Fin 3 ↪ Fin 128 := ⟨fun k => ⟨16 * k.val + h, by omega⟩, fun a b e => Fin.ext (by have := congrArg Fin.val e; simp only at this; omega)⟩
  rw [show (∑ k : Fin 3, g ⟨16 * k.val + h, by omega⟩) = ∑ x ∈ Finset.univ.map emb, g x from (Finset.sum_map _ emb g).symm]
  refine Finset.sum_congr (Finset.ext fun x => ?_) fun _ _ => rfl
  rw [Finset.mem_filter, Finset.mem_map]
  constructor
  · rintro ⟨-, h1, h2⟩
    exact ⟨⟨x.val / 16, by omega⟩, Finset.mem_univ _, Fin.ext (show 16 * (x.val / 16) + h = x.val by omega)⟩
  · rintro ⟨k, -, rfl⟩
    refine ⟨Finset.mem_univ _, ?_⟩
    show 16 * k.val + h < 48 ∧ (16 * k.val + h) % 16 = h
    omega

variable (x3 : Vec Ideal S1x4096x1024 .bf16) (x4 : Vec Ideal S1x1024x4096 .bf16) (x5 : Vec Ideal S1x4096x128 .bf16)
  (x6 : Vec Ideal S1x16x4096 .f32) (q : Vec Ideal S1024x512 .bf16)

/-- Head `a`'s score of key `t` for query `r` without the query's own decay. -/
def rawH (a : Fin 16) (r : Fin 512) (t : Fin 4096) : EReal :=
  (∑ e : Fin 64, x3 (ix3 0 t ⟨64 * a.val + e.val, by omega⟩) * q (ix2 ⟨64 * a.val + e.val, by omega⟩ r))
    + ∑ k : Fin 3, x5 (ix3 0 t ⟨16 * k.val + a.val, by omega⟩)

/-- Head `a`'s score of key `t` for query `r` of block `b`. -/
def lg (b : Fin 8) (a : Fin 16) (r : Fin 512) (t : Fin 4096) : EReal :=
  if t.val ≤ 512 * b.val + r.val then rawH x3 x5 q a r t + x6 (ix3 0 a ⟨512 * b.val + r.val, by omega⟩) else ⊥

/-- The attention output at feature `f` of query `r`. -/
def ot (b : Fin 8) (f : Fin 1024) (r : Fin 512) : EReal :=
  Soft.mean (lg x3 x5 x6 q b ⟨f.val / 64, by omega⟩ r) fun t => x4 (ix3 0 f t)

theorem raw_eq (p : Fin 8) (c : Fin 1024) (t : ℕ) (a : Fin 16) (r : Fin 512) (T : Fin 4096) (ha : a.val = 2 * p.val + c.val / 512)
    (hr : r.val = c.val % 512) (hT : T.val = t % 4096) : raw x3 x5 p (RR p q) c t = rawH x3 x5 q a r T := by
  unfold raw rawH
  have hT' : ∀ h, (⟨t % 4096, h⟩ : Fin 4096) = T := fun _ => Fin.ext hT.symm
  simp only [hT']
  refine congrArg₂ (· + ·) ?_ ?_
  · rw [Idealize.ShloMosaic.FinSumWindow.sum_window (64 * (c.val / 512)) (by omega : 64 * (c.val / 512) + 64 ≤ 128)]
    · refine Finset.sum_congr rfl fun e _ => congrArg₂ (· * ·) (congrArg x3 ?_) ?_
      · refine congrArg (ix3 0 _) (Fin.ext ?_)
        show 128 * p.val + (64 * (c.val / 512) + e.val) = 64 * a.val + e.val
        omega
      · unfold RR
        refine (if_pos (show 64 * (c.val / 512) + e.val < 128 by omega)).trans ((if_pos (show (64 * (c.val / 512) + e.val) / 64 = c.val / 512 by omega)).trans ?_)
        refine congrArg q (congrArg₂ ix2 (Fin.ext ?_) (Fin.ext hr.symm))
        show (128 * p.val + (64 * (c.val / 512) + e.val)) % 1024 = 64 * a.val + e.val
        omega
    · intro x hx
      have : RR p q (ix2 ⟨x.val, by omega⟩ c) = (0 : EReal) := by
        unfold RR
        exact (if_pos (show x.val < 128 by omega)).trans (if_neg (show ¬ x.val / 64 = c.val / 512 by omega))
      rw [this, mul_zero]
  · have e := sum_sel (fun x => x5 (ix3 0 T x)) a.val a.isLt
    refine Eq.trans (Finset.sum_congr rfl fun x _ => congrArg₂ (· * ·) rfl ?_) e
    unfold RR
    refine (if_neg (show ¬ 128 + x.val < 128 by omega)).trans ?_
    show (if (128 + x.val) - 128 < 48 ∧ ((128 + x.val) - 128) % 16 = 2 * p.val + c.val / 512 then (1 : EReal) else 0) = _
    rw [show (128 + x.val) - 128 = x.val by omega, ha]

theorem ot_eq (p b : Fin 8) (d : Fin 128) (r : Fin 512) (f : Fin 1024) (hf : f.val = 128 * p.val + d.val) :
    Soft.mean (fun t : Fin 4096 => XX x3 x5 p b (RR p q) (CC b p x6) (qc d r) t.val) (fun t : Fin 4096 => VV x4 p d t.val)
      = ot x3 x4 x5 x6 q b f r := by
  unfold ot
  refine congrArg₂ Soft.mean (funext fun t => ?_) (funext fun t => ?_)
  · unfold XX lg
    have e1 : (qc d r).val % 512 = r.val := show (512 * (d.val / 64) + r.val) % 512 = r.val by omega
    have e2 : (qc d r).val / 512 = d.val / 64 := show (512 * (d.val / 64) + r.val) / 512 = d.val / 64 by omega
    rw [e1]
    refine if_congr Iff.rfl (congrArg₂ (· + ·) ?_ ?_) rfl
    · refine raw_eq x3 x5 q p _ _ _ _ _ ?_ e1.symm ?_
      · rw [e2]
        show f.val / 64 = 2 * p.val + d.val / 64
        omega
      · show t.val = t.val % 4096
        omega
    · unfold CC
      refine congrArg x6 (congrArg₂ (ix3 0) (Fin.ext ?_) (Fin.ext ?_))
      · show (2 * p.val + (qc d r).val / 512) % 16 = f.val / 64
        rw [e2]
        omega
      · show (512 * b.val + (qc d r).val % 512) % 4096 = 512 * b.val + r.val
        rw [e1]
        omega
  · unfold VV
    refine congrArg x4 (congrArg₂ (ix3 0) (Fin.ext ?_) (Fin.ext ?_))
    · show 128 * p.val + d.val = f.val
      omega
    · show t.val % 4096 = t.val
      omega

/-! With real operands the scores are real. -/

theorem sum_real {n : ℕ} (g : Fin n → EReal) (h : ∀ k, ∃ r : ℝ, g k = r) : ∃ r : ℝ, ∑ k, g k = r := by
  obtain ⟨r, hr⟩ := Soft.real_sum g (fun _ => 1) h fun _ => ⟨1, rfl⟩
  exact ⟨r, by rw [← hr]; exact Finset.sum_congr rfl fun k _ => (mul_one _).symm⟩

theorem rawH_real (h3 : ∀ i, ∃ r : ℝ, x3 i = r) (h5 : ∀ i, ∃ r : ℝ, x5 i = r) (hq : ∀ i, ∃ r : ℝ, q i = r) (a : Fin 16) (r : Fin 512)
    (t : Fin 4096) : ∃ s : ℝ, rawH x3 x5 q a r t = s := by
  unfold rawH
  obtain ⟨u, hu⟩ := Soft.real_sum (fun e : Fin 64 => x3 (ix3 0 t ⟨64 * a.val + e.val, by omega⟩)) (fun e => q (ix2 ⟨64 * a.val + e.val, by omega⟩ r))
    (fun _ => h3 _) fun _ => hq _
  obtain ⟨w, hw⟩ := sum_real (fun k : Fin 3 => x5 (ix3 0 t ⟨16 * k.val + a.val, by omega⟩)) fun _ => h5 _
  exact ⟨u + w, by rw [hu, hw, EReal.coe_add]⟩

theorem raw_real (h3 : ∀ i, ∃ r : ℝ, x3 i = r) (h5 : ∀ i, ∃ r : ℝ, x5 i = r) (hq : ∀ i, ∃ r : ℝ, q i = r) (p : Fin 8) (c : Fin 1024) (t : ℕ) :
    ∃ s : ℝ, raw x3 x5 p (RR p q) c t = s := by
  rw [raw_eq x3 x5 q p c t ⟨2 * p.val + c.val / 512, by omega⟩ ⟨c.val % 512, by omega⟩ ⟨t % 4096, by omega⟩ rfl rfl rfl]
  exact rawH_real x3 x5 q h3 h5 hq _ _ _

theorem CC_real (h6 : ∀ i, ∃ r : ℝ, x6 i = r) (b p : Fin 8) (c : Fin 1024) : ∃ s : ℝ, CC b p x6 (ix2 0 c) = s := h6 _

end Cert.Kernel5Ideal.Fox
-- ==== Proof.FoxOut.lean ====
/-
  The forgetting attention call's result at one grid point.
-/
module

public import proofs.«01_k».proof.Proof.FoxRun
public import proofs.«01_k».proof.Proof.FoxSum

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (x3 : Vec Ideal S1x4096x1024 .bf16) (x4 : Vec Ideal S1x1024x4096 .bf16) (x5 : Vec Ideal S1x4096x128 .bf16)
  (x6 : Vec Ideal S1x16x4096 .f32) (q : Vec Ideal S1024x512 .bf16) (p b : Fin 8)
  (hr : ∀ c t, ∃ r : ℝ, raw x3 x5 p (RR p q) c t = r) (hc : ∀ c, ∃ r : ℝ, CC b p x6 (ix2 0 c) = r)
  {lm ll : LM} {la : LA} (h : St (XX x3 x5 p b (RR p q) (CC b p x6)) (VV x4 p) (b.val + 1) lm ll la)
  (v15 : View sig .tc .vmem S1x1024 .f32) (v16 : View sig .tc .vmem S128x512 .f32)
include hr hc h

/-- The quotient a pair stores for its first head. -/
theorem lo (d : Fin 64) (r : Fin 512) (f : Fin 1024) (r' : Fin 512) (hf : f.val = 128 * p.val + d.val) (hr' : r'.val = r.val) :
    k0_pay142 (F := Ideal)
      (v15.readAt (Elt Ideal) (Rect.unit (s := S1x1024) ![0, 0] S1x1024.size inb_S1x1024_S1x1024_0_0).toLoadRect (v15.writes (Elt Ideal) v15.junk ll))
      (v16.readAt (Elt Ideal) (Rect.unit (s := S128x512) ![0, 0] S64x512.size inb_S128x512_S64x512_0_0).toLoadRect (v16.writes (Elt Ideal) v16.junk la))
      (ix2 d r) = ot x3 x4 x5 x6 q b f r' := by
  obtain rfl : r' = r := Fin.ext hr'
  refine (q_lo _ _ d r' (qc ⟨d.val, by omega⟩ r') (show 512 * (d.val / 64) + r'.val = r'.val by omega)).trans ?_
  rw [rd0, rdw v15 (off := ![0, 0]) (by decide)]
  exact (St.quot hr hc h ⟨d.val, by omega⟩ r').trans (ot_eq x3 x4 x5 x6 q p b _ r' f hf)

/-- The quotient a pair stores for its second head. -/
theorem hi (d : Fin 64) (r : Fin 512) (f : Fin 1024) (r' : Fin 512) (hf : f.val = 128 * p.val + 64 + d.val) (hr' : r'.val = r.val) :
    k0_pay144 (F := Ideal) (k0_pay143 (F := Ideal)
      (v15.readAt (Elt Ideal) (Rect.unit (s := S1x1024) ![0, 0] S1x1024.size inb_S1x1024_S1x1024_0_0).toLoadRect (v15.writes (Elt Ideal) v15.junk ll))
      (v16.readAt (Elt Ideal) (Rect.unit (s := S128x512) ![64, 0] S64x512.size inb_S128x512_S64x512_64_0).toLoadRect (v16.writes (Elt Ideal) v16.junk la)))
      (ix2 d r) = ot x3 x4 x5 x6 q b f r' := by
  obtain rfl : r' = r := Fin.ext hr'
  refine (q_hi _ _ d r' (qc ⟨64 + d.val, by omega⟩ r') (show 512 * ((64 + d.val) / 64) + r'.val = 512 + r'.val by omega)).trans ?_
  rw [rd1, rdw v15 (off := ![0, 0]) (by decide)]
  exact (St.quot hr hc h ⟨64 + d.val, by omega⟩ r').trans (ot_eq x3 x4 x5 x6 q p b _ r' f (show f.val = 128 * p.val + (64 + d.val) by omega))

end

theorem out_pay (x0 : Vec Ideal S1x512x1024 .f32) (o : Vec Ideal S1024x512 .f32) (w : Vec Ideal S1024x1024 .bf16) (r : Fin 512) (d : Fin 1024) :
    k0_pay1 (F := Ideal) (k0_pay114 x0) (k0_pay343 o) (k0_pay344 w) (ix3 0 r d) = x0 (ix3 0 r d) + ∑ f : Fin 1024, o (ix2 f r) * w (ix2 f d) := by
  pointwise [k0_pay1, k0_pay114, k0_pay343, k0_pay344]

section

variable (c : Dev nD) (i : grid0.Coords)
  (arg2 : Memref sig .tc .vmem S1x512x1024 .f32) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S1x4096x1024 .bf16) (harg5 : arg5.IsWhole) (arg6 : Memref sig .tc .vmem S1x1024x4096 .bf16)
  (harg6 : arg6.IsWhole) (arg7 : Memref sig .tc .vmem S1x4096x128 .bf16) (harg7 : arg7.IsWhole)
  (arg8 : Memref sig .tc .vmem S1x16x4096 .f32) (harg8 : arg8.IsWhole) (arg9 : Memref sig .tc .vmem S1024x1024 .bf16)
  (harg9 : arg9.IsWhole) (arg10 : Memref sig .tc .vmem S1x512x1024 .f32) (harg10 : arg10.IsWhole)
  (arg11 : Memref sig .tc .vmem S1024x512 .bf16) (harg11 : arg11.IsWhole) (arg12 : Memref sig .tc .vmem S256x1024 .bf16)
  (harg12 : arg12.IsWhole) (arg13 : Memref sig .tc .vmem S1x1024 .f32) (harg13 : arg13.IsWhole)
  (arg14 : Memref sig .tc .vmem S1x1024 .f32) (harg14 : arg14.IsWhole) (arg15 : Memref sig .tc .vmem S1x1024 .f32)
  (harg15 : arg15.IsWhole) (arg16 : Memref sig .tc .vmem S128x512 .f32) (harg16 : arg16.IsWhole)
  (arg17 : Memref sig .tc .vmem S1024x512 .f32) (harg17 : arg17.IsWhole)
  (x0 : Vec Ideal S1x512x1024 .f32) (x1 : Vec Ideal S1x1024 .f32) (x2 : Vec Ideal S1024x1024 .bf16) (x3 : Vec Ideal S1x4096x1024 .bf16)
  (x4 : Vec Ideal S1x1024x4096 .bf16) (x5 : Vec Ideal S1x4096x128 .bf16) (x6 : Vec Ideal S1x16x4096 .f32) (x7 : Vec Ideal S1024x1024 .bf16)
  (hr : ∀ p q t, ∃ r : ℝ, raw x3 x5 p (RR p (qt x0 x1 x2)) q t = r) (hc : ∀ p q, ∃ c : ℝ, CC (bq i) p x6 (ix2 0 q) = c)
include hr hc

/-- The attention output of a grid point, feature by query. -/
theorem heads_at : kernelRun0_A.sl.v1208 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
    = fun y => ot x3 x4 x5 x6 (qt x0 x1 x2) (bq i) (y 0) (y 1) := by
  obtain ⟨m0, h0⟩ := run0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 0) (hc 0)
  obtain ⟨m1, h1⟩ := run1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 1) (hc 1)
  obtain ⟨m2, h2⟩ := run2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 2) (hc 2)
  obtain ⟨m3, h3⟩ := run3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 3) (hc 3)
  obtain ⟨m4, h4⟩ := run4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 4) (hc 4)
  obtain ⟨m5, h5⟩ := run5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 5) (hc 5)
  obtain ⟨m6, h6⟩ := run6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 6) (hc 6)
  obtain ⟨m7, h7⟩ := run7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 (hr 7) (hc 7)
  unfold kernelRun0_A.sl.v1208
  rw [View.readCov_of_blocks (Val := Elt Ideal) (e := .f32) (s := S1024x512) 16 fun y => ot x3 x4 x5 x6 (qt x0 x1 x2) (bq i) (y 0) (y 1)]
  · funext y
    refine congrArg₂ (ot x3 x4 x5 x6 (qt x0 x1 x2) (bq i)) (Fin.ext ?_) (Fin.ext ?_)
    · exact (show 0 + 1 * (y 0).val = (y 0).val by omega)
    · exact (show 0 + 1 * (y 1).val = (y 1).val by omega)
  · unfold kernelRun0_A.sl.HS6_16
    exact fun j => View.cover_of_tiledL (s := S1024x512) _ ![64, 512] (by rfl) _
  unfold kernelRun0_A.sl.HS6_16
  refine ⟨?_, ?_, ?_, ?_, ?_, ?_, ?_, ?_, ?_, ?_, ?_, ?_, ?_, ?_, ?_, ?_, trivial⟩
  · intro j
    idx_vars j
    exact hi x3 x4 x5 x6 (qt x0 x1 x2) 7 (bq i) (hr 7) (hc 7) h7 _ _ j0 j1 _ _ (show 960 + 1 * j0.val = 960 + j0.val by omega)
      (show 0 + 1 * j1.val = j1.val by omega)
  · intro j
    idx_vars j
    exact lo x3 x4 x5 x6 (qt x0 x1 x2) 7 (bq i) (hr 7) (hc 7) h7 _ _ j0 j1 _ _ (show 896 + 1 * j0.val = 896 + j0.val by omega)
      (show 0 + 1 * j1.val = j1.val by omega)
  · intro j
    idx_vars j
    exact hi x3 x4 x5 x6 (qt x0 x1 x2) 6 (bq i) (hr 6) (hc 6) h6 _ _ j0 j1 _ _ (show 832 + 1 * j0.val = 832 + j0.val by omega)
      (show 0 + 1 * j1.val = j1.val by omega)
  · intro j
    idx_vars j
    exact lo x3 x4 x5 x6 (qt x0 x1 x2) 6 (bq i) (hr 6) (hc 6) h6 _ _ j0 j1 _ _ (show 768 + 1 * j0.val = 768 + j0.val by omega)
      (show 0 + 1 * j1.val = j1.val by omega)
  · intro j
    idx_vars j
    exact hi x3 x4 x5 x6 (qt x0 x1 x2) 5 (bq i) (hr 5) (hc 5) h5 _ _ j0 j1 _ _ (show 704 + 1 * j0.val = 704 + j0.val by omega)
      (show 0 + 1 * j1.val = j1.val by omega)
  · intro j
    idx_vars j
    exact lo x3 x4 x5 x6 (qt x0 x1 x2) 5 (bq i) (hr 5) (hc 5) h5 _ _ j0 j1 _ _ (show 640 + 1 * j0.val = 640 + j0.val by omega)
      (show 0 + 1 * j1.val = j1.val by omega)
  · intro j
    idx_vars j
    exact hi x3 x4 x5 x6 (qt x0 x1 x2) 4 (bq i) (hr 4) (hc 4) h4 _ _ j0 j1 _ _ (show 576 + 1 * j0.val = 576 + j0.val by omega)
      (show 0 + 1 * j1.val = j1.val by omega)
  · intro j
    idx_vars j
    exact lo x3 x4 x5 x6 (qt x0 x1 x2) 4 (bq i) (hr 4) (hc 4) h4 _ _ j0 j1 _ _ (show 512 + 1 * j0.val = 512 + j0.val by omega)
      (show 0 + 1 * j1.val = j1.val by omega)
  · intro j
    idx_vars j
    exact hi x3 x4 x5 x6 (qt x0 x1 x2) 3 (bq i) (hr 3) (hc 3) h3 _ _ j0 j1 _ _ (show 448 + 1 * j0.val = 448 + j0.val by omega)
      (show 0 + 1 * j1.val = j1.val by omega)
  · intro j
    idx_vars j
    exact lo x3 x4 x5 x6 (qt x0 x1 x2) 3 (bq i) (hr 3) (hc 3) h3 _ _ j0 j1 _ _ (show 384 + 1 * j0.val = 384 + j0.val by omega)
      (show 0 + 1 * j1.val = j1.val by omega)
  · intro j
    idx_vars j
    exact hi x3 x4 x5 x6 (qt x0 x1 x2) 2 (bq i) (hr 2) (hc 2) h2 _ _ j0 j1 _ _ (show 320 + 1 * j0.val = 320 + j0.val by omega)
      (show 0 + 1 * j1.val = j1.val by omega)
  · intro j
    idx_vars j
    exact lo x3 x4 x5 x6 (qt x0 x1 x2) 2 (bq i) (hr 2) (hc 2) h2 _ _ j0 j1 _ _ (show 256 + 1 * j0.val = 256 + j0.val by omega)
      (show 0 + 1 * j1.val = j1.val by omega)
  · intro j
    idx_vars j
    exact hi x3 x4 x5 x6 (qt x0 x1 x2) 1 (bq i) (hr 1) (hc 1) h1 _ _ j0 j1 _ _ (show 192 + 1 * j0.val = 192 + j0.val by omega)
      (show 0 + 1 * j1.val = j1.val by omega)
  · intro j
    idx_vars j
    exact lo x3 x4 x5 x6 (qt x0 x1 x2) 1 (bq i) (hr 1) (hc 1) h1 _ _ j0 j1 _ _ (show 128 + 1 * j0.val = 128 + j0.val by omega)
      (show 0 + 1 * j1.val = j1.val by omega)
  · intro j
    idx_vars j
    exact hi x3 x4 x5 x6 (qt x0 x1 x2) 0 (bq i) (hr 0) (hc 0) h0 _ _ j0 j1 _ _ (show 64 + 1 * j0.val = 64 + j0.val by omega)
      (show 0 + 1 * j1.val = j1.val by omega)
  · intro j
    idx_vars j
    exact lo x3 x4 x5 x6 (qt x0 x1 x2) 0 (bq i) (hr 0) (hc 0) h0 _ _ j0 j1 _ _ (show 0 + 1 * j0.val = 0 + j0.val by omega)
      (show 0 + 1 * j1.val = j1.val by omega)

/-- The block of the result one grid point writes. -/
theorem out_at (r : Fin 512) (d : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (ix3 0 r d)
      = x0 (ix3 0 r d) + ∑ f : Fin 1024, ot x3 x4 x5 x6 (qt x0 x1 x2) (bq i) f r * x7 (ix2 f d) := by
  unfold out0_A_8 kernelRun0_A
  rw [View.read_writes_junk_eq_canon]
  dsimp only
  refine (congrFun (View.canon_cons_unit_lit (S := S1x512x1024) (Val := Elt Ideal) (e := .f32) inb_S1x512x1024_S1x512x1024_0_0_0 _ [] (by decide)) _).trans ?_
  unfold kernelRun0_A.sl.r kernelRun0_A.sl.r_35 kernelRun0_A.sl.r_36
  rw [rdu harg2 x0 (off := ![0, 0, 0]) (by decide), rdu harg9 x7 (off := ![0, 0]) (by decide), heads_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 hr hc]
  exact out_pay _ _ _ _ _

end

end Cert.Kernel5Ideal.Fox
-- ==== Proof.FoxSpec.lean ====
/-
  Forgetting attention as mathematics: every query attends to the positions up to its own, its scores lowered by the
  decay between the key's position and the query's.
-/
module

public import proofs.«01_k».proof.Proof.FoxPays
public import proofs.«01_k».proof.Proof.Rows
public import proofs.«01_k».proof.Proof.Soft

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows

section

variable (h : FVec Ideal S8x4096x1024 .f32) (g : FVec Ideal S1024 .f32) (wq : FVec Ideal S1024x1024 .f32)
  (k v : FVec Ideal S8x4096x1024 .f32) (C : FVec Ideal S8x16x4096 .f32) (wo : FVec Ideal S1024x1024 .f32)

/-- The query at position `s`: the normalised token projected and scaled. -/
def qrow (b : Fin 8) (s : Fin 4096) (f : Fin 1024) : EReal :=
  vecMat (rms (fun k => h (ix3 b s k)) fun k => g (ix1 k)) (fun k j => wq (ix2 k j)) f * Ideal.ofBits .f32 0x3E000000#32

/-- Head `a`'s score of the key at position `t` for the query at position `s`. -/
def fscore (b : Fin 8) (s : Fin 4096) (a : Fin 16) (t : Fin 4096) : EReal :=
  if t.val ≤ s.val then
    (∑ e : Fin 64, k (ix3 b t ⟨64 * a.val + e.val, by omega⟩) * qrow h g wq b s ⟨64 * a.val + e.val, by omega⟩)
      + (C (ix3 b a s) - C (ix3 b a t))
  else ⊥

/-- The attention output at position `s` and feature `f`, before its projection. -/
def fattn (b : Fin 8) (s : Fin 4096) (f : Fin 1024) : EReal :=
  Soft.mean (fscore h g wq k C b s ⟨f.val / 64, by omega⟩) fun t => v (ix3 b t f)

/-- The result: the attention output projected and added to the residual. -/
def fresult (b : Fin 8) (s : Fin 4096) (d : Fin 1024) : EReal :=
  h (ix3 b s d) + ∑ f : Fin 1024, fattn h g wq k v C b s f * wo (ix2 f d)

theorem width_real : ∃ r : ℝ, 0 < r ∧ (Ideal.ofBits FTy.f32 0x44800000#32 : EReal) = r := by
  refine ⟨_, ?_, by simp [Ideal.ofBits, Ideal.ieee]; rfl⟩
  positivity

theorem eps_real : ∃ r : ℝ, 0 < r ∧ (Ideal.ofBits FTy.f32 0x358637BD#32 : EReal) = r := by
  refine ⟨_, ?_, by simp [Ideal.ofBits, Ideal.ieee]; rfl⟩
  positivity

theorem scale_real : ∃ r : ℝ, 0 < r ∧ (Ideal.ofBits FTy.f32 0x3E000000#32 : EReal) = r := by
  refine ⟨_, ?_, by simp [Ideal.ofBits, Ideal.ieee]; rfl⟩
  positivity

theorem sq_nonneg (x : EReal) : 0 ≤ x * x := by
  induction x with
  | bot => simp
  | top => simp
  | coe r =>
    rw [← EReal.coe_mul]
    exact EReal.coe_nonneg.2 (mul_self_nonneg r)

/-- An entry of a row whose squares have a real sum is real. -/
theorem entry_real (x : Fin 1024 → EReal) (q : ℝ) (hq : ∑ k, x k * x k = q) (d : Fin 1024) : ∃ r : ℝ, x d = r := by
  have hl : x d * x d ≤ (q : EReal) := hq ▸ Finset.single_le_sum (f := fun k => x k * x k) (fun k _ => sq_nonneg (x k)) (Finset.mem_univ d)
  generalize x d = y at hl
  induction y with
  | bot => simp at hl
  | top => simp at hl
  | coe r => exact ⟨r, rfl⟩

/-- The norm of any row is real: where an entry is infinite the norm is zero. -/
theorem rms_real (x y : Fin 1024 → EReal) (hy : ∀ k, ∃ r : ℝ, y k = r) (d : Fin 1024) : ∃ r : ℝ, rms x y d = r := by
  have h0 : (0 : EReal) ≤ ∑ k, x k * x k := Finset.sum_nonneg fun k _ => sq_nonneg (x k)
  obtain ⟨w, hw0, hw⟩ := width_real
  obtain ⟨e, he0, he⟩ := eps_real
  obtain ⟨b, hb⟩ := hy d
  have hx := entry_real x
  unfold rms
  generalize ∑ k, x k * x k = S at h0 hx
  have hd : Ideal.div S (w : EReal) = S * ((w⁻¹ : ℝ) : EReal) := by
    unfold Ideal.div
    rw [if_neg (fun h => hw0.ne' (EReal.coe_eq_zero.1 h)), EReal.coe_inv]
  rw [hw, he, hd]
  induction S with
  | bot => exact absurd h0 (by simp)
  | top =>
    rw [EReal.top_mul_coe_of_pos (inv_pos.2 hw0), EReal.top_add_coe, Ideal.rsqrt_top, mul_zero, zero_mul]
    exact ⟨0, EReal.coe_zero.symm⟩
  | coe q =>
    obtain ⟨a, ha⟩ := hx q rfl d
    have hq0 : 0 ≤ q := EReal.coe_nonneg.1 h0
    have hp : 0 < q * w⁻¹ + e := by positivity
    rw [← EReal.coe_mul, ← EReal.coe_add, Ideal.rsqrt_coe, if_neg (not_lt.2 hp.le), if_neg hp.ne', ha, hb, ← EReal.coe_mul, ← EReal.coe_mul]
    exact ⟨_, rfl⟩

variable (hg : ∀ i, ∃ r : ℝ, g i = r) (hw : ∀ i, ∃ r : ℝ, wq i = r)
include hg hw

theorem qrow_real (b : Fin 8) (s : Fin 4096) (f : Fin 1024) : ∃ r : ℝ, qrow h g wq b s f = r := by
  obtain ⟨u, hu⟩ := Soft.real_sum (rms (fun k => h (ix3 b s k)) fun k => g (ix1 k)) (fun k => wq (ix2 k f))
    (rms_real _ _ fun _ => hg _) fun _ => hw _
  obtain ⟨w, -, hw⟩ := scale_real
  refine ⟨u * w, ?_⟩
  unfold qrow vecMat
  rw [hu, hw, EReal.coe_mul]

variable (hk : ∀ i, ∃ r : ℝ, k i = r) (hC : ∀ i, ∃ r : ℝ, C i = r)
include hk hC

/-- The score of a key that is not after the query is real. -/
theorem fscore_real (b : Fin 8) (s : Fin 4096) (a : Fin 16) (t : Fin 4096) (h' : t.val ≤ s.val) : ∃ r : ℝ, fscore h g wq k C b s a t = r := by
  unfold fscore
  rw [if_pos h']
  obtain ⟨u, hu⟩ := Soft.real_sum (fun e : Fin 64 => k (ix3 b t ⟨64 * a.val + e.val, by omega⟩)) (fun e => qrow h g wq b s ⟨64 * a.val + e.val, by omega⟩)
    (fun _ => hk _) fun _ => qrow_real h g wq hg hw _ _ _
  obtain ⟨c, hc⟩ := hC (ix3 b a s)
  obtain ⟨c', hc'⟩ := hC (ix3 b a t)
  exact ⟨u + (c - c'), by rw [hu, hc, hc', EReal.coe_add, EReal.coe_sub]⟩

/-- The sum of a query's weights is not zero. -/
theorem weights (b : Fin 8) (s : Fin 4096) (a : Fin 16) : ∑ t, Soft.wt (fscore h g wq k C b s a) t ≠ 0 := by
  refine Soft.sum_ne_zero _ (fun t => ?_) s ?_
  · by_cases c : t.val ≤ s.val
    · obtain ⟨r, hr⟩ := fscore_real h g wq k C hg hw hk hC b s a t c
      rw [hr]
      exact EReal.coe_ne_top r
    · unfold fscore
      rw [if_neg c]
      exact bot_ne_top
  · obtain ⟨r, hr⟩ := fscore_real h g wq k C hg hw hk hC b s a s (Nat.le_refl _)
    rw [hr]
    exact EReal.coe_ne_bot r

end

end Cert.Kernel5Ideal.Fox
-- ==== Proof.FoxAug.lean ====
/-
  The lanes the host lays beside the keys: the negated decay in the first sixteen, its two rounding remainders behind.
-/
module

public import proofs.«01_k».proof.Proof.FoxPays

@[expose] public section

set_option maxRecDepth 16384

noncomputable section

namespace Cert.Kernel5Ideal.Fox

open Cert.Kernel5Ideal Cert.Kernel5Ideal.Gen Idealize.ShloMosaic Idealize.ShloMosaic.TcCoe Idealize.SL.Sem

/-- The negated decay, position by position. -/
def neg (C : FVec Ideal S8x16x4096 .f32) : FVec Ideal S8x4096x16 .f32 :=
  Host.negf (transpose S8x4096x16 [0, 2, 1] C transposes_S8x16x4096_S8x4096x16_0_2_1)

/-- What rounding to the narrow format leaves. -/
def rest (x : FVec Ideal S8x4096x16 .f32) : FVec Ideal S8x4096x16 .f32 :=
  subf x (extf .f32 (truncf .bf16 x bitsLt_bf16_f32) bitsLt_bf16_f32)

/-- The decay's three parts side by side, with zeros behind. -/
def aug (C : FVec Ideal S8x16x4096 .f32) : FVec Ideal S8x4096x128 .bf16 :=
  pad S8x4096x128 ![0, 0, 0] ![0, 0, 80] ![0, 0, 0]
    (concatenate S8x4096x48 2 [⟨S8x4096x16, truncf .bf16 (neg C) bitsLt_bf16_f32⟩, ⟨S8x4096x16, truncf .bf16 (rest (neg C)) bitsLt_bf16_f32⟩,
      ⟨S8x4096x16, truncf .bf16 (rest (rest (neg C))) bitsLt_bf16_f32⟩] concatenates_S8x4096x16_S8x4096x16_S8x4096x16_S8x4096x48_d2)
    (constant S_ .bf16 0x0000#16) pads_S8x4096x48_S8x4096x128_000_000_0800 h_S_

variable (C : FVec Ideal S8x16x4096 .f32) (hC : ∀ i, ∃ r : ℝ, C i = r)

theorem neg_at (b : Fin 8) (t : Fin 4096) (a : Fin 16) : neg C (ix3 b t a) = -C (ix3 b a t) := by
  pointwise [neg]

include hC

theorem rest_neg (b : Fin 8) (t : Fin 4096) (a : Fin 16) : rest (neg C) (ix3 b t a) = (0 : EReal) := by
  obtain ⟨r, hr⟩ := hC (ix3 b a t)
  show neg C (ix3 b t a) - neg C (ix3 b t a) = (0 : EReal)
  rw [neg_at, hr, ← EReal.coe_neg, ← EReal.coe_sub, sub_self, EReal.coe_zero]

theorem rest_rest (b : Fin 8) (t : Fin 4096) (a : Fin 16) : rest (rest (neg C)) (ix3 b t a) = (0 : EReal) := by
  show rest (neg C) (ix3 b t a) - rest (neg C) (ix3 b t a) = (0 : EReal)
  rw [rest_neg C hC, sub_zero]

theorem aug_at (b : Fin 8) (t : Fin 4096) (x : Fin 128) :
    aug C (ix3 b t x) = if x.val < 16 then -C (ix3 b ⟨x.val % 16, by omega⟩ t) else (0 : EReal) := by
  pointwise [aug]
  by_cases h : x.val < 48
  · rw [dif_pos (by omega)]
    by_cases h1 : x.val < 16
    · rw [dif_pos (by omega), if_pos h1]
      refine Eq.trans ?_ (neg_at C b t ⟨x.val % 16, by omega⟩)
      refine congrArg _ ?_
      blk_ext
    · rw [dif_neg (by omega), if_neg h1]
      by_cases h2 : x.val < 32
      · rw [dif_pos (by omega)]
        exact rest_neg C hC b t ⟨x.val - 16, by omega⟩
      · rw [dif_neg (by omega)]
        exact rest_rest C hC b t ⟨x.val - 16 - 16, by omega⟩
  · rw [dif_neg (by omega), if_neg (by omega)]

theorem aug_real (b : Fin 8) (t : Fin 4096) (x : Fin 128) : ∃ r : ℝ, aug C (ix3 b t x) = r := by
  rw [aug_at C hC]
  split
  · obtain ⟨r, hr⟩ := hC (ix3 b ⟨x.val % 16, by omega⟩ t)
    exact ⟨-r, by rw [hr, EReal.coe_neg]⟩
  · exact ⟨0, EReal.coe_zero.symm⟩

/-- The three lanes of a head add up to its negated decay. -/
theorem aug_sum (b : Fin 8) (t : Fin 4096) (a : Fin 16) :
    ∑ k : Fin 3, aug C (ix3 b t ⟨16 * k.val + a.val, by omega⟩) = -C (ix3 b a t) := by
  rw [Finset.sum_congr rfl fun k _ => aug_at C hC b t _, Fin.sum_univ_three]
  rw [if_pos (show (16 * (0 : Fin 3).val + a.val) < 16 by have := a.isLt; show 16 * 0 + a.val < 16; omega),
    if_neg (show ¬(16 * (1 : Fin 3).val + a.val) < 16 by show ¬(16 * 1 + a.val < 16); omega),
    if_neg (show ¬(16 * (2 : Fin 3).val + a.val) < 16 by show ¬(16 * 2 + a.val < 16); omega), add_zero, add_zero]
  refine congrArg (fun x => -C (ix3 b x t)) (Fin.ext ?_)
  show (16 * 0 + a.val) % 16 = a.val
  omega

end Cert.Kernel5Ideal.Fox
-- ==== Proof.FoxHost.lean ====
/-
  The lanes beside the keys, read off the host's operations.
-/
module

public import proofs.«01_k».proof.Proof.FoxAug
public import proofs.«01_k».proof.Proof.Gen.Kernel5Ideal.Frame
public import Idealize.ShloMosaic.Lib.Claim

@[expose] public section

set_option maxRecDepth 16384

noncomputable section

namespace Cert.Kernel5Ideal.Fox

open Cert.Kernel5Ideal Cert.Kernel5Ideal.Gen Idealize.ShloMosaic Idealize.ShloMosaic.TcCoe Idealize.SL.Sem

theorem after_split {Val : EltTy → Type} (n : ℕ) : ∀ (l : List (HloOp τ sig Val)) (σ : Valuation τ sig Val),
    StableHlo.after l σ = StableHlo.after (l.drop n) (StableHlo.after (l.take n) σ) := by
  induction n with
  | zero => exact fun l σ => rfl
  | succ n ih => exact fun l σ => match l with
    | [] => rfl
    | op :: l => ih l _

variable (σ : Valuation τ sig (Elt Ideal))

theorem head_v1 : StableHlo.after ((hostOps0 (F := Ideal)).take 2) σ (Proc.devRef .tc main_v1) = neg (σ (Proc.devRef .tc main_arg5)) := by
  simp only [hostOps0, List.take_succ_cons, List.take_zero]
  after_results_simp
  rfl

theorem mid_v2 : StableHlo.after (((hostOps0 (F := Ideal)).drop 2).take 9) σ (Proc.devRef .tc main_v2)
    = truncf (F := Ideal) .bf16 (σ (Proc.devRef .tc main_v1) : FVec Ideal S8x4096x16 .f32) bitsLt_bf16_f32 := by
  simp only [hostOps0, List.drop_succ_cons, List.drop_zero, List.take_succ_cons, List.take_zero]
  after_results_simp

theorem mid_v5 : StableHlo.after (((hostOps0 (F := Ideal)).drop 2).take 9) σ (Proc.devRef .tc main_v5)
    = truncf (F := Ideal) .bf16 (rest (σ (Proc.devRef .tc main_v1))) bitsLt_bf16_f32 := by
  simp only [hostOps0, List.drop_succ_cons, List.drop_zero, List.take_succ_cons, List.take_zero]
  after_results_simp
  rfl

theorem mid_v8 : StableHlo.after (((hostOps0 (F := Ideal)).drop 2).take 9) σ (Proc.devRef .tc main_v8)
    = truncf (F := Ideal) .bf16 (rest (rest (σ (Proc.devRef .tc main_v1)))) bitsLt_bf16_f32 := by
  simp only [hostOps0, List.drop_succ_cons, List.drop_zero, List.take_succ_cons, List.take_zero]
  after_results_simp
  rfl

/-- Three parts side by side, with zeros behind. -/
def lanes (x y z : FVec Ideal S8x4096x16 .bf16) : FVec Ideal S8x4096x128 .bf16 :=
  pad S8x4096x128 ![0, 0, 0] ![0, 0, 80] ![0, 0, 0]
    (concatenate S8x4096x48 2 [⟨S8x4096x16, x⟩, ⟨S8x4096x16, y⟩, ⟨S8x4096x16, z⟩] concatenates_S8x4096x16_S8x4096x16_S8x4096x16_S8x4096x48_d2)
    (constant S_ .bf16 0x0000#16) pads_S8x4096x48_S8x4096x128_000_000_0800 h_S_

theorem tail_v12 : StableHlo.after ((hostOps0 (F := Ideal)).drop 11) σ (Proc.devRef .tc main_v12)
    = lanes (σ (Proc.devRef .tc main_v2)) (σ (Proc.devRef .tc main_v5)) (σ (Proc.devRef .tc main_v8)) := by
  simp only [hostOps0, List.drop_succ_cons, List.drop_zero]
  after_results_simp
  rfl

theorem host_v12 : StableHlo.after (hostOps0 (F := Ideal)) σ (Proc.devRef .tc main_v12) = aug (σ (Proc.devRef .tc main_arg5)) := by
  rw [after_split 11, tail_v12]
  rw [after_split 2 ((hostOps0 (F := Ideal)).take 11) σ]
  rw [show ((hostOps0 (F := Ideal)).take 11).drop 2 = ((hostOps0 (F := Ideal)).drop 2).take 9 from rfl,
    show ((hostOps0 (F := Ideal)).take 11).take 2 = (hostOps0 (F := Ideal)).take 2 from rfl, mid_v2, mid_v5, mid_v8, head_v1]
  rfl

end Cert.Kernel5Ideal.Fox
-- ==== Proof.FoxValue.lean ====
/-
  The forgetting attention call's result array, read at one position and one feature.
-/
module

public import proofs.«01_k».proof.Proof.FoxOut
public import proofs.«01_k».proof.Proof.FoxSpec
public import proofs.«01_k».proof.Proof.FoxHost
public import Idealize.ShloMosaic.Lib.Claim

@[expose] public section

set_option maxRecDepth 16384

noncomputable section

namespace Cert.Kernel5Ideal.Fox

open Cert.Kernel5Ideal Cert.Kernel5Ideal.Gen Idealize.ShloMosaic Idealize.ShloMosaic.TcCoe Idealize.SL.Sem Rows
open Idealize.ShloMosaic.Pipeline (Dat)

variable (m : (ℓ : Loc nD τ sig) → Buf (Elt Ideal) ℓ) (c : Dev nD)

theorem crd : ∀ t : Fin cfg0.N, ((grid0.coords t) 1).val = t.val % 8 :=
  (by decide +kernel : ∀ t : Fin grid0.N, _)

theorem idx : ∀ t : Fin cfg0.N, win0_0.index t = ![t.val / 8, t.val % 8, 0] ∧ win0_1.index t = ![0, 0] ∧ win0_2.index t = ![0, 0] ∧
    win0_3.index t = ![t.val / 8, 0, 0] ∧ win0_4.index t = ![t.val / 8, 0, 0] ∧ win0_5.index t = ![t.val / 8, 0, 0] ∧
    win0_6.index t = ![t.val / 8, 0, 0] ∧ win0_7.index t = ![0, 0] ∧ win0_8.index t = ![t.val / 8, t.val % 8, 0] ∧ t.val < 64 :=
  (by decide +kernel : ∀ t : Fin grid0.N, _)

theorem b0_at (t : Fin cfg0.N) (r : Fin 512) (d : Fin 1024) (b : Fin 8) (s : Fin 4096) (hb : b.val = t.val / 8)
    (hs : s.val = 512 * (t.val % 8) + r.val) :
    (iblk m c 0 t : Vec Ideal S1x512x1024 .f32) (ix3 0 r d) = m ((c : Thread nD τ).loc main_arg0) (ix3 b s d) := by
  blk_simp [iblk]
  entry_read
  pointwise
  blk_ext [idx t]

theorem b1_at (t : Fin cfg0.N) (k : Fin 1024) :
    (iblk m c 1 t : Vec Ideal S1x1024 .f32) (ix2 0 k) = m ((c : Thread nD τ).loc main_arg1) (ix1 k) := by
  blk_simp [iblk]
  entry_read
  pointwise
  blk_ext [idx t]

theorem b2_at (t : Fin cfg0.N) (k j : Fin 1024) :
    (iblk m c 2 t : Vec Ideal S1024x1024 .bf16) (ix2 k j) = m ((c : Thread nD τ).loc main_arg2) (ix2 k j) := by
  blk_simp [iblk]
  entry_read
  pointwise
  blk_ext [idx t]

theorem b3_at (t : Fin cfg0.N) (T : Fin 4096) (d : Fin 1024) (b : Fin 8) (hb : b.val = t.val / 8) :
    (iblk m c 3 t : Vec Ideal S1x4096x1024 .bf16) (ix3 0 T d) = m ((c : Thread nD τ).loc main_arg3) (ix3 b T d) := by
  blk_simp [iblk]
  entry_read
  pointwise
  blk_ext [idx t]

theorem b4_at (t : Fin cfg0.N) (T : Fin 4096) (d : Fin 1024) (b : Fin 8) (hb : b.val = t.val / 8) :
    (iblk m c 4 t : Vec Ideal S1x1024x4096 .bf16) (ix3 0 d T) = m ((c : Thread nD τ).loc main_arg4) (ix3 b T d) := by
  blk_simp [iblk]
  entry_read
  pointwise
  blk_ext [idx t]

theorem V12 : V m c main_v12 = aug (m ((c : Thread nD τ).loc main_arg5)) :=
  host_v12 fun b => m (c, b)

theorem b5_at (t : Fin cfg0.N) (T : Fin 4096) (x : Fin 128) (b : Fin 8) (hb : b.val = t.val / 8) :
    (iblk m c 5 t : Vec Ideal S1x4096x128 .bf16) (ix3 0 T x) = aug (m ((c : Thread nD τ).loc main_arg5)) (ix3 b T x) := by
  rw [← V12]
  blk_simp [iblk]
  refine congrArg _ ?_
  blk_ext [idx t]

theorem b6_at (t : Fin cfg0.N) (T : Fin 4096) (a : Fin 16) (b : Fin 8) (hb : b.val = t.val / 8) :
    (iblk m c 6 t : Vec Ideal S1x16x4096 .f32) (ix3 0 a T) = m ((c : Thread nD τ).loc main_arg5) (ix3 b a T) := by
  blk_simp [iblk]
  entry_read
  pointwise
  blk_ext [idx t]

theorem b7_at (t : Fin cfg0.N) (k j : Fin 1024) :
    (iblk m c 7 t : Vec Ideal S1024x1024 .bf16) (ix2 k j) = m ((c : Thread nD τ).loc main_arg6) (ix2 k j) := by
  blk_simp [iblk]
  entry_read
  pointwise
  blk_ext [idx t]

/-- The scaled query tile, read at one feature and row. -/
theorem qt_at (x0 : Vec Ideal S1x512x1024 .f32) (x1 : Vec Ideal S1x1024 .f32) (x2 : Vec Ideal S1024x1024 .bf16) (f : Fin 1024) (r : Fin 512) :
    qt x0 x1 x2 (ix2 f r) = vecMat (rms (fun k => x0 (ix3 0 r k)) fun k => x1 (ix2 0 k)) (fun k j => x2 (ix2 k j)) f * Ideal.ofBits .f32 0x3E000000#32 := by
  pointwise [qt, k0_pay115, k0_pay114, rms, vecMat]

/-- One query's scores, their lanes folded into the decay's difference. -/
theorem logit_eq (x3 : Vec Ideal S1x4096x1024 .bf16) (x5 : Vec Ideal S1x4096x128 .bf16) (x6 : Vec Ideal S1x16x4096 .f32) (q : Vec Ideal S1024x512 .bf16)
    (h : FVec Ideal S8x4096x1024 .f32) (g : FVec Ideal S1024 .f32) (wq : FVec Ideal S1024x1024 .f32) (k : FVec Ideal S8x4096x1024 .f32)
    (C : FVec Ideal S8x16x4096 .f32) (hC : ∀ i, ∃ r : ℝ, C i = r) (b : Fin 8) (s : Fin 4096) (p : Fin 8) (r : Fin 512) (hs : s.val = 512 * p.val + r.val)
    (h3 : ∀ T d, x3 (ix3 0 T d) = k (ix3 b T d)) (h5 : ∀ T x, x5 (ix3 0 T x) = aug C (ix3 b T x)) (h6 : ∀ T a, x6 (ix3 0 a T) = C (ix3 b a T))
    (hq : ∀ f, q (ix2 f r) = qrow h g wq b s f) (a : Fin 16) (t : Fin 4096) : lg x3 x5 x6 q p a r t = fscore h g wq k C b s a t := by
  unfold lg fscore rawH
  by_cases ht : t.val ≤ s.val
  · rw [if_pos (show t.val ≤ 512 * p.val + r.val from hs ▸ ht), if_pos ht, Finset.sum_congr rfl fun k _ => h5 t _, aug_sum C hC b t a, h6,
      show (⟨512 * p.val + r.val, by omega⟩ : Fin 4096) = s from Fin.ext hs.symm, add_assoc, add_comm (-C (ix3 b a t)), ← sub_eq_add_neg]
    exact congrArg₂ (· + ·) (Finset.sum_congr rfl fun e _ => congrArg₂ (· * ·) (h3 t _) (hq _)) rfl
  · rw [if_neg (show ¬t.val ≤ 512 * p.val + r.val from hs ▸ ht), if_neg ht]

section Finite

variable (hg : ∀ i, ∃ r : ℝ, m ((c : Thread nD τ).loc main_arg1) i = (r : EReal))
  (hw : ∀ i, ∃ r : ℝ, m ((c : Thread nD τ).loc main_arg2) i = (r : EReal)) (hk : ∀ i, ∃ r : ℝ, m ((c : Thread nD τ).loc main_arg3) i = (r : EReal))
  (hC : ∀ i, ∃ r : ℝ, m ((c : Thread nD τ).loc main_arg5) i = (r : EReal))

/-- The query tile of a grid point holds the queries of the positions its rows stand for. -/
theorem q_eq (t : Fin cfg0.N) (r : Fin 512) (f : Fin 1024) (b : Fin 8) (s : Fin 4096) (hb : b.val = t.val / 8)
    (hs : s.val = 512 * (t.val % 8) + r.val) :
    qt (iblk m c 0 t) (iblk m c 1 t) (iblk m c 2 t) (ix2 f r)
      = qrow (m ((c : Thread nD τ).loc main_arg0)) (m ((c : Thread nD τ).loc main_arg1)) (m ((c : Thread nD τ).loc main_arg2)) b s f := by
  refine (qt_at _ _ _ f r).trans ?_
  unfold qrow
  rw [funext fun k => b0_at m c t r k b s hb hs, funext fun k => b1_at m c t k, funext fun k => funext fun j => b2_at m c t k j]

include hg hw in
theorem q_real (t : Fin cfg0.N) (i : S1024x512.Idx) : ∃ r : ℝ, qt (iblk m c 0 t) (iblk m c 1 t) (iblk m c 2 t) i = r := by
  have ht : t.val < 64 := (idx t).2.2.2.2.2.2.2.2.2
  idx_vars i
  obtain ⟨r, hr⟩ := qrow_real _ _ _ hg hw ⟨t.val / 8, by omega⟩ ⟨512 * (t.val % 8) + i1.val, by omega⟩ i0
  exact ⟨r, (q_eq m c t i1 i0 _ _ rfl rfl).trans hr⟩

/-- Row `r` of a grid point's block, from the blocks the point reads. -/
def orow (x0 : Vec Ideal S1x512x1024 .f32) (x1 : Vec Ideal S1x1024 .f32) (x2 : Vec Ideal S1024x1024 .bf16) (x3 : Vec Ideal S1x4096x1024 .bf16)
    (x4 : Vec Ideal S1x1024x4096 .bf16) (x5 : Vec Ideal S1x4096x128 .bf16) (x6 : Vec Ideal S1x16x4096 .f32) (x7 : Vec Ideal S1024x1024 .bf16) (p : Fin 8)
    (r : Fin 512) (d : Fin 1024) : EReal :=
  x0 (ix3 0 r d) + ∑ f : Fin 1024, ot x3 x4 x5 x6 (qt x0 x1 x2) p f r * x7 (ix2 f d)

include hC in
/-- Row `r` of the block written at point `t` is the result at the position the row stands for. -/
theorem row_at (t : Fin cfg0.N) (r : Fin 512) (d : Fin 1024) (b : Fin 8) (s : Fin 4096) (hb : b.val = t.val / 8)
    (hs : s.val = 512 * (t.val % 8) + r.val) :
    orow (iblk m c 0 t) (iblk m c 1 t) (iblk m c 2 t) (iblk m c 3 t) (iblk m c 4 t) (iblk m c 5 t) (iblk m c 6 t) (iblk m c 7 t) (bq (grid0.coords t)) r d
      = fresult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b s d := by
  unfold orow fresult
  refine congrArg₂ (· + ·) (b0_at m c t r d b s hb hs) (Finset.sum_congr rfl fun f _ => congrArg₂ (· * ·) ?_ (b7_at m c t f d))
  unfold ot fattn
  refine congrArg₂ Soft.mean (funext fun T => ?_) (funext fun T => b4_at m c t T f b hb)
  exact logit_eq _ _ _ _ _ _ _ _ _ hC b s _ r (by rw [show (bq (grid0.coords t)).val = t.val % 8 from crd t]; exact hs)
    (fun T d => b3_at m c t T d b hb) (fun T x => b5_at m c t T x b hb) (fun T a => b6_at m c t T a b hb)
    (fun f => q_eq m c t r f b s hb hs) _ T

include hg hw hk hC

theorem raws_real (t : Fin cfg0.N) (p : Fin 8) (q : Fin 1024) (T : ℕ) :
    ∃ r : ℝ, raw (iblk m c 3 t) (iblk m c 5 t) p (RR p (qt (iblk m c 0 t) (iblk m c 1 t) (iblk m c 2 t))) q T = r := by
  have ht : t.val < 64 := (idx t).2.2.2.2.2.2.2.2.2
  refine raw_real _ _ _ (fun i => ?_) (fun i => ?_) (q_real m c hg hw t) p q T
  · idx_vars i
    refine Exists.imp (fun r hr => Eq.trans ?_ hr) (hk (ix3 ⟨t.val / 8, by omega⟩ i1 i2))
    rw [← b3_at m c t i1 i2 ⟨t.val / 8, by omega⟩ rfl]
    refine congrArg _ ?_
    blk_ext
  · idx_vars i
    refine Exists.imp (fun r hr => Eq.trans ?_ hr) (aug_real _ hC ⟨t.val / 8, by omega⟩ i1 i2)
    rw [← b5_at m c t i1 i2 ⟨t.val / 8, by omega⟩ rfl]
    refine congrArg _ ?_
    blk_ext

theorem decay_real (t : Fin cfg0.N) (p : Fin 8) (q : Fin 1024) : ∃ r : ℝ, CC (bq (grid0.coords t)) p (iblk m c 6 t) (ix2 0 q) = r := by
  have ht : t.val < 64 := (idx t).2.2.2.2.2.2.2.2.2
  refine CC_real _ (fun i => ?_) _ p q
  idx_vars i
  refine Exists.imp (fun r hr => Eq.trans ?_ hr) (hC (ix3 ⟨t.val / 8, by omega⟩ i1 i2))
  rw [← b6_at m c t i2 i1 ⟨t.val / 8, by omega⟩ rfl]
  refine congrArg _ ?_
  blk_ext

/-- The result array after the run is forgetting attention, projected and added to the residual. -/
theorem final : (dats m 0 c).arrAt 8 (cfgs 0).N = fun i : S8x4096x1024.Idx =>
    fresult (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (i 0) (i 1) (i 2) := by
  refine (dats m 0 c).arrAt_eq_of_covers 8 _ (by decide +kernel) fun t _ y => ?_
  have h2 : ((((cfg0.win 8).blk t).view.emb y) 2 : Fin 1024) = (y 2 : Fin 1024) := by
    refine Fin.ext ?_
    blk_simp [idx t]
  have h1 : ((((cfg0.win 8).blk t).view.emb y) 1 : Fin 4096).val = 512 * (t.val % 8) + (y 1 : Fin 512).val := by
    blk_simp [idx t]
    omega
  have h0 : ((((cfg0.win 8).blk t).view.emb y) 0 : Fin 8).val = t.val / 8 := by
    blk_simp [idx t]
  have ht : t.val < 64 := (idx t).2.2.2.2.2.2.2.2.2
  refine Eq.trans ?_ (congrArg (fresult _ _ _ _ _ _ _ _ _) h2.symm)
  blk_simp
  rw [after0_8]
  unfold outsAt0
  refine Eq.trans (congrArg (out0_A_8 (F := Ideal) _ _ _ _ _ _ _ _ _ _ _ _ _ _ _ _ _ _ _ _ _ _ _ _ _ _ _ _ _ _ _ _ _ _ _ _ _ _ _ _ _ _) (show _ = ix3 0 (y 1 : Fin 512) (y 2 : Fin 1024) from ?_)) ((out_at _ _ _ _ _ _ _ _ _ _ _ _ _ _ _ _ _ _ _ _ _ _ _ _ _ _ _ _ _ _ _ _ _ _ _ _ _ _ _ _ _ _
    (raws_real m c hg hw hk hC t) (fun p q => decay_real m c hg hw hk hC t p q) (y 1) (y 2)).trans (row_at m c hC t (y 1) (y 2) _ _ h0 h1))
  blk_ext

end Finite

end Cert.Kernel5Ideal.Fox
-- ==== Proof.FoxRef.lean ====
/-
  The reference of the forgetting attention call, read at one batch, position and feature.
-/
module

public import proofs.«01_k».proof.Proof.FoxSpec
public import proofs.«01_k».proof.Proof.Gen.Reference5Ideal.Read
public import proofs.«01_k».proof.Proof.Gen.Pre_finite_streams
public import Idealize.ShloMosaic.Lib.Claim
public import Idealize.ShloMosaic.Lib.ReduceAll

@[expose] public section

set_option maxRecDepth 16384

noncomputable section

namespace Cert.Reference5Ideal.Fox

open Cert.Reference5Ideal Cert.Reference5Ideal.Read Idealize.ShloMosaic Idealize.ShloMosaic.TcCoe Idealize.SL.Sem Rows

open Cert.Kernel5Ideal.Fox (qrow fscore fattn fresult scale_real weights)

theorem int_of : ∀ x : Fin 4096, (BitVec.ofNat 32 x.val).toInt = (x.val : ℤ) := by
  decide +kernel

theorem not_after (s t : Fin 4096) : IntOp.cmpi CmpIPredicate.sge (BitVec.ofNat 32 s.val) (BitVec.ofNat 32 t.val)
    = BitVec.ofBool (decide (t.val ≤ s.val)) := by
  show BitVec.ofBool (decide ((BitVec.ofNat 32 t.val).toInt ≤ (BitVec.ofNat 32 s.val).toInt)) = _
  rw [int_of, int_of]
  exact congrArg BitVec.ofBool (decide_eq_decide.2 Int.ofNat_le)

variable (x0 : FVec Ideal S8x4096x1024 .f32) (x1 : FVec Ideal S1024 .f32) (x2 : FVec Ideal S1024x1024 .f32)
  (x3 x4 : FVec Ideal S8x4096x1024 .f32) (x5 : FVec Ideal S8x16x4096 .f32) (x6 : FVec Ideal S1024x1024 .f32)

theorem v12_at (b : Fin 8) (s : Fin 4096) (d : Fin 1024) : val_main_v12 (F := Ideal) x0 x1 (ix3 b s d)
    = rms (fun k => x0 (ix3 b s k)) (fun k => x1 (ix1 k)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v13_at (b : Fin 8) (s : Fin 4096) (j : Fin 1024) : val_main_v13 (F := Ideal) x0 x1 x2 (ix3 b s j)
    = vecMat (rms (fun k => x0 (ix3 b s k)) fun k => x1 (ix1 k)) (fun k j => x2 (ix2 k j)) j := by
  have e : (fun k => val_main_v12 (F := Ideal) x0 x1 (ix3 b s k)) = rms (fun k => x0 (ix3 b s k)) fun k => x1 (ix1 k) :=
    funext (v12_at x0 x1 b s)
  rw [← e]
  pointwise [val_main_v13, vecMat]

theorem v14_at (b : Fin 8) (s : Fin 4096) (a : Fin 16) (e : Fin 64) : val_main_v14 (F := Ideal) x0 x1 x2 (ix4 b s a e)
    = val_main_v13 (F := Ideal) x0 x1 x2 (ix3 b s ⟨64 * a.val + e.val, by omega⟩) := by
  pointwise [val_main_v14]
  blk_ext

theorem v15_at (b : Fin 8) (s : Fin 4096) (a : Fin 16) (e : Fin 64) : val_main_v15 (F := Ideal) x3 (ix4 b s a e)
    = x3 (ix3 b s ⟨64 * a.val + e.val, by omega⟩) := by
  pointwise [val_main_v15]
  blk_ext

theorem v16_at (b : Fin 8) (s : Fin 4096) (a : Fin 16) (e : Fin 64) : val_main_v16 (F := Ideal) x4 (ix4 b s a e)
    = x4 (ix3 b s ⟨64 * a.val + e.val, by omega⟩) := by
  pointwise [val_main_v16]
  blk_ext

theorem v17_at (b : Fin 8) (a : Fin 16) (s t : Fin 4096) : val_main_v17 (F := Ideal) x0 x1 x2 x3 (ix4 b a s t)
    = ∑ e : Fin 64, val_main_v13 (F := Ideal) x0 x1 x2 (ix3 b s ⟨64 * a.val + e.val, by omega⟩) * x3 (ix3 b t ⟨64 * a.val + e.val, by omega⟩) := by
  pointwise [val_main_v17]
  exact Finset.sum_congr rfl fun e _ => congrArg₂ (· * ·) (v14_at x0 x1 x2 b s a e) (v15_at x3 b t a e)

theorem v31_at (s t : Fin 4096) : val_main_v31 (F := Ideal) (ix2 s t) = BitVec.ofBool (decide (t.val ≤ s.val)) := by
  pointwise [val_main_v31, val_main_v30, val_main_v29, val_main_v28, val_main_v27, val_main_v26, val_main_v25]
  exact not_after s t

/-- The scores. -/
theorem v33_at (b : Fin 8) (a : Fin 16) (s t : Fin 4096) :
    val_main_v33 (F := Ideal) x0 x1 x2 x3 x5 (ix4 b a s t) = fscore x0 x1 x2 x3 x5 b s a t := by
  obtain ⟨r, hr, er⟩ := scale_real
  pointwise [val_main_v33, val_main_call0_v1, val_main_call0_v2, val_main_call0_v0, val_main_cst_3, val_main_v32, val_main_v24, val_main_v23,
    val_main_v22, val_main_v21, val_main_v20, val_main_v19, val_main_v18, val_main_cst_2]
  rw [v31_at, Cert.Kernel5Ideal.Fox.select_ofBool, v17_at]
  unfold fscore
  by_cases h : t.val ≤ s.val
  · rw [if_pos h, if_pos h, Soft.sum_mul _ _ _ (er ▸ EReal.coe_nonneg.2 hr.le) (er ▸ EReal.coe_ne_top r)]
    refine congrArg₂ (· + ·) (Finset.sum_congr rfl fun e _ => ?_) rfl
    rw [v13_at]
    unfold qrow
    rw [mul_right_comm, mul_comm]
  · rw [if_neg h, if_neg h]
    exact Cert.Kernel5Ideal.Fox.neg_inf

theorem v34_at (b : Fin 8) (a : Fin 16) (s : Fin 4096) :
    val_main_v34 (F := Ideal) x0 x1 x2 x3 x5 (ix3 b a s) = Soft.top (fscore x0 x1 x2 x3 x5 b s a) := by
  pointwise [val_main_v34, val_main_cst_4]
  unfold Soft.top
  rw [Cert.Kernel5Ideal.Fox.neg_inf]
  exact congrArg (fun g => Finset.fold max (⊥ : EReal) g Finset.univ) (funext fun t => v33_at x0 x1 x2 x3 x5 b a s t)

theorem v35_at (i : S8x16x4096.Idx) : val_main_v35 (F := Ideal) i = (⊥ : EReal) := by
  rw [val_main_v35_apply, val_main_cst_5_apply]
  exact Cert.Kernel5Ideal.Fox.neg_inf

theorem v36_at (b : Fin 8) (a : Fin 16) (s : Fin 4096) :
    val_main_v36 (F := Ideal) x0 x1 x2 x3 x5 (ix3 b a s) = Soft.top (fscore x0 x1 x2 x3 x5 b s a) := by
  rw [val_main_v36_apply, v35_at, v34_at x0 x1 x2 x3 x5 b a s]
  exact max_bot_left _

theorem v40_at (b : Fin 8) (a : Fin 16) (s t : Fin 4096) :
    val_main_v40 (F := Ideal) x0 x1 x2 x3 x5 (ix4 b a s t) = Soft.wt (fscore x0 x1 x2 x3 x5 b s a) t := by
  pointwise [val_main_v40, val_main_v39, val_main_v38, val_main_v37]
  rw [v33_at x0 x1 x2 x3 x5 b a s t, v36_at x0 x1 x2 x3 x5 b a s]
  rfl

theorem v44_at (b : Fin 8) (a : Fin 16) (s t : Fin 4096) :
    val_main_v44 (F := Ideal) x0 x1 x2 x3 x5 (ix4 b a s t)
      = Ideal.div (Soft.wt (fscore x0 x1 x2 x3 x5 b s a) t) (∑ k, Soft.wt (fscore x0 x1 x2 x3 x5 b s a) k) := by
  pointwise [val_main_v44, val_main_v43, val_main_v42, val_main_v41, val_main_cst_6]
  rw [v40_at x0 x1 x2 x3 x5 b a s t, Finset.sum_congr rfl fun k _ => v40_at x0 x1 x2 x3 x5 b a s k]

/-- The attention output: the values weighted, each weight divided by the weights' sum. -/
theorem v47_at (b : Fin 8) (s : Fin 4096) (f : Fin 1024)
    (h : ∑ k, Soft.wt (fscore x0 x1 x2 x3 x5 b s ⟨f.val / 64, by omega⟩) k ≠ 0) :
    val_main_v47 (F := Ideal) x0 x1 x2 x3 x4 x5 (ix3 b s f) = fattn x0 x1 x2 x3 x4 x5 b s f := by
  unfold fattn
  rw [Soft.mean_eq _ _ h]
  pointwise [val_main_v47, val_main_v46, val_main_v45]
  refine Finset.sum_congr rfl fun t _ => ?_
  refine (mul_comm _ _).trans (congrArg₂ (· * ·) ?_ ?_)
  · refine Eq.trans (congrArg _ ?_) (v44_at x0 x1 x2 x3 x5 b ⟨f.val / 64, by omega⟩ s t)
    blk_ext
  · refine Eq.trans (congrArg _ ?_) ((v16_at x4 b t ⟨f.val / 64, by omega⟩ ⟨f.val % 64, by omega⟩).trans (congrArg x4 ?_))
    · blk_ext
    · blk_ext

section Finite

variable (hg : ∀ i, ∃ r : ℝ, x1 i = r) (hw : ∀ i, ∃ r : ℝ, x2 i = r) (hk : ∀ i, ∃ r : ℝ, x3 i = r)
  (hC : ∀ i, ∃ r : ℝ, x5 i = r)
include hg hw hk hC

/-- The reference's result. -/
theorem v49_at (i : S8x4096x1024.Idx) :
    val_main_v49 (F := Ideal) x0 x1 x2 x3 x4 x5 x6 i = fresult x0 x1 x2 x3 x4 x5 x6 (i 0) (i 1) (i 2) := by
  idx_vars i
  pointwise [val_main_v49, val_main_v48]
  unfold fresult
  refine congrArg₂ (· + ·) rfl (Finset.sum_congr rfl fun f _ => ?_)
  rw [v47_at x0 x1 x2 x3 x4 x5 _ _ _ (weights x0 x1 x2 x3 x5 hg hw hk hC _ _ _)]

end Finite

/-- A value whose absolute value compares below infinity is a number. -/
theorem real_of_lt (x y : EReal) (hy : y = ⊤) (h : Ideal.cmp .olt (max x (-x)) y = 1#1) : ∃ r : ℝ, x = r := by
  subst hy
  induction x with
  | bot => simp [Ideal.cmp] at h
  | top => simp [Ideal.cmp] at h
  | coe r => exact ⟨r, rfl⟩

theorem inf_f32 : (Ideal.ofBits FTy.f32 0x7F800000#32 : EReal) = ⊤ := by
  simp [Ideal.ofBits, Ideal.ieee]

/-- What the precondition says: the gain, the query weights, the keys and the decay are numbers. -/
theorem real_of_finite (h : Cert.Pre_finite_streams.fn (F := Ideal) x0 x1 x2 x3 x4 x5 x6 = fun _ => 1#1) :
    (∀ i, ∃ r : ℝ, x1 i = r) ∧ (∀ i, ∃ r : ℝ, x2 i = r) ∧ (∀ i, ∃ r : ℝ, x3 i = r) ∧ ∀ i, ∃ r : ℝ, x5 i = r := by
  have h0 := congrFun h ix0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_lt _ _ inf_f32 (Host.reduce_andi_all _ _ _ _ _ h1 i),
    fun i => real_of_lt _ _ inf_f32 (Host.reduce_andi_all _ _ _ _ _ h2 i),
    fun i => real_of_lt _ _ inf_f32 (Host.reduce_andi_all _ _ _ _ _ h3 i),
    fun i => real_of_lt _ _ inf_f32 (Host.reduce_andi_all _ _ _ _ _ h4 i)⟩

end Cert.Reference5Ideal.Fox
-- ==== Proof.lean ====
/-
  The claims of `Cert.Claim`: the frames of the programs, the named constant, and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.AttnValue
public import proofs.«01_k».proof.Proof.AttnRef
public import proofs.«01_k».proof.Proof.Ffn2Value
public import proofs.«01_k».proof.Proof.Ffn2Ref
public import proofs.«01_k».proof.Proof.Ffn3Value
public import proofs.«01_k».proof.Proof.Ffn3Ref
public import proofs.«01_k».proof.Proof.QkvValue
public import proofs.«01_k».proof.Proof.QkvRef
public import proofs.«01_k».proof.Proof.FoxValue
public import proofs.«01_k».proof.Proof.FoxRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_streams
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel terminates, leaves its arguments as they were, and ends with every semaphore at zero. -/
theorem quiescent_P : Cert.quiescent_Kernel := fun m g h => Cert.Kernel.Gen.frame m g

/-- The same of the kernel over exact arithmetic. -/
theorem quiescent_PI : Cert.quiescent_KernelIdeal := fun m g h => Cert.KernelIdeal.Gen.frame m g

/-- The same of the reference over exact arithmetic. -/
theorem quiescent_RI : Cert.quiescent_ReferenceIdeal := fun m g h =>
  (θ_run Cert.ReferenceIdeal.defs _ _).mono (fun r h => ⟨fun c => (h c).2, sem_eq_zero_of_no_sems (by decide) r.2⟩)
    (Cert.ReferenceIdeal.Value.run m g)

/-- The mask's constant stands for minus infinity by the naming rule. -/
theorem mask : IdealRules.named_const.Statement Cert.KernelIdeal.κ "mask" .f32 0xF149F2CA#32 ⊥ :=
  IdealRules.named_const.statement Cert.KernelIdeal.κ "mask" .f32 0xF149F2CA#32 ⊥ rfl

theorem preserves : Cert.preserves_Kernel_KernelIdeal := mask

/-- Over exact arithmetic, with finite queries, keys and bias, the kernel and the reference return the same array. -/
theorem algebraic : Cert.algebraic_KernelIdeal_ReferenceIdeal_pre_finite := by
  pair_intro
  · run_from Cert.KernelIdeal.Gen.run_main m g
  · run_from Cert.ReferenceIdeal.Value.run m' g'
    rw [Cert.ReferenceIdeal.Read.val_main_v80_eq m' c, Cert.KernelIdeal.Attn.final m c]
    obtain ⟨h0, h1, h2, h3, h4, h5⟩ := hagree c
    rw [h0, h1, h2, h3, h4, h5]
    obtain ⟨hq, hk, hb⟩ := Cert.ReferenceIdeal.Attn.real_of_finite _ _ _ _ _ _ (hpre c)
    exact funext fun i => Cert.ReferenceIdeal.Attn.v80_at _ _ _ _ _ _ hq hk hb i

/-! ## The feed-forward call -/

/-- The feed-forward call's kernel terminates, leaves its arguments as they were, and ends with every semaphore at zero. -/
theorem quiescent_P2 : Cert.quiescent_Kernel2 := fun m g h => Cert.Kernel2.Gen.frame m g

/-- The same of the kernel over exact arithmetic. -/
theorem quiescent_PI2 : Cert.quiescent_Kernel2Ideal := fun m g h => Cert.Kernel2Ideal.Gen.frame m g

/-- The same of the reference over exact arithmetic. -/
theorem quiescent_RI2 : Cert.quiescent_Reference2Ideal := fun m g h =>
  (θ_run Cert.Reference2Ideal.defs _ _).mono (fun r h => ⟨fun c => (h c).2, sem_eq_zero_of_no_sems (by decide) r.2⟩)
    (Cert.Reference2Ideal.Value.run m g)

/-- Over exact arithmetic the kernel and the reference return the same array. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v21_eq, Cert.Kernel2Ideal.Ffn.final m c]
    exact funext fun i => Cert.Reference2Ideal.Ffn.v21_at _ _ _ _ _ i

/-! ## The feed-forward call with the final norm -/

/-- The feed-forward call with the final norm's kernel terminates, leaves its arguments as they were, and ends with every semaphore at zero. -/
theorem quiescent_P3 : Cert.quiescent_Kernel3 := fun m g h => Cert.Kernel3.Gen.frame m g

/-- The same of the kernel over exact arithmetic. -/
theorem quiescent_PI3 : Cert.quiescent_Kernel3Ideal := fun m g h => Cert.Kernel3Ideal.Gen.frame m g

/-- The same of the reference over exact arithmetic. -/
theorem quiescent_RI3 : Cert.quiescent_Reference3Ideal := fun m g h =>
  (θ_run Cert.Reference3Ideal.defs _ _).mono (fun r h => ⟨fun c => (h c).2, sem_eq_zero_of_no_sems (by decide) r.2⟩)
    (Cert.Reference3Ideal.Value.run m g)

/-- Over exact arithmetic the kernel and the reference return the same array. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v34_eq m' c, Cert.Kernel3Ideal.Ffn.final m c]
    obtain ⟨h0, h1, h2, h3, h4, h5⟩ := hagree c
    rw [h0, h1, h2, h3, h4, h5]
    exact funext fun i => Cert.Reference3Ideal.Ffn.v34_at _ _ _ _ _ _ i

/-! ## The projection call -/

/-- The projection call's kernel terminates, leaves its arguments as they were, and ends with every semaphore at zero. -/
theorem quiescent_P4 : Cert.quiescent_Kernel4 := fun m g h => Cert.Kernel4.Gen.frame m g

/-- The same of the kernel over exact arithmetic. -/
theorem quiescent_PI4 : Cert.quiescent_Kernel4Ideal := fun m g h => Cert.Kernel4Ideal.Gen.frame m g

/-- The same of the reference over exact arithmetic. -/
theorem quiescent_RI4 : Cert.quiescent_Reference4Ideal := fun m g h =>
  (θ_run Cert.Reference4Ideal.defs _ _).mono (fun r h => ⟨fun c => (h c).2.2.2, sem_eq_zero_of_no_sems (by decide) r.2⟩)
    (Cert.Reference4Ideal.Value.run m g)

/-! ## The forgetting attention call -/

/-- The forgetting attention call's kernel terminates, leaves its arguments as they were, and ends with every semaphore at zero. -/
theorem quiescent_P5 : Cert.quiescent_Kernel5 := fun m g h => Cert.Kernel5.Gen.frame m g

/-- The same of the kernel over exact arithmetic. -/
theorem quiescent_PI5 : Cert.quiescent_Kernel5Ideal := fun m g h => Cert.Kernel5Ideal.Gen.frame m g

/-- The same of the reference over exact arithmetic. -/
theorem quiescent_RI5 : Cert.quiescent_Reference5Ideal := fun m g h =>
  (θ_run Cert.Reference5Ideal.defs _ _).mono (fun r h => ⟨fun c => (h c).2, sem_eq_zero_of_no_sems (by decide) r.2⟩)
    (Cert.Reference5Ideal.Value.run m g)

/-- The mask's constant stands for minus infinity by the naming rule. -/
theorem preserves5 : Cert.preserves_Kernel5_Kernel5Ideal :=
  IdealRules.named_const.statement Cert.Kernel5Ideal.κ "mask" .f32 0xF149F2CA#32 ⊥ rfl

/-- Over exact arithmetic, with finite gain, query weights, keys and decay, the kernel and the reference return the same array. -/
theorem algebraic5 : Cert.algebraic_Kernel5Ideal_Reference5Ideal_pre_finite_streams := by
  pair_intro
  · run_from Cert.Kernel5Ideal.Gen.run_main m g
  · run_from Cert.Reference5Ideal.Value.run m' g'
    obtain ⟨hg, hw, hk, hC⟩ := Cert.Reference5Ideal.Fox.real_of_finite _ _ _ _ _ _ _ (hpre c)
    rw [Cert.Reference5Ideal.Read.val_main_v49_eq m' c, Cert.Kernel5Ideal.Fox.final m c hg hw hk hC]
    obtain ⟨h0, h1, h2, h3, h4, h5, h6⟩ := hagree c
    rw [h0, h1, h2, h3, h4, h5, h6]
    exact funext fun i => Cert.Reference5Ideal.Fox.v49_at _ _ _ _ _ _ _ hg hw hk hC i

/-- Over exact arithmetic the kernel and the reference return the same queries, keys and values. -/
theorem algebraic4 : Cert.algebraic_Kernel4Ideal_Reference4Ideal := by
  pair_intro
  · run_from Cert.Kernel4Ideal.Gen.run_main m g
    · exact Cert.Kernel4Ideal.Gen.W_main_arg1 m _ c
    · exact Cert.Kernel4Ideal.Gen.W_main_arg2 m _ c
  · run_from Cert.Reference4Ideal.Value.run m' g'
    · rw [Cert.Reference4Ideal.Read.val_main_v18_eq, Cert.Kernel4Ideal.Qkv.tail_3 m c]
      exact funext fun i => by idx_vars i; exact Cert.Reference4Ideal.Qkv.v18_at _ _ _ i0 i1 i2
    · rw [Cert.Reference4Ideal.Read.val_main_v15_eq, Cert.Kernel4Ideal.Qkv.tail_4 m c]
      exact funext fun i => by idx_vars i; exact Cert.Reference4Ideal.Qkv.v15_at _ _ _ i0 i1 i2
    · rw [Cert.Reference4Ideal.Read.val_main_v16_eq, Cert.Kernel4Ideal.Qkv.tail_5 m c]
      exact funext fun i => by idx_vars i; exact Cert.Reference4Ideal.Qkv.v16_at _ _ _ i0 i1 i2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite_streams.Gen.facts,
  quiescent_P, quiescent_PI, fun m g _ => quiescent_PI m g trivial, quiescent_RI, fun m g _ => quiescent_RI m g trivial,
  quiescent_P2, quiescent_PI2, quiescent_RI2, quiescent_P3, quiescent_PI3, quiescent_RI3,
  quiescent_P4, quiescent_PI4, quiescent_RI4,
  quiescent_P5, quiescent_PI5, fun m g _ => quiescent_PI5 m g trivial, quiescent_RI5, fun m g _ => quiescent_RI5 m g trivial,
  preserves, algebraic, trivial, algebraic2, trivial, algebraic3, trivial, algebraic4, preserves5, algebraic5⟩

end Cert.Proof

end
